-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7))).1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7))).2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7))).2.2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7))).2.2.2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7))).2.2.2.2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7))).2.2.2.2.2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7))).2.2.2.2.2.2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7))).2.2.2.2.2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7))).1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7))).2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7))).2.2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7))).2.2.2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7))).2.2.2.2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7))).2.2.2.2.2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7))).2.2.2.2.2.2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7))).2.2.2.2.2.2.2 = (fun _ => 1#1)

def Pre_HeadKernel (m : (ℓ : Loc Cert.HeadKernel.nD Cert.HeadKernel.τ Cert.HeadKernel.sig) → Buf (Elt Bits) ℓ) : Prop :=
  True

def Pre_HeadKernelIdeal (m : (ℓ : Loc Cert.HeadKernelIdeal.nD Cert.HeadKernelIdeal.τ Cert.HeadKernelIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5)
      ∧ r.2.mem ((c.tc : Thread Cert.AttnKernel.nD Cert.AttnKernel.τ).loc Cert.AttnKernel.main_arg6) = m ((c.tc : Thread Cert.AttnKernel.nD Cert.AttnKernel.τ).loc Cert.AttnKernel.main_arg6)
      ∧ r.2.mem ((c.tc : Thread Cert.AttnKernel.nD Cert.AttnKernel.τ).loc Cert.AttnKernel.main_arg7) = m ((c.tc : Thread Cert.AttnKernel.nD Cert.AttnKernel.τ).loc Cert.AttnKernel.main_arg7))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
      ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
      ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7))
      ∧ r.2.sem = fun _ => 0)

def quiescent_HeadKernel [hHeadKernel : Cert.HeadKernel.Facts] : Prop :=
  ∀ (m : (ℓ : Loc Cert.HeadKernel.nD Cert.HeadKernel.τ Cert.HeadKernel.sig) → Buf (Elt Bits) ℓ) (g : Dev Cert.HeadKernel.nD → PrngReg), Pre_HeadKernel m →
    θ_run (Cert.HeadKernel.defs (F := Bits)) (onTc (τ := Cert.HeadKernel.τ) (Cert.HeadKernel.main (F := Bits))) ⟨m, fun _ => 0, g⟩ (fun r => (∀ c : Dev Cert.HeadKernel.nD,
      r.2.mem ((c.tc : Thread Cert.HeadKernel.nD Cert.HeadKernel.τ).loc Cert.HeadKernel.main_arg0) = m ((c.tc : Thread Cert.HeadKernel.nD Cert.HeadKernel.τ).loc Cert.HeadKernel.main_arg0)
      ∧ r.2.mem ((c.tc : Thread Cert.HeadKernel.nD Cert.HeadKernel.τ).loc Cert.HeadKernel.main_arg1) = m ((c.tc : Thread Cert.HeadKernel.nD Cert.HeadKernel.τ).loc Cert.HeadKernel.main_arg1)
      ∧ r.2.mem ((c.tc : Thread Cert.HeadKernel.nD Cert.HeadKernel.τ).loc Cert.HeadKernel.main_arg2) = m ((c.tc : Thread Cert.HeadKernel.nD Cert.HeadKernel.τ).loc Cert.HeadKernel.main_arg2)
      ∧ r.2.mem ((c.tc : Thread Cert.HeadKernel.nD Cert.HeadKernel.τ).loc Cert.HeadKernel.main_arg3) = m ((c.tc : Thread Cert.HeadKernel.nD Cert.HeadKernel.τ).loc Cert.HeadKernel.main_arg3)
      ∧ r.2.mem ((c.tc : Thread Cert.HeadKernel.nD Cert.HeadKernel.τ).loc Cert.HeadKernel.main_arg4) = m ((c.tc : Thread Cert.HeadKernel.nD Cert.HeadKernel.τ).loc Cert.HeadKernel.main_arg4)
      ∧ r.2.mem ((c.tc : Thread Cert.HeadKernel.nD Cert.HeadKernel.τ).loc Cert.HeadKernel.main_arg5) = m ((c.tc : Thread Cert.HeadKernel.nD Cert.HeadKernel.τ).loc Cert.HeadKernel.main_arg5)
      ∧ r.2.mem ((c.tc : Thread Cert.HeadKernel.nD Cert.HeadKernel.τ).loc Cert.HeadKernel.main_arg6) = m ((c.tc : Thread Cert.HeadKernel.nD Cert.HeadKernel.τ).loc Cert.HeadKernel.main_arg6))
      ∧ r.2.sem = fun _ => 0)

def quiescent_HeadKernelIdeal [hHeadKernelIdeal : Cert.HeadKernelIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
      ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
      ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4)
      ∧ r.2.mem ((c.tc : Thread Cert.HeadKernelIdeal.nD Cert.HeadKernelIdeal.τ).loc Cert.HeadKernelIdeal.main_arg5) = m ((c.tc : Thread Cert.HeadKernelIdeal.nD Cert.HeadKernelIdeal.τ).loc Cert.HeadKernelIdeal.main_arg5)
      ∧ r.2.mem ((c.tc : Thread Cert.HeadKernelIdeal.nD Cert.HeadKernelIdeal.τ).loc Cert.HeadKernelIdeal.main_arg6) = m ((c.tc : Thread Cert.HeadKernelIdeal.nD Cert.HeadKernelIdeal.τ).loc Cert.HeadKernelIdeal.main_arg6))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5)
      ∧ r.2.mem ((c.tc : Thread Cert.FwdKernel.nD Cert.FwdKernel.τ).loc Cert.FwdKernel.main_arg6) = m ((c.tc : Thread Cert.FwdKernel.nD Cert.FwdKernel.τ).loc Cert.FwdKernel.main_arg6))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
      ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_AttnKernel_AttnKernelIdeal : Prop :=
  True

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)
      ∧ m' ((c.tc : Thread Cert.AttnReferenceIdeal.nD Cert.AttnReferenceIdeal.τ).loc Cert.AttnReferenceIdeal.main_arg5) = m ((c.tc : Thread Cert.AttnKernelIdeal.nD Cert.AttnKernelIdeal.τ).loc Cert.AttnKernelIdeal.main_arg5)
      ∧ m' ((c.tc : Thread Cert.AttnReferenceIdeal.nD Cert.AttnReferenceIdeal.τ).loc Cert.AttnReferenceIdeal.main_arg6) = m ((c.tc : Thread Cert.AttnKernelIdeal.nD Cert.AttnKernelIdeal.τ).loc Cert.AttnKernelIdeal.main_arg6)
      ∧ m' ((c.tc : Thread Cert.AttnReferenceIdeal.nD Cert.AttnReferenceIdeal.τ).loc Cert.AttnReferenceIdeal.main_arg7) = m ((c.tc : Thread Cert.AttnKernelIdeal.nD Cert.AttnKernelIdeal.τ).loc Cert.AttnKernelIdeal.main_arg7)) →
    ∃ (v0 : (c : Dev Cert.AttnKernelIdeal.nD) → Buf (Elt Ideal) ((c.tc : Thread Cert.AttnKernelIdeal.nD Cert.AttnKernelIdeal.τ).loc Cert.AttnKernelIdeal.main_v30_0)) (v1 : (c : Dev Cert.AttnKernelIdeal.nD) → Buf (Elt Ideal) ((c.tc : Thread Cert.AttnKernelIdeal.nD Cert.AttnKernelIdeal.τ).loc Cert.AttnKernelIdeal.main_v30_1)) (v2 : (c : Dev Cert.AttnKernelIdeal.nD) → Buf (Elt Ideal) ((c.tc : Thread Cert.AttnKernelIdeal.nD Cert.AttnKernelIdeal.τ).loc Cert.AttnKernelIdeal.main_v30_2)) (v3 : (c : Dev Cert.AttnKernelIdeal.nD) → Buf (Elt Ideal) ((c.tc : Thread Cert.AttnKernelIdeal.nD Cert.AttnKernelIdeal.τ).loc Cert.AttnKernelIdeal.main_v30_3)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v30_0) = v0 c
          ∧ r.2.mem ((c.tc : Thread Cert.AttnKernelIdeal.nD Cert.AttnKernelIdeal.τ).loc Cert.AttnKernelIdeal.main_v30_1) = v1 c
          ∧ r.2.mem ((c.tc : Thread Cert.AttnKernelIdeal.nD Cert.AttnKernelIdeal.τ).loc Cert.AttnKernelIdeal.main_v30_2) = v2 c
          ∧ r.2.mem ((c.tc : Thread Cert.AttnKernelIdeal.nD Cert.AttnKernelIdeal.τ).loc Cert.AttnKernelIdeal.main_v30_3) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
          ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
          ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
          ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v125) = v0 c
          ∧ r.2.mem ((c.tc : Thread Cert.AttnReferenceIdeal.nD Cert.AttnReferenceIdeal.τ).loc Cert.AttnReferenceIdeal.main_v126) = v1 c
          ∧ r.2.mem ((c.tc : Thread Cert.AttnReferenceIdeal.nD Cert.AttnReferenceIdeal.τ).loc Cert.AttnReferenceIdeal.main_v103) = v2 c
          ∧ r.2.mem ((c.tc : Thread Cert.AttnReferenceIdeal.nD Cert.AttnReferenceIdeal.τ).loc Cert.AttnReferenceIdeal.main_v108) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7))

def preserves_HeadKernel_HeadKernelIdeal : Prop :=
  True

def algebraic_HeadKernelIdeal_HeadReferenceIdeal [hHeadKernelIdeal : Cert.HeadKernelIdeal.Facts] [hHeadReferenceIdeal : Cert.HeadReferenceIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadKernelIdeal m →
    (∀ c : Dev Cert.HeadKernelIdeal.nD,
      m' ((c.tc : Thread Cert.HeadReferenceIdeal.nD Cert.HeadReferenceIdeal.τ).loc Cert.HeadReferenceIdeal.main_arg0) = m ((c.tc : Thread Cert.HeadKernelIdeal.nD Cert.HeadKernelIdeal.τ).loc Cert.HeadKernelIdeal.main_arg0)
      ∧ m' ((c.tc : Thread Cert.HeadReferenceIdeal.nD Cert.HeadReferenceIdeal.τ).loc Cert.HeadReferenceIdeal.main_arg1) = m ((c.tc : Thread Cert.HeadKernelIdeal.nD Cert.HeadKernelIdeal.τ).loc Cert.HeadKernelIdeal.main_arg1)
      ∧ m' ((c.tc : Thread Cert.HeadReferenceIdeal.nD Cert.HeadReferenceIdeal.τ).loc Cert.HeadReferenceIdeal.main_arg2) = m ((c.tc : Thread Cert.HeadKernelIdeal.nD Cert.HeadKernelIdeal.τ).loc Cert.HeadKernelIdeal.main_arg2)
      ∧ m' ((c.tc : Thread Cert.HeadReferenceIdeal.nD Cert.HeadReferenceIdeal.τ).loc Cert.HeadReferenceIdeal.main_arg3) = m ((c.tc : Thread Cert.HeadKernelIdeal.nD Cert.HeadKernelIdeal.τ).loc Cert.HeadKernelIdeal.main_arg3)
      ∧ m' ((c.tc : Thread Cert.HeadReferenceIdeal.nD Cert.HeadReferenceIdeal.τ).loc Cert.HeadReferenceIdeal.main_arg4) = m ((c.tc : Thread Cert.HeadKernelIdeal.nD Cert.HeadKernelIdeal.τ).loc Cert.HeadKernelIdeal.main_arg4)
      ∧ m' ((c.tc : Thread Cert.HeadReferenceIdeal.nD Cert.HeadReferenceIdeal.τ).loc Cert.HeadReferenceIdeal.main_arg5) = m ((c.tc : Thread Cert.HeadKernelIdeal.nD Cert.HeadKernelIdeal.τ).loc Cert.HeadKernelIdeal.main_arg5)
      ∧ m' ((c.tc : Thread Cert.HeadReferenceIdeal.nD Cert.HeadReferenceIdeal.τ).loc Cert.HeadReferenceIdeal.main_arg6) = m ((c.tc : Thread Cert.HeadKernelIdeal.nD Cert.HeadKernelIdeal.τ).loc Cert.HeadKernelIdeal.main_arg6)) →
    ∃ (v0 : (c : Dev Cert.HeadKernelIdeal.nD) → Buf (Elt Ideal) ((c.tc : Thread Cert.HeadKernelIdeal.nD Cert.HeadKernelIdeal.τ).loc Cert.HeadKernelIdeal.main_v5_0)) (v1 : (c : Dev Cert.HeadKernelIdeal.nD) → Buf (Elt Ideal) ((c.tc : Thread Cert.HeadKernelIdeal.nD Cert.HeadKernelIdeal.τ).loc Cert.HeadKernelIdeal.main_v5_1)) (v2 : (c : Dev Cert.HeadKernelIdeal.nD) → Buf (Elt Ideal) ((c.tc : Thread Cert.HeadKernelIdeal.nD Cert.HeadKernelIdeal.τ).loc Cert.HeadKernelIdeal.main_v5_2)) (v3 : (c : Dev Cert.HeadKernelIdeal.nD) → Buf (Elt Ideal) ((c.tc : Thread Cert.HeadKernelIdeal.nD Cert.HeadKernelIdeal.τ).loc Cert.HeadKernelIdeal.main_v5_3)) (v4 : (c : Dev Cert.HeadKernelIdeal.nD) → Buf (Elt Ideal) ((c.tc : Thread Cert.HeadKernelIdeal.nD Cert.HeadKernelIdeal.τ).loc Cert.HeadKernelIdeal.main_v5_4)) (v5 : (c : Dev Cert.HeadKernelIdeal.nD) → Buf (Elt Ideal) ((c.tc : Thread Cert.HeadKernelIdeal.nD Cert.HeadKernelIdeal.τ).loc Cert.HeadKernelIdeal.main_v5_5)),
      θ_run (Cert.HeadKernelIdeal.defs (F := Ideal)) (onTc (τ := Cert.HeadKernelIdeal.τ) (Cert.HeadKernelIdeal.main (F := Ideal))) ⟨m, fun _ => 0, g⟩ (fun r => ∀ c : Dev Cert.HeadKernelIdeal.nD,
          r.2.mem ((c.tc : Thread Cert.HeadKernelIdeal.nD Cert.HeadKernelIdeal.τ).loc Cert.HeadKernelIdeal.main_v5_0) = v0 c
          ∧ r.2.mem ((c.tc : Thread Cert.HeadKernelIdeal.nD Cert.HeadKernelIdeal.τ).loc Cert.HeadKernelIdeal.main_v5_1) = v1 c
          ∧ r.2.mem ((c.tc : Thread Cert.HeadKernelIdeal.nD Cert.HeadKernelIdeal.τ).loc Cert.HeadKernelIdeal.main_v5_2) = v2 c
          ∧ r.2.mem ((c.tc : Thread Cert.HeadKernelIdeal.nD Cert.HeadKernelIdeal.τ).loc Cert.HeadKernelIdeal.main_v5_3) = v3 c
          ∧ r.2.mem ((c.tc : Thread Cert.HeadKernelIdeal.nD Cert.HeadKernelIdeal.τ).loc Cert.HeadKernelIdeal.main_v5_4) = v4 c
          ∧ r.2.mem ((c.tc : Thread Cert.HeadKernelIdeal.nD Cert.HeadKernelIdeal.τ).loc Cert.HeadKernelIdeal.main_v5_5) = v5 c
          ∧ r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
          ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
          ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
          ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
          ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4)
          ∧ r.2.mem ((c.tc : Thread Cert.HeadKernelIdeal.nD Cert.HeadKernelIdeal.τ).loc Cert.HeadKernelIdeal.main_arg5) = m ((c.tc : Thread Cert.HeadKernelIdeal.nD Cert.HeadKernelIdeal.τ).loc Cert.HeadKernelIdeal.main_arg5)
          ∧ r.2.mem ((c.tc : Thread Cert.HeadKernelIdeal.nD Cert.HeadKernelIdeal.τ).loc Cert.HeadKernelIdeal.main_arg6) = m ((c.tc : Thread Cert.HeadKernelIdeal.nD Cert.HeadKernelIdeal.τ).loc Cert.HeadKernelIdeal.main_arg6))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v68) = v0 c
          ∧ r.2.mem ((c.tc : Thread Cert.HeadReferenceIdeal.nD Cert.HeadReferenceIdeal.τ).loc Cert.HeadReferenceIdeal.main_v69) = v1 c
          ∧ r.2.mem ((c.tc : Thread Cert.HeadReferenceIdeal.nD Cert.HeadReferenceIdeal.τ).loc Cert.HeadReferenceIdeal.main_v70) = v2 c
          ∧ r.2.mem ((c.tc : Thread Cert.HeadReferenceIdeal.nD Cert.HeadReferenceIdeal.τ).loc Cert.HeadReferenceIdeal.main_v71) = v3 c
          ∧ r.2.mem ((c.tc : Thread Cert.HeadReferenceIdeal.nD Cert.HeadReferenceIdeal.τ).loc Cert.HeadReferenceIdeal.main_v72) = v4 c
          ∧ r.2.mem ((c.tc : Thread Cert.HeadReferenceIdeal.nD Cert.HeadReferenceIdeal.τ).loc Cert.HeadReferenceIdeal.main_v52) = v5 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4)
          ∧ r.2.mem ((c.tc : Thread Cert.HeadReferenceIdeal.nD Cert.HeadReferenceIdeal.τ).loc Cert.HeadReferenceIdeal.main_arg5) = m' ((c.tc : Thread Cert.HeadReferenceIdeal.nD Cert.HeadReferenceIdeal.τ).loc Cert.HeadReferenceIdeal.main_arg5)
          ∧ r.2.mem ((c.tc : Thread Cert.HeadReferenceIdeal.nD Cert.HeadReferenceIdeal.τ).loc Cert.HeadReferenceIdeal.main_arg6) = m' ((c.tc : Thread Cert.HeadReferenceIdeal.nD Cert.HeadReferenceIdeal.τ).loc Cert.HeadReferenceIdeal.main_arg6))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)) →
    ∃ (v0 : (c : Dev Cert.UpKernelIdeal.nD) → Buf (Elt Ideal) ((c.tc : Thread Cert.UpKernelIdeal.nD Cert.UpKernelIdeal.τ).loc Cert.UpKernelIdeal.main_v4_0)) (v1 : (c : Dev Cert.UpKernelIdeal.nD) → Buf (Elt Ideal) ((c.tc : Thread Cert.UpKernelIdeal.nD Cert.UpKernelIdeal.τ).loc Cert.UpKernelIdeal.main_v4_1)) (v2 : (c : Dev Cert.UpKernelIdeal.nD) → Buf (Elt Ideal) ((c.tc : Thread Cert.UpKernelIdeal.nD Cert.UpKernelIdeal.τ).loc Cert.UpKernelIdeal.main_v4_2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v4_0) = v0 c
          ∧ r.2.mem ((c.tc : Thread Cert.UpKernelIdeal.nD Cert.UpKernelIdeal.τ).loc Cert.UpKernelIdeal.main_v4_1) = v1 c
          ∧ r.2.mem ((c.tc : Thread Cert.UpKernelIdeal.nD Cert.UpKernelIdeal.τ).loc Cert.UpKernelIdeal.main_v4_2) = v2 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v14) = v0 c
          ∧ r.2.mem ((c.tc : Thread Cert.UpReferenceIdeal.nD Cert.UpReferenceIdeal.τ).loc Cert.UpReferenceIdeal.main_v15) = v1 c
          ∧ r.2.mem ((c.tc : Thread Cert.UpReferenceIdeal.nD Cert.UpReferenceIdeal.τ).loc Cert.UpReferenceIdeal.main_v18) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)) →
    ∃ (v0 : (c : Dev Cert.DownKernelIdeal.nD) → Buf (Elt Ideal) ((c.tc : Thread Cert.DownKernelIdeal.nD Cert.DownKernelIdeal.τ).loc Cert.DownKernelIdeal.main_v18)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v18) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v19) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)
      ∧ m' ((c.tc : Thread Cert.FwdReferenceIdeal.nD Cert.FwdReferenceIdeal.τ).loc Cert.FwdReferenceIdeal.main_arg6) = m ((c.tc : Thread Cert.FwdKernelIdeal.nD Cert.FwdKernelIdeal.τ).loc Cert.FwdKernelIdeal.main_arg6)) →
    ∃ (v0 : (c : Dev Cert.FwdKernelIdeal.nD) → Buf (Elt Ideal) ((c.tc : Thread Cert.FwdKernelIdeal.nD Cert.FwdKernelIdeal.τ).loc Cert.FwdKernelIdeal.main_v16_0)) (v1 : (c : Dev Cert.FwdKernelIdeal.nD) → Buf (Elt Ideal) ((c.tc : Thread Cert.FwdKernelIdeal.nD Cert.FwdKernelIdeal.τ).loc Cert.FwdKernelIdeal.main_v16_1)) (v2 : (c : Dev Cert.FwdKernelIdeal.nD) → Buf (Elt Ideal) ((c.tc : Thread Cert.FwdKernelIdeal.nD Cert.FwdKernelIdeal.τ).loc Cert.FwdKernelIdeal.main_v16_2)) (v3 : (c : Dev Cert.FwdKernelIdeal.nD) → Buf (Elt Ideal) ((c.tc : Thread Cert.FwdKernelIdeal.nD Cert.FwdKernelIdeal.τ).loc Cert.FwdKernelIdeal.main_v16_3)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v16_0) = v0 c
          ∧ r.2.mem ((c.tc : Thread Cert.FwdKernelIdeal.nD Cert.FwdKernelIdeal.τ).loc Cert.FwdKernelIdeal.main_v16_1) = v1 c
          ∧ r.2.mem ((c.tc : Thread Cert.FwdKernelIdeal.nD Cert.FwdKernelIdeal.τ).loc Cert.FwdKernelIdeal.main_v16_2) = v2 c
          ∧ r.2.mem ((c.tc : Thread Cert.FwdKernelIdeal.nD Cert.FwdKernelIdeal.τ).loc Cert.FwdKernelIdeal.main_v16_3) = v3 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
          ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v49) = v0 c
          ∧ r.2.mem ((c.tc : Thread Cert.FwdReferenceIdeal.nD Cert.FwdReferenceIdeal.τ).loc Cert.FwdReferenceIdeal.main_v50) = v1 c
          ∧ r.2.mem ((c.tc : Thread Cert.FwdReferenceIdeal.nD Cert.FwdReferenceIdeal.τ).loc Cert.FwdReferenceIdeal.main_v51) = v2 c
          ∧ r.2.mem ((c.tc : Thread Cert.FwdReferenceIdeal.nD Cert.FwdReferenceIdeal.τ).loc Cert.FwdReferenceIdeal.main_v52) = v3 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)) →
    ∃ (v0 : (c : Dev Cert.MixKernelIdeal.nD) → Buf (Elt Ideal) ((c.tc : Thread Cert.MixKernelIdeal.nD Cert.MixKernelIdeal.τ).loc Cert.MixKernelIdeal.main_v4_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v4_1) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v12) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)) →
    ∃ (v0 : (c : Dev Cert.MemKernelIdeal.nD) → Buf (Elt Ideal) ((c.tc : Thread Cert.MemKernelIdeal.nD Cert.MemKernelIdeal.τ).loc Cert.MemKernelIdeal.main_v3)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v3) = v0 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v13) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def Claim : Prop :=
  ∃ (hKernel : Cert.Kernel.Facts) (hKernelIdeal : Cert.KernelIdeal.Facts) (hReferenceIdeal : Cert.ReferenceIdeal.Facts) (hAttnKernel : Cert.AttnKernel.Facts) (hAttnKernelIdeal : Cert.AttnKernelIdeal.Facts) (hAttnReferenceIdeal : Cert.AttnReferenceIdeal.Facts) (hHeadKernel : Cert.HeadKernel.Facts) (hHeadKernelIdeal : Cert.HeadKernelIdeal.Facts) (hHeadReferenceIdeal : Cert.HeadReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hFwdKernel : Cert.FwdKernel.Facts) (hFwdKernelIdeal : Cert.FwdKernelIdeal.Facts) (hFwdReferenceIdeal : Cert.FwdReferenceIdeal.Facts) (hMixKernel : Cert.MixKernel.Facts) (hMixKernelIdeal : Cert.MixKernelIdeal.Facts) (hMixReferenceIdeal : Cert.MixReferenceIdeal.Facts) (hMemKernel : Cert.MemKernel.Facts) (hMemKernelIdeal : Cert.MemKernelIdeal.Facts) (hMemReferenceIdeal : Cert.MemReferenceIdeal.Facts) (hPre_finite : Cert.Pre_finite.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_HeadKernel (hHeadKernel := hHeadKernel)
    ∧ quiescent_HeadKernelIdeal (hHeadKernelIdeal := hHeadKernelIdeal)
    ∧ quiescent_HeadReferenceIdeal (hHeadReferenceIdeal := hHeadReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_HeadKernel_HeadKernelIdeal
    ∧ algebraic_HeadKernelIdeal_HeadReferenceIdeal (hHeadKernelIdeal := hHeadKernelIdeal) (hHeadReferenceIdeal := hHeadReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_FwdKernel_FwdKernelIdeal
    ∧ algebraic_FwdKernelIdeal_FwdReferenceIdeal (hFwdKernelIdeal := hFwdKernelIdeal) (hFwdReferenceIdeal := hFwdReferenceIdeal)
    ∧ preserves_MixKernel_MixKernelIdeal
    ∧ algebraic_MixKernelIdeal_MixReferenceIdeal (hMixKernelIdeal := hMixKernelIdeal) (hMixReferenceIdeal := hMixReferenceIdeal)
    ∧ preserves_MemKernel_MemKernelIdeal
    ∧ algebraic_MemKernelIdeal_MemReferenceIdeal (hMemKernelIdeal := hMemKernelIdeal) (hMemReferenceIdeal := hMemReferenceIdeal)
-- ==== Pre_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S4096x1024 1 × IVec S1x1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_attn.lean ====
abbrev S4096x1024 : Shape := ⟨2, ![4096, 1024]⟩
abbrev S1x1024 : Shape := ⟨2, ![1, 1024]⟩
abbrev S256x1024 : Shape := ⟨2, ![256, 1024]⟩
abbrev S1024x1024 : Shape := ⟨2, ![1024, 1024]⟩
abbrev S1024x2048 : Shape := ⟨2, ![1024, 2048]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1024x2048 : S_.BroadcastsInDim S1024x2048 (![] : Fin 0 → Fin S1024x2048.rank)

variable [Facts]

def fn_part1 {F : FTy → Type} [FloatOps F] (main_arg6 : FVec F S1024x1024 .f32) (main_arg7 : FVec F S4096x1024 .f32) (main_v2 : IVec S4096x1024 1) (main_v5 : IVec S1x1024 1) (main_v8 : IVec S256x1024 1) (main_v11 : IVec S1x1024 1) (main_v14 : IVec S1024x1024 1) (main_v17 : IVec S1024x2048 1) : IVec S4096x1024 1 × IVec S1x1024 1 × IVec S256x1024 1 × IVec S1x1024 1 × IVec S1024x1024 1 × IVec S1024x2048 1 × IVec S1024x1024 1 × IVec S4096x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S1x1024 .f32) (main_arg2 : FVec F S256x1024 .f32) (main_arg3 : FVec F S1x1024 .f32) (main_arg4 : FVec F S1024x1024 .f32) (main_arg5 : FVec F S1024x2048 .f32) (main_arg6 : FVec F S1024x1024 .f32) (main_arg7 : FVec F S4096x1024 .f32) : IVec S4096x1024 1 × IVec S1x1024 1 × IVec S256x1024 1 × IVec S1x1024 1 × IVec S1024x1024 1 × IVec S1024x2048 1 × IVec S1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024x2048 .f32 := Host.absf main_arg5
  let main_cst_4 : FVec F S_ .f32 := constant S_ .f32 0x7F800000#32
  let main_v16 : FVec F S1024x2048 .f32 := broadcastInDim S1024x2048 ![] bcast_S_S1024x2048 main_cst_4
  let main_v17 : IVec S1024x2048 1 := cmpf .olt main_v15 main_v16
  fn_part1 (F := F) main_arg6 main_arg7 main_v2 main_v5 main_v8 main_v11 main_v14 main_v17
-- ==== Kernel.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 35
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .bf16⟩
  | .hbm, ⟨23, _⟩ => ⟨S4096x2816, .f32⟩
  | .hbm, ⟨24, _⟩ => ⟨S4096x2816, .bf16⟩
  | .hbm, ⟨25, _⟩ => ⟨S2816x1024, .f32⟩
  | .hbm, ⟨26, _⟩ => ⟨S2816x1024, .bf16⟩
  | .hbm, ⟨27, _⟩ => ⟨S2816x1024, .f32⟩
  | .hbm, ⟨28, _⟩ => ⟨S2816x1024, .bf16⟩
  | .hbm, ⟨29, _⟩ => ⟨S2816x1024, .bf16⟩
  | .hbm, ⟨30, _⟩ => ⟨S4096x1024, .f32⟩
  | .hbm, ⟨31, _⟩ => ⟨S4096x2816, .bf16⟩
  | .hbm, ⟨32, _⟩ => ⟨S4096x2816, .bf16⟩
  | .hbm, ⟨33, _⟩ => ⟨S4096x1024, .bf16⟩
  | .hbm, ⟨34, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x2816, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x2816, .bf16⟩
  | .hbm, ⟨89, _⟩ => ⟨S4096x2816, .bf16⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S4096x1, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v20_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v20_1 : Ref sig .tc := ⟨.hbm, 42, rfl⟩
abbrev main_v20_0 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]
-- ==== AttnKernel.lean ====
abbrev S4096x1024 : Shape := ⟨2, ![4096, 1024]⟩
abbrev S1x1024 : Shape := ⟨2, ![1, 1024]⟩
abbrev S256x1024 : Shape := ⟨2, ![256, 1024]⟩
abbrev S1024x1024 : Shape := ⟨2, ![1024, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S4096 : Shape := ⟨1, ![4096]⟩
abbrev S4096x1 : Shape := ⟨2, ![4096, 1]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩
abbrev S1024 : Shape := ⟨1, ![1024]⟩

abbrev nBuf : Space → Nat
  | .hbm => 48
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S256x1024, .f32⟩
  | .hbm, ⟨3, _⟩ => ⟨S1x1024, .f32⟩
  | .hbm, ⟨4, _⟩ => ⟨S1024x1024, .f32⟩
  | .hbm, ⟨5, _⟩ => ⟨S1024x2048, .f32⟩
  | .hbm, ⟨6, _⟩ => ⟨S1024x1024, .f32⟩
  | .hbm, ⟨7, _⟩ => ⟨S4096x1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x2048, .f32⟩
  | .hbm, ⟨24, _⟩ => ⟨S256x2048, .bf16⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S1024x1024, .bf16⟩
  | .hbm, ⟨43, _⟩ => ⟨S1024x1024, .bf16⟩
  | .hbm, ⟨44, _⟩ => ⟨S4096x1024, .f32⟩
  | .hbm, ⟨45, _⟩ => ⟨S4096x1024, .bf16⟩
  | .hbm, ⟨46, _⟩ => ⟨S256x2048, .f32⟩
  | .hbm, ⟨47, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S256x2048, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S256x2048, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v30_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== AttnReferenceIdeal.lean ====
abbrev S4096x1024 : Shape := ⟨2, ![4096, 1024]⟩
abbrev S1x1024 : Shape := ⟨2, ![1, 1024]⟩
abbrev S256x1024 : Shape := ⟨2, ![256, 1024]⟩
abbrev S1024x1024 : Shape := ⟨2, ![1024, 1024]⟩
abbrev S1024x2048 : Shape := ⟨2, ![1024, 2048]⟩
abbrev S_ : Shape := ⟨0, ![]⟩
abbrev S256x2048 : Shape := ⟨2, ![256, 2048]⟩
abbrev S4096 : Shape := ⟨1, ![4096]⟩
abbrev S4096x1 : Shape := ⟨2, ![4096, 1]⟩
abbrev S4096x4x256 : Shape := ⟨3, ![4096, 4, 256]⟩
abbrev S256 : Shape := ⟨1, ![256]⟩
abbrev S256x1 : Shape := ⟨2, ![256, 1]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S1024 : Shape := ⟨1, ![1024]⟩

abbrev nBuf : Space → Nat
  | .hbm => 164
  | .vmem => 0
  | .smem => 0
  | _ => 0

abbrev hbmTy0_0 (i : Nat) : BufTy := match i % 128 with
  | 0 => ⟨S4096x1024, .f32⟩
  | 1 => ⟨S1x1024, .f32⟩
  | 2 => ⟨S256x1024, .f32⟩
  | 3 => ⟨S1x1024, .f32⟩
  | 4 => ⟨S1024x1024, .f32⟩
  | 5 => ⟨S1024x2048, .f32⟩
  | 6 => ⟨S1024x1024, .f32⟩
  | 7 => ⟨S4096x1024, .f32⟩
  | 8 => ⟨S_, .f32⟩
  | 9 => ⟨S4096x1024, .f32⟩
  | 10 => ⟨S_, .f32⟩
  | 11 => ⟨S256x2048, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x4x256, .f32⟩
  | 34 => ⟨S256x1024, .f32⟩
  | 35 => ⟨S_, .f32⟩
  | 36 => ⟨S256, .f32⟩
  | 37 => ⟨S256x1, .f32⟩
  | 38 => ⟨S_, .f32⟩
  | 39 => ⟨S256x1, .f32⟩
  | 40 => ⟨S256x1, .f32⟩
  | 41 => ⟨S_, .f32⟩
  | 42 => ⟨S256x1, .f32⟩
  | 43 => ⟨S256x1, .f32⟩
  | 44 => ⟨S256x1, .f32⟩
  | 45 => ⟨S256x1024, .f32⟩
  | 46 => ⟨S256x1024, .f32⟩
  | 47 => ⟨S256x1024, .f32⟩
  | 48 => ⟨S256x1024, .f32⟩
  | 49 => ⟨S256x2048, .f32⟩
  | 50 => ⟨S256x2048, .f32⟩
  | 51 => ⟨S256x1024, .f32⟩
  | 52 => ⟨S256x4x256, .f32⟩
  | 53 => ⟨S256x1024, .f32⟩
  | 54 => ⟨S256x4x256, .f32⟩
  | 55 => ⟨S4x4096x256, .f32⟩
  | 56 => ⟨S_, .f32⟩
  | 57 => ⟨S4x4096x256, .f32⟩
  | 58 => ⟨S4x4096x256, .f32⟩
  | 59 => ⟨S_, .f32⟩
  | 60 => ⟨S4x4096, .f32⟩
  | 61 => ⟨S4x4096x1, .f32⟩
  | 62 => ⟨S4x4096x256, .f32⟩
  | 63 => ⟨S4x4096x256, .i1⟩
  | 64 => ⟨S4x4096x256, .f32⟩
  | 65 => ⟨S_, .f32⟩
  | 66 => ⟨S4x4096, .f32⟩
  | 67 => ⟨S_, .f32⟩
  | 68 => ⟨S4x4096, .f32⟩
  | 69 => ⟨S4x4096, .f32⟩
  | 70 => ⟨S_, .f32⟩
  | 71 => ⟨S4x4096, .f32⟩
  | 72 => ⟨S4x4096, .i1⟩
  | 73 => ⟨S_, .f32⟩
  | 74 => ⟨S4x4096, .f32⟩
  | 75 => ⟨S4x4096, .i1⟩
  | 76 => ⟨S_, .f32⟩
  | 77 => ⟨S4x4096, .f32⟩
  | 78 => ⟨S_, .f32⟩
  | 79 => ⟨S4x4096, .f32⟩
  | 80 => ⟨S_, .f32⟩
  | 81 => ⟨S4x4096, .f32⟩
  | 82 => ⟨S4x4096, .f32⟩
  | 83 => ⟨S4x4096, .f32⟩
  | 84 => ⟨S4x4096x1, .f32⟩
  | 85 => ⟨S4x4096x256, .f32⟩
  | 86 => ⟨S4x4096x256, .f32⟩
  | 87 => ⟨S4x4096x256, .f32⟩
  | 88 => ⟨S_, .f32⟩
  | 89 => ⟨S4x4096, .f32⟩
  | 90 => ⟨S4x4096x1, .f32⟩
  | 91 => ⟨S4x4096x256, .f32⟩
  | 92 => ⟨S4x4096x256, .f32⟩
  | 93 => ⟨S4x4096x1, .f32⟩
  | 94 => ⟨S_, .f32⟩
  | 95 => ⟨S4x4096x1, .f32⟩
  | 96 => ⟨S4x4096x1, .f32⟩
  | 97 => ⟨S4x256x4096, .f32⟩
  | 98 => ⟨S4096x4x256, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x4x256, .f32⟩
  | 105 => ⟨S4x256x4096, .f32⟩
  | 106 => ⟨S4x4096x256, .f32⟩
  | 107 => ⟨S4x256x256, .f32⟩
  | 108 => ⟨S256x4x256, .f32⟩
  | 109 => ⟨S4x4096x256, .f32⟩
  | 110 => ⟨S4x4096x256, .f32⟩
  | 111 => ⟨S4x4096x256, .f32⟩
  | 112 => ⟨S_, .f32⟩
  | 113 => ⟨S4x4096, .f32⟩
  | 114 => ⟨S4x4096x1, .f32⟩
  | 115 => ⟨S4x4096x1, .f32⟩
  | 116 => ⟨S4x4096x256, .f32⟩
  | 117 => ⟨S4x4096x256, .f32⟩
  | 118 => ⟨S_, .f32⟩
  | 119 => ⟨S4x4096, .f32⟩
  | 120 => ⟨S4x4096x256, .f32⟩
  | 121 => ⟨S4x4096x256, .f32⟩
  | 122 => ⟨S4x4096x256, .f32⟩
  | 123 => ⟨S_, .f32⟩
  | 124 => ⟨S4x4096x256, .f32⟩
  | 125 => ⟨S4x4096x256, .f32⟩
  | 126 => ⟨S4x256x256, .f32⟩
  | 127 => ⟨S256x4x256, .f32⟩
  | _ => ⟨S4096x1024, .f32⟩

abbrev hbmTy0_1 (i : Nat) : BufTy := match i % 128 with
  | 0 => ⟨S4x4096x256, .f32⟩
  | 1 => ⟨S4096x4x256, .f32⟩
  | 2 => ⟨S256x1024, .f32⟩
  | 3 => ⟨S_, .f32⟩
  | 4 => ⟨S256x2048, .f32⟩
  | 5 => ⟨S256x1024, .f32⟩
  | 6 => ⟨S_, .f32⟩
  | 7 => ⟨S256x2048, .f32⟩
  | 8 => ⟨S256x2048, .f32⟩
  | 9 => ⟨S4096x1024, .f32⟩
  | 10 => ⟨S4096x1024, .f32⟩
  | 11 => ⟨S4096x1024, .f32⟩
  | 12 => ⟨S_, .f32⟩
  | 13 => ⟨S1024, .f32⟩
  | 14 => ⟨S1x1024, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S4096x1024, .f32⟩
  | 22 => ⟨S4096x1024, .f32⟩
  | 23 => ⟨S4096x1024, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_cst_16 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_19 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_20 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_21 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_22 : Ref sig .tc := ⟨.hbm, 131, rfl⟩
abbrev main_v100 : Ref sig .tc := ⟨.hbm, 132, rfl⟩
abbrev main_v101 : Ref sig .tc := ⟨.hbm, 133, rfl⟩
abbrev main_cst_23 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_24 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_25 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_26 : Ref sig .tc := ⟨.hbm, 153, rfl⟩
abbrev main_v118 : Ref sig .tc := ⟨.hbm, 154, rfl⟩
abbrev main_v119 : Ref sig .tc := ⟨.hbm, 155, rfl⟩
abbrev main_cst_27 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩

abbrev nD : Nat := 1
abbrev τ : Topo := Topo.v7x

variable {F : FTy → Type} [FloatOps F]
-- ==== HeadKernel.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S1x128 : Shape := ⟨2, ![1, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 18
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S4096x1024, .f32⟩
  | .hbm, ⟨13, _⟩ => ⟨S4096x2816, .bf16⟩
  | .hbm, ⟨14, _⟩ => ⟨S4096x2816, .bf16⟩
  | .hbm, ⟨15, _⟩ => ⟨S4096x2816, .bf16⟩
  | .hbm, ⟨16, _⟩ => ⟨S1x128, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S1x128, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== HeadReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x2816, .bf16⟩
  | .hbm, ⟨105, _⟩ => ⟨S4096x2816, .bf16⟩
  | .hbm, ⟨106, _⟩ => ⟨S4096x2816, .bf16⟩
  | .hbm, ⟨107, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_cst_12 : Ref sig .tc := ⟨.hbm, 72, rfl⟩
abbrev main_cst_13 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== UpKernel.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpReferenceIdeal.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .bf16⟩
  | .hbm, ⟨22, _⟩ => ⟨S4096x2816, .bf16⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== DownKernel.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S256x1024 : Shape := ⟨2, ![256, 1024]⟩
abbrev S256x2816 : Shape := ⟨2, ![256, 2816]⟩

abbrev nBuf : Space → Nat
  | .hbm => 35
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S2816x1024, .bf16⟩
  | .hbm, ⟨34, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== FwdKernel.lean ====
abbrev S4096x1024 : Shape := ⟨2, ![4096, 1024]⟩
abbrev S1x1024 : Shape := ⟨2, ![1, 1024]⟩
abbrev S256x1024 : Shape := ⟨2, ![256, 1024]⟩
abbrev S1024x1024 : Shape := ⟨2, ![1024, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 30
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S256x1024, .f32⟩
  | .hbm, ⟨3, _⟩ => ⟨S1x1024, .f32⟩
  | .hbm, ⟨4, _⟩ => ⟨S1024x1024, .f32⟩
  | .hbm, ⟨5, _⟩ => ⟨S1024x2048, .f32⟩
  | .hbm, ⟨6, _⟩ => ⟨S1024x1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x2048, .f32⟩
  | .hbm, ⟨23, _⟩ => ⟨S256x2048, .bf16⟩
  | .hbm, ⟨24, _⟩ => ⟨S1024x1024, .bf16⟩
  | .hbm, ⟨25, _⟩ => ⟨S1024x1024, .bf16⟩
  | .hbm, ⟨26, _⟩ => ⟨S4096x1024, .f32⟩
  | .hbm, ⟨27, _⟩ => ⟨S4096x1024, .bf16⟩
  | .hbm, ⟨28, _⟩ => ⟨S4096x1024, .bf16⟩
  | .hbm, ⟨29, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S256x2048, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdReferenceIdeal.lean ====
abbrev S4096x1024 : Shape := ⟨2, ![4096, 1024]⟩
abbrev S1x1024 : Shape := ⟨2, ![1, 1024]⟩
abbrev S256x1024 : Shape := ⟨2, ![256, 1024]⟩
abbrev S1024x1024 : Shape := ⟨2, ![1024, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S256x2048 : Shape := ⟨2, ![256, 2048]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S256x1024, .f32⟩
  | .hbm, ⟨3, _⟩ => ⟨S1x1024, .f32⟩
  | .hbm, ⟨4, _⟩ => ⟨S1024x1024, .f32⟩
  | .hbm, ⟨5, _⟩ => ⟨S1024x2048, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S256x1024, .f32⟩
  | .hbm, ⟨24, _⟩ => ⟨S_, .f32⟩
  | .hbm, ⟨25, _⟩ => ⟨S256, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S256x1, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x2048, .f32⟩
  | .hbm, ⟨39, _⟩ => ⟨S4096x4x256, .f32⟩
  | .hbm, ⟨40, _⟩ => ⟨S256x1024, .f32⟩
  | .hbm, ⟨41, _⟩ => ⟨S256x4x256, .f32⟩
  | .hbm, ⟨42, _⟩ => ⟨S256x1024, .f32⟩
  | .hbm, ⟨43, _⟩ => ⟨S256x4x256, .f32⟩
  | .hbm, ⟨44, _⟩ => ⟨S4x4096x256, .f32⟩
  | .hbm, ⟨45, _⟩ => ⟨S_, .f32⟩
  | .hbm, ⟨46, _⟩ => ⟨S4x4096x256, .f32⟩
  | .hbm, ⟨47, _⟩ => ⟨S4x4096x256, .f32⟩
  | .hbm, ⟨48, _⟩ => ⟨S_, .f32⟩
  | .hbm, ⟨49, _⟩ => ⟨S4x4096, .f32⟩
  | .hbm, ⟨50, _⟩ => ⟨S_, .f32⟩
  | .hbm, ⟨51, _⟩ => ⟨S4x4096, .f32⟩
  | .hbm, ⟨52, _⟩ => ⟨S4x4096, .f32⟩
  | .hbm, ⟨53, _⟩ => ⟨S4x4096x1, .f32⟩
  | .hbm, ⟨54, _⟩ => ⟨S4x4096x256, .f32⟩
  | .hbm, ⟨55, _⟩ => ⟨S4x4096x256, .f32⟩
  | .hbm, ⟨56, _⟩ => ⟨S4x4096x256, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S4x4096x256, .f32⟩
  | .hbm, ⟨61, _⟩ => ⟨S4x4096x256, .f32⟩
  | .hbm, ⟨62, _⟩ => ⟨S4x256x4096, .f32⟩
  | .hbm, ⟨63, _⟩ => ⟨S4096x4x256, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | .hbm, ⟨68, _⟩ => ⟨S4096x1024, .bf16⟩
  | .hbm, ⟨69, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== MixKernel.lean ====
abbrev S4096x1024 : Shape := ⟨2, ![4096, 1024]⟩
abbrev S1x1024 : Shape := ⟨2, ![1, 1024]⟩
abbrev S1024x3584 : Shape := ⟨2, ![1024, 3584]⟩
abbrev S2x512 : Shape := ⟨2, ![2, 512]⟩
abbrev S1x512 : Shape := ⟨2, ![1, 512]⟩
abbrev S512x3 : Shape := ⟨2, ![512, 3]⟩
abbrev S1024x1024 : Shape := ⟨2, ![1024, 1024]⟩
abbrev S3584x1024 : Shape := ⟨2, ![3584, 1024]⟩
abbrev S3x512 : Shape := ⟨2, ![3, 512]⟩
abbrev S4096x3584 : Shape := ⟨2, ![4096, 3584]⟩
abbrev S4096x512 : Shape := ⟨2, ![4096, 512]⟩
abbrev S64x4x128x128 : Shape := ⟨4, ![64, 4, 128, 128]⟩
abbrev S256x1024 : Shape := ⟨2, ![256, 1024]⟩
abbrev S256x3584 : Shape := ⟨2, ![256, 3584]⟩
abbrev S256x512 : Shape := ⟨2, ![256, 512]⟩
abbrev S4x4x128x128 : Shape := ⟨4, ![4, 4, 128, 128]⟩
abbrev S4x128x128 : Shape := ⟨3, ![4, 128, 128]⟩
abbrev S8x512 : Shape := ⟨2, ![8, 512]⟩
abbrev S256 : Shape := ⟨1, ![256]⟩
abbrev S256x1 : Shape := ⟨2, ![256, 1]⟩
abbrev S256x256 : Shape := ⟨2, ![256, 256]⟩
abbrev S256x1536 : Shape := ⟨2, ![256, 1536]⟩
abbrev S64x512 : Shape := ⟨2, ![64, 512]⟩
abbrev S256x128 : Shape := ⟨2, ![256, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x1x128x128 : Shape := ⟨4, ![1, 1, 128, 128]⟩

abbrev nBuf : Space → Nat
  | .hbm => 16
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S2x512, .f32⟩
  | .hbm, ⟨4, _⟩ => ⟨S1x512, .f32⟩
  | .hbm, ⟨5, _⟩ => ⟨S512x3, .f32⟩
  | .hbm, ⟨6, _⟩ => ⟨S1024x1024, .f32⟩
  | .hbm, ⟨7, _⟩ => ⟨S3584x1024, .f32⟩
  | .hbm, ⟨8, _⟩ => ⟨S3584x1024, .bf16⟩
  | .hbm, ⟨9, _⟩ => ⟨S3x512, .f32⟩
  | .hbm, ⟨10, _⟩ => ⟨S1024x1024, .bf16⟩
  | .hbm, ⟨11, _⟩ => ⟨S4096x1024, .f32⟩
  | .hbm, ⟨12, _⟩ => ⟨S4096x3584, .f32⟩
  | .hbm, ⟨13, _⟩ => ⟨S4096x512, .f32⟩
  | .hbm, ⟨14, _⟩ => ⟨S64x4x128x128, .f32⟩
  | .hbm, ⟨15, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S3584x1024, .bf16⟩
  | .local _ .vmem, ⟨4, _⟩ => ⟨S2x512, .f32⟩
  | .local _ .vmem, ⟨5, _⟩ => ⟨S1x512, .f32⟩
  | .local _ .vmem, ⟨6, _⟩ => ⟨S3x512, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x3584, .f32⟩
  | .local _ .vmem, ⟨11, _⟩ => ⟨S256x3584, .f32⟩
  | .local _ .vmem, ⟨12, _⟩ => ⟨S256x512, .f32⟩
  | .local _ .vmem, ⟨13, _⟩ => ⟨S256x512, .f32⟩
  | .local _ .vmem, ⟨14, _⟩ => ⟨S4x4x128x128, .f32⟩
  | .local _ .vmem, ⟨15, _⟩ => ⟨S4x4x128x128, .f32⟩
  | .local _ .vmem, ⟨16, _⟩ => ⟨S256x1024, .bf16⟩
  | .local _ .vmem, ⟨17, _⟩ => ⟨S256x1024, .bf16⟩
  | .local _ .vmem, ⟨18, _⟩ => ⟨S4x128x128, .f32⟩
  | .local _ .vmem, ⟨19, _⟩ => ⟨S8x512, .f32⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .f32⟩
  | .local _ .vmem, ⟨25, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3584 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixReferenceIdeal.lean ====
abbrev S4096x1024 : Shape := ⟨2, ![4096, 1024]⟩
abbrev S1x1024 : Shape := ⟨2, ![1, 1024]⟩
abbrev S1024x3584 : Shape := ⟨2, ![1024, 3584]⟩
abbrev S2x512 : Shape := ⟨2, ![2, 512]⟩
abbrev S1x512 : Shape := ⟨2, ![1, 512]⟩
abbrev S512x3 : Shape := ⟨2, ![512, 3]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S2x512, .f32⟩
  | .hbm, ⟨4, _⟩ => ⟨S1x512, .f32⟩
  | .hbm, ⟨5, _⟩ => ⟨S512x3, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x3584, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== MemKernel.lean ====
abbrev S256x1024 : Shape := ⟨2, ![256, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S256x2048 : Shape := ⟨2, ![256, 2048]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 7
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S256x2048, .bf16⟩
  | .local _ .vmem, ⟨0, _⟩ => ⟨S256x1024, .f32⟩
  | .local _ .vmem, ⟨1, _⟩ => ⟨S1x1024, .f32⟩
  | .local _ .vmem, ⟨2, _⟩ => ⟨S8x1024x256, .bf16⟩
  | .local _ .vmem, ⟨3, _⟩ => ⟨S256x2048, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== MemReferenceIdeal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x2048, .f32⟩
  | .hbm, ⟨19, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Reals.lean ====
/- Extended reals that are real: the arithmetic of the programs carried down to ℝ. -/
module

public import Idealize.ShloMosaic.PureOps.Ideal.Laws
public import Idealize.ShloMosaic.Lib.Pointwise.Tactic

@[expose] public section

noncomputable section

namespace Cert.Maths

open Idealize.ShloMosaic

/-- The small number under the square root of the norms, the float nearest to a millionth. -/
def eps : ℝ := 8796093 / 8796093022208

theorem eps_pos : 0 < eps := by norm_num [eps]

/-- The word of the small number is that number. -/
theorem bits_eps : Ideal.ofBits .f32 897988541#32 = ((eps : ℝ) : EReal) := by
  simp [Ideal.ofBits, Ideal.ieee, -EReal.coe_mul, eps]; norm_num

/-- The word of 1024. -/
theorem bits_1024 : Ideal.ofBits .f32 1149239296#32 = ((1024 : ℝ) : EReal) := by
  simp [Ideal.ofBits, Ideal.ieee, -EReal.coe_mul]; norm_num

/-- The word of a half. -/
theorem bits_half : Ideal.ofBits .f32 1056964608#32 = ((1 / 2 : ℝ) : EReal) := by
  simp [Ideal.ofBits, Ideal.ieee, -EReal.coe_mul]; norm_num

/-- The word of minus a half. -/
theorem bits_neg_half : Ideal.ofBits .f32 0xBF000000#32 = ((-1 / 2 : ℝ) : EReal) := by
  simp [Ideal.ofBits, Ideal.ieee, -EReal.coe_mul]; norm_num

/-- The word of one. -/
theorem bits_one : Ideal.ofBits .f32 0x3F800000#32 = ((1 : ℝ) : EReal) := by
  simp [Ideal.ofBits, Ideal.ieee, -EReal.coe_mul]; norm_num

/-- The word of two. -/
theorem bits_two : Ideal.ofBits .f32 0x40000000#32 = ((2 : ℝ) : EReal) := by
  simp [Ideal.ofBits, Ideal.ieee, -EReal.coe_mul]; norm_num

/-- The word of zero. -/
theorem bits_zero : Ideal.ofBits .f32 0x00000000#32 = ((0 : ℝ) : EReal) := by
  simp [Ideal.ofBits, Ideal.ieee, -EReal.coe_mul]

/-- The word of plus infinity. -/
theorem bits_top : Ideal.ofBits .f32 0x7F800000#32 = ⊤ := by
  simp [Ideal.ofBits, Ideal.ieee, -EReal.coe_mul]

/-- A finite sum of reals, taken among the extended reals, is the real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A quotient of reals with nonzero divisor is the real quotient. -/
theorem div_real {x y : ℝ} (h : y ≠ 0) : Ideal.div (x : EReal) (y : EReal) = ((x / y : ℝ) : EReal) := by
  rw [Ideal.div_coe h, ← EReal.coe_mul, mul_one_div]

/-- The reciprocal square root of a positive real. -/
theorem rsqrt_real {r : ℝ} (h : 0 < r) : Ideal.rsqrt (r : EReal) = (((√r)⁻¹ : ℝ) : EReal) := by
  rw [Ideal.rsqrt_coe, if_neg (not_lt.mpr h.le), if_neg h.ne']

theorem exp_real (r : ℝ) : Ideal.exp (r : EReal) = ((Real.exp r : ℝ) : EReal) := rfl

/-- One plus an exponential is not zero. -/
theorem one_add_exp_ne (x : ℝ) : 1 + Real.exp x ≠ 0 := by positivity

theorem ne_1024 : (1024 : ℝ) ≠ 0 := by norm_num

/-- A mean of squares plus the small number is positive. -/
theorem ms_pos {ι : Type*} (s : Finset ι) (x : ι → ℝ) : 0 < (∑ k ∈ s, x k * x k) / 1024 + eps :=
  add_pos_of_nonneg_of_pos (div_nonneg (Finset.sum_nonneg fun _ _ => mul_self_nonneg _) (by norm_num)) eps_pos

theorem ms_ne {ι : Type*} (s : Finset ι) (x : ι → ℝ) : (∑ k ∈ s, x k * x k) / 1024 + eps ≠ 0 := (ms_pos s x).ne'

/-- An extended real below infinity in absolute value is a real. -/
theorem exists_real {x : EReal} (h : max x (-x) < ⊤) : ∃ r : ℝ, x = (r : EReal) := by
  induction x with
  | bot => simp at h
  | top => simp at h
  | coe r => exact ⟨r, rfl⟩

/-- An array all of whose entries are below infinity in absolute value is an array of reals. -/
theorem exists_real_array {ι : Type*} (x : ι → EReal) (h : ∀ i, max (x i) (-(x i)) < ⊤) :
    ∃ r : ι → ℝ, x = fun i => (r i : EReal) :=
  ⟨fun i => (exists_real (h i)).choose, funext fun i => (exists_real (h i)).choose_spec⟩

/-- A real array of two axes among the extended reals. -/
def up {n k : ℕ} (f : Fin n → Fin k → ℝ) : Shape.Idx ⟨2, ![n, k]⟩ → EReal := fun i => (f (i 0) (i 1) : EReal)

theorem up_apply {n k : ℕ} (f : Fin n → Fin k → ℝ) (a : Fin n) (b : Fin k) : up f (ix2 a b) = ((f a b : ℝ) : EReal) := rfl

/-- Such an array at equal coordinates. -/
theorem up_congr {n k : ℕ} (f : Fin n → Fin k → ℝ) (a : Fin n) (b : Fin k) (i : Shape.Idx ⟨2, ![n, k]⟩)
    (ha : (i 0).val = a.val) (hb : (i 1).val = b.val) : ((f a b : ℝ) : EReal) = up f i := by
  have h0 : i 0 = a := Fin.ext ha
  have h1 : i 1 = b := Fin.ext hb
  rw [up, h0, h1]

/-- The reciprocal root mean square of a row of 1024. -/
def rinv {n : ℕ} (x : Fin n → ℝ) : ℝ := (√((∑ k, x k * x k) / 1024 + eps))⁻¹

/-- The square of the reciprocal root mean square. -/
theorem rinv_sq {n : ℕ} (x : Fin n → ℝ) : rinv x * rinv x = 1 / ((∑ k, x k * x k) / 1024 + eps) := by
  unfold rinv
  rw [← mul_inv, Real.mul_self_sqrt (ms_pos _ _).le, one_div]

/-- The logistic function. -/
def sg (a : ℝ) : ℝ := 1 / (1 + Real.exp (0 - a))

theorem sg_eq (a : ℝ) : sg a = 1 / (1 + Real.exp (-a)) := by unfold sg; rw [zero_sub]

/-- The gradient of a row's norm with residual, from the gradient of the normed row: the backward pass's formula
    (dividing by the root mean square once) and the chain rule's (through the mean of squares) agree. -/
theorem rms_bwd_eq (x p : Fin 1024 → ℝ) (j : Fin 1024) :
    rinv x * (p j - x j * rinv x * ((∑ k, p k * (x k * rinv x)) / 1024))
      = p j * rinv x
        + 2 * (x j * ((∑ k, x k * p k) * ((-1 / 2) * (rinv x / ((∑ k, x k * x k) / 1024 + eps))) / 1024)) := by
  have h : rinv x / ((∑ k, x k * x k) / 1024 + eps) = rinv x * (rinv x * rinv x) := by
    rw [rinv_sq, mul_one_div]
  have hs : (∑ k, p k * (x k * rinv x)) = (∑ k, x k * p k) * rinv x := by
    rw [Finset.sum_mul]; exact Finset.sum_congr rfl fun k _ => by ring
  rw [h, hs]; ring

end Cert.Maths

end
-- ==== Proof.FfnSpec.lean ====
/- The gradient of the half-step over ℝ: RMSNorm, the gated feed-forward product and the residual, row by row. -/
module

public import proofs.«01_k».proof.Proof.Reals

@[expose] public section

noncomputable section

namespace Cert.Maths.Ffn

variable (X : Fin 4096 → Fin 1024 → ℝ) (G : Fin 1024 → ℝ) (WG WU : Fin 1024 → Fin 2816 → ℝ)
  (WD : Fin 2816 → Fin 1024 → ℝ) (CT : Fin 4096 → Fin 1024 → ℝ)

/-- The normed row. -/
def H (i : Fin 4096) (k : Fin 1024) : ℝ := X i k * rinv (X i) * G k

/-- A projection of the normed row: the gate's preactivation, or the value's. -/
def A (W : Fin 1024 → Fin 2816 → ℝ) (i : Fin 4096) (f : Fin 2816) : ℝ := ∑ k, H X G i k * W k f

/-- The gradient at the gated product. -/
def DS (i : Fin 4096) (f : Fin 2816) : ℝ := ∑ k, 1 / 2 * CT i k * WD f k

/-- The gradient at the gate's preactivation. -/
def DA (i : Fin 4096) (f : Fin 2816) : ℝ :=
  DS WD CT i f * A X G WU i f * (sg (A X G WG i f) * (1 + A X G WG i f * (1 - sg (A X G WG i f))))

/-- The gradient at the value's projection. -/
def DB (i : Fin 4096) (f : Fin 2816) : ℝ := DS WD CT i f * (A X G WG i f * sg (A X G WG i f))

/-- The gradient at the normed row. -/
def DH (i : Fin 4096) (k : Fin 1024) : ℝ :=
  ∑ f, DA X G WG WU WD CT i f * WG k f + ∑ f, DB X G WG WD CT i f * WU k f

/-- The gradient at the row, with the residual's share. -/
def DX (i : Fin 4096) (k : Fin 1024) : ℝ :=
  rinv (X i) * (DH X G WG WU WD CT i k * G k
    - X i k * rinv (X i) * ((∑ l, DH X G WG WU WD CT i l * G l * (X i l * rinv (X i))) / 1024)) + CT i k

/-- The gradient at the norm's gain. -/
def DG (k : Fin 1024) : ℝ := ∑ i, DH X G WG WU WD CT i k * (X i k * rinv (X i))

/-- The chain rule through `a · σ(a)` as the automatic derivative writes it. -/
theorem DA_eq (i : Fin 4096) (f : Fin 2816) :
    DS WD CT i f * A X G WU i f * sg (A X G WG i f)
        + A X G WG i f * (DS WD CT i f * A X G WU i f) * (sg (A X G WG i f) * (1 - sg (A X G WG i f)))
      = DA X G WG WU WD CT i f := by
  unfold DA; ring

/-- The chain rule through the norm and the residual as the automatic derivative writes it. -/
theorem DX_eq (i : Fin 4096) (k : Fin 1024) :
    CT i k + DH X G WG WU WD CT i k * G k * rinv (X i)
        + 2 * (X i k * ((∑ l, X i l * (DH X G WG WU WD CT i l * G l))
            * ((-1 / 2) * (rinv (X i) / ((∑ l, X i l * X i l) / 1024 + eps))) / 1024))
      = DX X G WG WU WD CT i k := by
  unfold DX
  rw [rms_bwd_eq (X i) (fun l => DH X G WG WU WD CT i l * G l) k]
  ring

end Cert.Maths.Ffn

end
-- ==== Proof.FfnTile.lean ====
/- One tile of the kernel's half-step gradient, read over ℝ. -/
module

public import proofs.«01_k».proof.Proof.Gen.KernelIdeal.Value
public import proofs.«01_k».proof.Proof.FfnSpec
public import Idealize.ShloMosaic.Lib.Pipeline.ValueKit
public import Idealize.ShloMosaic.Lib.Pointwise.Tactic
public import Idealize.ShloMosaic.Lib.StableHlo.ReadAt

@[expose] public section

noncomputable section

namespace Cert.Proof.Ffn

open Cert.KernelIdeal Cert.KernelIdeal.Gen Idealize.ShloMosaic Idealize.ShloMosaic.TcCoe Idealize.SL.Sem
open Idealize.ShloMosaic.Pipeline (Dat)
open Cert.Maths Cert.Maths.Ffn

/-- Row `i` of tile `t` as a row of the array. -/
def row (t : Fin cfg0.N) (i : Fin 256) : Fin 4096 := ⟨t.val * 256 + i.val, by have := t.isLt; have : cfg0.N = 16 := rfl; omega⟩

/-- The arguments on device `c` are these real arrays. -/
structure Holds (m : (ℓ : Loc nD τ sig) → Buf (Elt Ideal) ℓ) (c : Dev nD)
    (X : Fin 4096 → Fin 1024 → ℝ) (G : Fin 1024 → ℝ) (WG WU : Fin 1024 → Fin 2816 → ℝ)
    (WD : Fin 2816 → Fin 1024 → ℝ) (CT : Fin 4096 → Fin 1024 → ℝ) : Prop where
  x : ∀ i k, (m (c, Proc.tc.devRef main_arg0) : S4096x1024.Idx → EReal) (ix2 i k) = (X i k : EReal)
  g : ∀ i k, (m (c, Proc.tc.devRef main_arg1) : S1x1024.Idx → EReal) (ix2 i k) = (G k : EReal)
  wg : ∀ i k, (m (c, Proc.tc.devRef main_arg2) : S1024x2816.Idx → EReal) (ix2 i k) = (WG i k : EReal)
  wu : ∀ i k, (m (c, Proc.tc.devRef main_arg3) : S1024x2816.Idx → EReal) (ix2 i k) = (WU i k : EReal)
  wd : ∀ i k, (m (c, Proc.tc.devRef main_arg4) : S2816x1024.Idx → EReal) (ix2 i k) = (WD i k : EReal)
  ct : ∀ i k, (m (c, Proc.tc.devRef main_arg5) : S4096x1024.Idx → EReal) (ix2 i k) = (CT i k : EReal)

variable {m : (ℓ : Loc nD τ sig) → Buf (Elt Ideal) ℓ} {c : Dev nD}
  {X : Fin 4096 → Fin 1024 → ℝ} {G : Fin 1024 → ℝ} {WG WU : Fin 1024 → Fin 2816 → ℝ}
  {WD : Fin 2816 → Fin 1024 → ℝ} {CT : Fin 4096 → Fin 1024 → ℝ}

/-- The gate's preactivation saved for the backward pass. -/
theorem saved_a (h : Holds m c X G WG WU WD CT) (i : Fin 4096) (f : Fin 2816) :
    (V m c main_v13 : S4096x2816.Idx → EReal) (ix2 i f) = (A X G WG i f : EReal) := by
  unfold V
  after_reads_at
  simp only [h.x, h.g, h.wg, bits_1024, bits_eps, ← EReal.coe_mul, ← coe_sum, div_real ne_1024, ← EReal.coe_add,
    rsqrt_real (ms_pos _ _)]
  rfl

/-- The value's projection saved for the backward pass. -/
theorem saved_b (h : Holds m c X G WG WU WD CT) (i : Fin 4096) (f : Fin 2816) :
    (V m c main_v15 : S4096x2816.Idx → EReal) (ix2 i f) = (A X G WU i f : EReal) := by
  unfold V
  after_reads_at
  simp only [h.x, h.g, h.wu, bits_1024, bits_eps, ← EReal.coe_mul, ← coe_sum, div_real ne_1024, ← EReal.coe_add,
    rsqrt_real (ms_pos _ _)]
  rfl

/-- The gate's weights as the call takes them, transposed. -/
theorem weight_g (h : Holds m c X G WG WU WD CT) (f : Fin 2816) (k : Fin 1024) :
    (V m c main_v17 : S2816x1024.Idx → EReal) (ix2 f k) = (WG k f : EReal) := by
  unfold V
  after_reads_at
  exact h.wg _ _

/-- The value's weights as the call takes them, transposed. -/
theorem weight_u (h : Holds m c X G WG WU WD CT) (f : Fin 2816) (k : Fin 1024) :
    (V m c main_v19 : S2816x1024.Idx → EReal) (ix2 f k) = (WU k f : EReal) := by
  unfold V
  after_reads_at
  exact h.wu _ _

/-- The output weights as the call takes them. -/
theorem weight_d (h : Holds m c X G WG WU WD CT) (f : Fin 2816) (k : Fin 1024) :
    (V m c main_v20 : S2816x1024.Idx → EReal) (ix2 f k) = (WD f k : EReal) := by
  unfold V
  after_reads_at
  exact h.wd _ _

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![t.val, 0] := by decide +kernel
theorem index9 : ∀ t : Fin cfg0.N, win0_9.index t = ![t.val, 0] := by decide +kernel
theorem index10 : ∀ t : Fin cfg0.N, win0_10.index t = ![t.val, 0] := by decide +kernel
theorem index11 : ∀ t : Fin cfg0.N, win0_11.index t = ![t.val, 0] := by decide +kernel

/-- The tile of the rows. -/
theorem tile_x (h : Holds m c X G WG WU WD CT) (t : Fin cfg0.N) (i : Fin 256) (k : Fin 1024) :
    (iblk m c 0 t : S256x1024.Idx → EReal) (ix2 i k) = (X (row t i) k : EReal) := by
  blk_simp [iblk]
  rw [V_main_arg0]
  refine Eq.trans (congrArg _ (?_ : _ = ix2 (row t i) k)) (h.x _ _)
  funext a; refine Fin.ext ?_
  fin_cases a <;> blk_simp [index0] <;> simp [row]

/-- The gain, whole at every tile. -/
theorem tile_g (h : Holds m c X G WG WU WD CT) (t : Fin cfg0.N) (i : Fin 1) (k : Fin 1024) :
    (iblk m c 1 t : S1x1024.Idx → EReal) (ix2 i k) = (G k : EReal) := by
  blk_simp [iblk]
  rw [V_main_arg1]
  refine Eq.trans (congrArg _ (?_ : _ = ix2 i k)) (h.g _ _)
  funext a; refine Fin.ext ?_
  fin_cases a <;> blk_simp [index1] <;> simp [row]

/-- The tile of the incoming gradient. -/
theorem tile_ct (h : Holds m c X G WG WU WD CT) (t : Fin cfg0.N) (i : Fin 256) (k : Fin 1024) :
    (iblk m c 2 t : S256x1024.Idx → EReal) (ix2 i k) = (CT (row t i) k : EReal) := by
  blk_simp [iblk]
  rw [V_main_arg5]
  refine Eq.trans (congrArg _ (?_ : _ = ix2 (row t i) k)) (h.ct _ _)
  funext a; refine Fin.ext ?_
  fin_cases a <;> blk_simp [index2] <;> simp [row]

/-- The tile of the gate's preactivation. -/
theorem tile_a (h : Holds m c X G WG WU WD CT) (t : Fin cfg0.N) (i : Fin 256) (k : Fin 2816) :
    (iblk m c 3 t : S256x2816.Idx → EReal) (ix2 i k) = (A X G WG (row t i) k : EReal) := by
  blk_simp [iblk]
  refine Eq.trans (congrArg _ (?_ : _ = ix2 (row t i) k)) (saved_a h _ _)
  funext a; refine Fin.ext ?_
  fin_cases a <;> blk_simp [index3] <;> simp [row]

/-- The tile of the value's projection. -/
theorem tile_b (h : Holds m c X G WG WU WD CT) (t : Fin cfg0.N) (i : Fin 256) (k : Fin 2816) :
    (iblk m c 4 t : S256x2816.Idx → EReal) (ix2 i k) = (A X G WU (row t i) k : EReal) := by
  blk_simp [iblk]
  refine Eq.trans (congrArg _ (?_ : _ = ix2 (row t i) k)) (saved_b h _ _)
  funext a; refine Fin.ext ?_
  fin_cases a <;> blk_simp [index4] <;> simp [row]

/-- The gate's weights, whole at every tile. -/
theorem tile_wg (h : Holds m c X G WG WU WD CT) (t : Fin cfg0.N) (i : Fin 2816) (k : Fin 1024) :
    (iblk m c 5 t : S2816x1024.Idx → EReal) (ix2 i k) = (WG k i : EReal) := by
  blk_simp [iblk]
  refine Eq.trans (congrArg _ (?_ : _ = ix2 i k)) (weight_g h _ _)
  funext a; refine Fin.ext ?_
  fin_cases a <;> blk_simp [index5] <;> simp [row]

/-- The value's weights, whole at every tile. -/
theorem tile_wu (h : Holds m c X G WG WU WD CT) (t : Fin cfg0.N) (i : Fin 2816) (k : Fin 1024) :
    (iblk m c 6 t : S2816x1024.Idx → EReal) (ix2 i k) = (WU k i : EReal) := by
  blk_simp [iblk]
  refine Eq.trans (congrArg _ (?_ : _ = ix2 i k)) (weight_u h _ _)
  funext a; refine Fin.ext ?_
  fin_cases a <;> blk_simp [index6] <;> simp [row]

/-- The output weights, whole at every tile. -/
theorem tile_wd (h : Holds m c X G WG WU WD CT) (t : Fin cfg0.N) (i : Fin 2816) (k : Fin 1024) :
    (iblk m c 7 t : S2816x1024.Idx → EReal) (ix2 i k) = (WD i k : EReal) := by
  blk_simp [iblk]
  refine Eq.trans (congrArg _ (?_ : _ = ix2 i k)) (weight_d h _ _)
  funext a; refine Fin.ext ?_
  fin_cases a <;> blk_simp [index7] <;> simp [row]

/-- The tile of the gradient at the rows, at the first tile. -/
theorem out_dx_A (h : Holds m c X G WG WU WD CT) (t : Fin cfg0.N) (ht : t.val % 16 = 0) (i : Fin 256) (k : Fin 1024) :
    ((outsAt0 m c t.val t.isLt).1 : S256x1024.Idx → EReal) (ix2 i k) = (DX X G WG WU WD CT (row t i) k : EReal) := by
  rw [outsAt0_A m c t ht]
  frame_out
  unfold_payloads
  pointwise
  simp only [tile_x h, tile_g h, tile_ct h, tile_a h, tile_b h, tile_wg h, tile_wu h, tile_wd h, bits_1024, bits_eps,
    bits_half, ← EReal.coe_one, ← EReal.coe_zero, ← EReal.coe_mul, ← coe_sum, div_real ne_1024, ← EReal.coe_add,
    ← EReal.coe_sub, exp_real, div_real (one_add_exp_ne _), rsqrt_real (ms_pos _ _)]
  rfl

/-- The tile of the gradient at the rows, at a later tile. -/
theorem out_dx_B (h : Holds m c X G WG WU WD CT) (t : Fin cfg0.N) (ht : ¬t.val % 16 = 0) (i : Fin 256) (k : Fin 1024) :
    ((outsAt0 m c t.val t.isLt).1 : S256x1024.Idx → EReal) (ix2 i k) = (DX X G WG WU WD CT (row t i) k : EReal) := by
  rw [outsAt0_B m c t ht]
  frame_out
  unfold_payloads
  pointwise
  simp only [tile_x h, tile_g h, tile_ct h, tile_a h, tile_b h, tile_wg h, tile_wu h, tile_wd h, bits_1024, bits_eps,
    bits_half, ← EReal.coe_one, ← EReal.coe_zero, ← EReal.coe_mul, ← coe_sum, div_real ne_1024, ← EReal.coe_add,
    ← EReal.coe_sub, exp_real, div_real (one_add_exp_ne _), rsqrt_real (ms_pos _ _)]
  rfl

/-- The tile of the gradient at the rows. -/
theorem out_dx (h : Holds m c X G WG WU WD CT) (t : Fin cfg0.N) (i : Fin 256) (k : Fin 1024) :
    ((outsAt0 m c t.val t.isLt).1 : S256x1024.Idx → EReal) (ix2 i k) = (DX X G WG WU WD CT (row t i) k : EReal) :=
  if ht : t.val % 16 = 0 then out_dx_A h t ht i k else out_dx_B h t ht i k

/-- The tile of the gradient at the gate's preactivation, at the first tile. -/
theorem out_da_A (h : Holds m c X G WG WU WD CT) (t : Fin cfg0.N) (ht : t.val % 16 = 0) (i : Fin 256) (k : Fin 2816) :
    ((outsAt0 m c t.val t.isLt).2.1 : S256x2816.Idx → EReal) (ix2 i k) = (DA X G WG WU WD CT (row t i) k : EReal) := by
  rw [outsAt0_A m c t ht]
  frame_out
  unfold_payloads
  pointwise
  simp only [tile_x h, tile_g h, tile_ct h, tile_a h, tile_b h, tile_wg h, tile_wu h, tile_wd h, bits_1024, bits_eps,
    bits_half, ← EReal.coe_one, ← EReal.coe_zero, ← EReal.coe_mul, ← coe_sum, div_real ne_1024, ← EReal.coe_add,
    ← EReal.coe_sub, exp_real, div_real (one_add_exp_ne _), rsqrt_real (ms_pos _ _)]
  rfl

/-- The tile of the gradient at the gate's preactivation, at a later tile. -/
theorem out_da_B (h : Holds m c X G WG WU WD CT) (t : Fin cfg0.N) (ht : ¬t.val % 16 = 0) (i : Fin 256) (k : Fin 2816) :
    ((outsAt0 m c t.val t.isLt).2.1 : S256x2816.Idx → EReal) (ix2 i k) = (DA X G WG WU WD CT (row t i) k : EReal) := by
  rw [outsAt0_B m c t ht]
  frame_out
  unfold_payloads
  pointwise
  simp only [tile_x h, tile_g h, tile_ct h, tile_a h, tile_b h, tile_wg h, tile_wu h, tile_wd h, bits_1024, bits_eps,
    bits_half, ← EReal.coe_one, ← EReal.coe_zero, ← EReal.coe_mul, ← coe_sum, div_real ne_1024, ← EReal.coe_add,
    ← EReal.coe_sub, exp_real, div_real (one_add_exp_ne _), rsqrt_real (ms_pos _ _)]
  rfl

/-- The tile of the gradient at the gate's preactivation. -/
theorem out_da (h : Holds m c X G WG WU WD CT) (t : Fin cfg0.N) (i : Fin 256) (k : Fin 2816) :
    ((outsAt0 m c t.val t.isLt).2.1 : S256x2816.Idx → EReal) (ix2 i k) = (DA X G WG WU WD CT (row t i) k : EReal) :=
  if ht : t.val % 16 = 0 then out_da_A h t ht i k else out_da_B h t ht i k

/-- The tile of the gradient at the value's projection, at the first tile. -/
theorem out_db_A (h : Holds m c X G WG WU WD CT) (t : Fin cfg0.N) (ht : t.val % 16 = 0) (i : Fin 256) (k : Fin 2816) :
    ((outsAt0 m c t.val t.isLt).2.2.1 : S256x2816.Idx → EReal) (ix2 i k) = (DB X G WG WD CT (row t i) k : EReal) := by
  rw [outsAt0_A m c t ht]
  frame_out
  unfold_payloads
  pointwise
  simp only [tile_x h, tile_g h, tile_ct h, tile_a h, tile_b h, tile_wg h, tile_wu h, tile_wd h, bits_1024, bits_eps,
    bits_half, ← EReal.coe_one, ← EReal.coe_zero, ← EReal.coe_mul, ← coe_sum, div_real ne_1024, ← EReal.coe_add,
    ← EReal.coe_sub, exp_real, div_real (one_add_exp_ne _), rsqrt_real (ms_pos _ _)]
  rfl

/-- The tile of the gradient at the value's projection, at a later tile. -/
theorem out_db_B (h : Holds m c X G WG WU WD CT) (t : Fin cfg0.N) (ht : ¬t.val % 16 = 0) (i : Fin 256) (k : Fin 2816) :
    ((outsAt0 m c t.val t.isLt).2.2.1 : S256x2816.Idx → EReal) (ix2 i k) = (DB X G WG WD CT (row t i) k : EReal) := by
  rw [outsAt0_B m c t ht]
  frame_out
  unfold_payloads
  pointwise
  simp only [tile_x h, tile_g h, tile_ct h, tile_a h, tile_b h, tile_wg h, tile_wu h, tile_wd h, bits_1024, bits_eps,
    bits_half, ← EReal.coe_one, ← EReal.coe_zero, ← EReal.coe_mul, ← coe_sum, div_real ne_1024, ← EReal.coe_add,
    ← EReal.coe_sub, exp_real, div_real (one_add_exp_ne _), rsqrt_real (ms_pos _ _)]
  rfl

/-- The tile of the gradient at the value's projection. -/
theorem out_db (h : Holds m c X G WG WU WD CT) (t : Fin cfg0.N) (i : Fin 256) (k : Fin 2816) :
    ((outsAt0 m c t.val t.isLt).2.2.1 : S256x2816.Idx → EReal) (ix2 i k) = (DB X G WG WD CT (row t i) k : EReal) :=
  if ht : t.val % 16 = 0 then out_db_A h t ht i k else out_db_B h t ht i k

/-- The tile of the normed rows, at the first tile. -/
theorem out_h_A (h : Holds m c X G WG WU WD CT) (t : Fin cfg0.N) (ht : t.val % 16 = 0) (i : Fin 256) (k : Fin 1024) :
    ((outsAt0 m c t.val t.isLt).2.2.2.1 : S256x1024.Idx → EReal) (ix2 i k) = (H X G (row t i) k : EReal) := by
  rw [outsAt0_A m c t ht]
  frame_out
  unfold_payloads
  pointwise
  simp only [tile_x h, tile_g h, tile_ct h, tile_a h, tile_b h, tile_wg h, tile_wu h, tile_wd h, bits_1024, bits_eps,
    bits_half, ← EReal.coe_one, ← EReal.coe_zero, ← EReal.coe_mul, ← coe_sum, div_real ne_1024, ← EReal.coe_add,
    ← EReal.coe_sub, exp_real, div_real (one_add_exp_ne _), rsqrt_real (ms_pos _ _)]
  rfl

/-- The tile of the normed rows, at a later tile. -/
theorem out_h_B (h : Holds m c X G WG WU WD CT) (t : Fin cfg0.N) (ht : ¬t.val % 16 = 0) (i : Fin 256) (k : Fin 1024) :
    ((outsAt0 m c t.val t.isLt).2.2.2.1 : S256x1024.Idx → EReal) (ix2 i k) = (H X G (row t i) k : EReal) := by
  rw [outsAt0_B m c t ht]
  frame_out
  unfold_payloads
  pointwise
  simp only [tile_x h, tile_g h, tile_ct h, tile_a h, tile_b h, tile_wg h, tile_wu h, tile_wd h, bits_1024, bits_eps,
    bits_half, ← EReal.coe_one, ← EReal.coe_zero, ← EReal.coe_mul, ← coe_sum, div_real ne_1024, ← EReal.coe_add,
    ← EReal.coe_sub, exp_real, div_real (one_add_exp_ne _), rsqrt_real (ms_pos _ _)]
  rfl

/-- The tile of the normed rows. -/
theorem out_h (h : Holds m c X G WG WU WD CT) (t : Fin cfg0.N) (i : Fin 256) (k : Fin 1024) :
    ((outsAt0 m c t.val t.isLt).2.2.2.1 : S256x1024.Idx → EReal) (ix2 i k) = (H X G (row t i) k : EReal) :=
  if ht : t.val % 16 = 0 then out_h_A h t ht i k else out_h_B h t ht i k

/-- The gain's gradient after the first tile: its own share. -/
theorem out_dg_A (h : Holds m c X G WG WU WD CT) (t : Fin cfg0.N) (ht : t.val % 16 = 0) (i : Fin 1) (k : Fin 1024) :
    ((outsAt0 m c t.val t.isLt).2.2.2.2 : S1x1024.Idx → EReal) (ix2 i k)
      = ((∑ j : Fin 256, DH X G WG WU WD CT (row t j) k * (X (row t j) k * rinv (X (row t j))) : ℝ) : EReal) := by
  rw [outsAt0_A m c t ht]
  frame_out
  unfold_payloads
  pointwise
  simp only [tile_x h, tile_g h, tile_ct h, tile_a h, tile_b h, tile_wg h, tile_wu h, tile_wd h, bits_1024, bits_eps,
    bits_half, ← EReal.coe_one, ← EReal.coe_zero, ← EReal.coe_mul, ← coe_sum, div_real ne_1024, ← EReal.coe_add,
    ← EReal.coe_sub, exp_real, div_real (one_add_exp_ne _), rsqrt_real (ms_pos _ _)]
  rfl

/-- The gain's gradient after a later tile: what was there and the tile's share. -/
theorem out_dg_B (h : Holds m c X G WG WU WD CT) (t : Fin cfg0.N) (ht : ¬t.val % 16 = 0) (i : Fin 1) (k : Fin 1024) :
    ((outsAt0 m c t.val t.isLt).2.2.2.2 : S1x1024.Idx → EReal) (ix2 i k)
      = (outsAt0 m c (t.val - 1) (Nat.lt_of_le_of_lt (Nat.sub_le _ _) t.isLt)).2.2.2.2 (ix2 i k)
        + ((∑ j : Fin 256, DH X G WG WU WD CT (row t j) k * (X (row t j) k * rinv (X (row t j))) : ℝ) : EReal) := by
  rw [outsAt0_B m c t ht]
  frame_out
  unfold_payloads
  pointwise
  simp only [tile_x h, tile_g h, tile_ct h, tile_a h, tile_b h, tile_wg h, tile_wu h, tile_wd h, bits_1024, bits_eps,
    bits_half, ← EReal.coe_one, ← EReal.coe_zero, ← EReal.coe_mul, ← coe_sum, div_real ne_1024, ← EReal.coe_add,
    ← EReal.coe_sub, exp_real, div_real (one_add_exp_ne _), rsqrt_real (ms_pos _ _)]
  rfl

end Cert.Proof.Ffn

end
-- ==== Proof.FfnArray.lean ====
/- The arrays the kernel's half-step gradient leaves, over ℝ. -/
module

public import proofs.«01_k».proof.Proof.FfnTile

@[expose] public section

noncomputable section

namespace Cert.Proof.Ffn

open Cert.KernelIdeal Cert.KernelIdeal.Gen Idealize.ShloMosaic Idealize.ShloMosaic.TcCoe Idealize.SL.Sem
open Idealize.ShloMosaic.Pipeline (Dat)
open Cert.Maths Cert.Maths.Ffn

variable {m : (ℓ : Loc nD τ sig) → Buf (Elt Ideal) ℓ} {c : Dev nD}
  {X : Fin 4096 → Fin 1024 → ℝ} {G : Fin 1024 → ℝ} {WG WU : Fin 1024 → Fin 2816 → ℝ}
  {WD : Fin 2816 → Fin 1024 → ℝ} {CT : Fin 4096 → Fin 1024 → ℝ}

/-- The array of the gradient at the rows. -/
theorem arr_dx (h : Holds m c X G WG WU WD CT) :
    ((dats m 0 c).arrAt 8 cfg0.N : S4096x1024.Idx → EReal) = up (DX X G WG WU WD CT) := by
  refine (dats m 0 c).arrAt_eq_of_covers 8 _ (by decide +kernel) fun t hf y => ?_
  blk_simp
  rw [after0_8]
  have hy : (y : S256x1024.Idx) = ix2 (y 0) (y 1) := by funext a; fin_cases a <;> rfl
  refine (congrArg _ hy).trans ((out_dx h t (y 0) (y 1)).trans (up_congr _ _ _ _ ?_ ?_))
  · blk_simp [index8]; rfl
  · blk_simp [index8]

/-- The array of the gradient at the gate's preactivation. -/
theorem arr_da (h : Holds m c X G WG WU WD CT) :
    ((dats m 0 c).arrAt 9 cfg0.N : S4096x2816.Idx → EReal) = up (DA X G WG WU WD CT) := by
  refine (dats m 0 c).arrAt_eq_of_covers 9 _ (by decide +kernel) fun t hf y => ?_
  blk_simp
  rw [after0_9]
  have hy : (y : S256x2816.Idx) = ix2 (y 0) (y 1) := by funext a; fin_cases a <;> rfl
  refine (congrArg _ hy).trans ((out_da h t (y 0) (y 1)).trans (up_congr _ _ _ _ ?_ ?_))
  · blk_simp [index9]; rfl
  · blk_simp [index9]

/-- The array of the gradient at the value's projection. -/
theorem arr_db (h : Holds m c X G WG WU WD CT) :
    ((dats m 0 c).arrAt 10 cfg0.N : S4096x2816.Idx → EReal) = up (DB X G WG WD CT) := by
  refine (dats m 0 c).arrAt_eq_of_covers 10 _ (by decide +kernel) fun t hf y => ?_
  blk_simp
  rw [after0_10]
  have hy : (y : S256x2816.Idx) = ix2 (y 0) (y 1) := by funext a; fin_cases a <;> rfl
  refine (congrArg _ hy).trans ((out_db h t (y 0) (y 1)).trans (up_congr _ _ _ _ ?_ ?_))
  · blk_simp [index10]; rfl
  · blk_simp [index10]

/-- The array of the normed rows. -/
theorem arr_h (h : Holds m c X G WG WU WD CT) :
    ((dats m 0 c).arrAt 11 cfg0.N : S4096x1024.Idx → EReal) = up (H X G) := by
  refine (dats m 0 c).arrAt_eq_of_covers 11 _ (by decide +kernel) fun t hf y => ?_
  blk_simp
  rw [after0_11]
  have hy : (y : S256x1024.Idx) = ix2 (y 0) (y 1) := by funext a; fin_cases a <;> rfl
  refine (congrArg _ hy).trans ((out_h h t (y 0) (y 1)).trans (up_congr _ _ _ _ ?_ ?_))
  · blk_simp [index11]; rfl
  · blk_simp [index11]

/-- The gain's gradient after the last tile: the shares of all rows. -/
theorem last_dg (h : Holds m c X G WG WU WD CT) (k : Fin 1024) :
    ((outsAt0 m c t0_15.val t0_15.isLt).2.2.2.2 : S1x1024.Idx → EReal) (ix2 0 k) = (DG X G WG WU WD CT k : EReal) := by
  rw [Pipeline.eq_sum_fin_of_reset_step_last
    (fun n h => ((outsAt0 m c n h).2.2.2.2 : S1x1024.Idx → EReal) (ix2 0 k)) 16 0
    (fun t => ((∑ j : Fin 256, DH X G WG WU WD CT (row t j) k * (X (row t j) k * rinv (X (row t j))) : ℝ) : EReal))
    (fun t ht => by rw [zero_add]; exact out_dg_A h t ht 0 k) (fun t ht => out_dg_B h t ht 0 k)
    (le_of_eq N_0) t0_15 rfl, zero_add, ← coe_sum]
  refine congrArg _ ?_
  exact Fin.sum_mul_add_fin (S := 16) (n := 256) (L := 4096)
    (fun i => DH X G WG WU WD CT i k * (X i k * rinv (X i)))

/-- The array of the gain's gradient. -/
theorem arr_dg (h : Holds m c X G WG WU WD CT) :
    ((dats m 0 c).arrAt 12 cfg0.N : S1x1024.Idx → EReal) = up fun _ k => DG X G WG WU WD CT k := by
  refine (dats m 0 c).arrAt_eq_of_after_last 12 t0_15 (by decide +kernel) _ fun j => ?_
  blk_simp
  rw [after0_12]
  have hy : (j : S1x1024.Idx) = ix2 0 (j 1) := by
    funext a; fin_cases a
    · exact Subsingleton.elim (α := Fin 1) _ _
    · rfl
  refine (congrArg _ hy).trans ((last_dg h (j 1)).trans ?_)
  rfl

end Cert.Proof.Ffn

end
-- ==== Proof.FfnRef.lean ====
/- The reference's half-step gradient, read over ℝ. -/
module

public import proofs.«01_k».proof.Proof.Gen.ReferenceIdeal.Read
public import proofs.«01_k».proof.Proof.FfnSpec
public import Idealize.ShloMosaic.Lib.Pipeline.ValueKit
public import Idealize.ShloMosaic.Lib.Pointwise.Tactic
public import Idealize.ShloMosaic.Lib.StableHlo.ReadAt

@[expose] public section

noncomputable section

namespace Cert.Proof.FfnRef

open Cert.ReferenceIdeal Cert.ReferenceIdeal.Gen Cert.ReferenceIdeal.Read Idealize.ShloMosaic Idealize.ShloMosaic.TcCoe Idealize.SL.Sem
open Cert.Maths Cert.Maths.Ffn

variable {X : Fin 4096 → Fin 1024 → ℝ} {G : Fin 1024 → ℝ} {WG WU : Fin 1024 → Fin 2816 → ℝ}
  {WD : Fin 2816 → Fin 1024 → ℝ} {CT : Fin 4096 → Fin 1024 → ℝ}

/-- The mean of squares of a row and the small number. -/
theorem ms (i : Fin 4096) (k : Fin 1) :
    (val_main_v7 (F := Ideal) (up X) : S4096x1.Idx → EReal) (ix2 i k) = (((∑ l, X i l * X i l) / 1024 + eps : ℝ) : EReal) := by
  unfold val_main_v7 val_main_v6 val_main_cst_2 val_main_v5 val_main_v4 val_main_cst_1 val_main_v3 val_main_v2 val_main_cst_0 val_main_v1
  pointwise
  simp only [up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]

/-- The reciprocal root mean square of a row. -/
theorem rs (i : Fin 4096) (k : Fin 1) :
    (val_main_v8 (F := Ideal) (up X) : S4096x1.Idx → EReal) (ix2 i k) = (rinv (X i) : EReal) := by
  unfold val_main_v8
  pointwise
  simp only [ms, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  rfl

/-- The row over its root mean square. -/
theorem xh (i : Fin 4096) (k : Fin 1024) :
    (val_main_v13 (F := Ideal) (up X) : S4096x1024.Idx → EReal) (ix2 i k) = ((X i k * rinv (X i) : ℝ) : EReal) := by
  unfold val_main_v13 val_main_v12
  pointwise
  simp only [rs, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]

/-- The normed row. -/
theorem hn (i : Fin 4096) (k : Fin 1024) :
    (val_main_v15 (F := Ideal) (up X) (up fun _ => G) : S4096x1024.Idx → EReal) (ix2 i k) = (H X G i k : EReal) := by
  unfold val_main_v15 val_main_v14
  pointwise
  simp only [xh, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  rfl

/-- The gate's preactivation. -/
theorem pa (i : Fin 4096) (k : Fin 2816) :
    (val_main_v17 (F := Ideal) (up X) (up fun _ => G) (up WG) : S4096x2816.Idx → EReal) (ix2 i k) = (A X G WG i k : EReal) := by
  unfold val_main_v17 val_main_v16 val_main_v0 val_main_cst
  pointwise
  simp only [hn, add_zero, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  rfl

/-- The value's projection. -/
theorem pb (i : Fin 4096) (k : Fin 2816) :
    (val_main_v19 (F := Ideal) (up X) (up fun _ => G) (up WU) : S4096x2816.Idx → EReal) (ix2 i k) = (A X G WU i k : EReal) := by
  unfold val_main_v19 val_main_v18 val_main_v0 val_main_cst
  pointwise
  simp only [hn, add_zero, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  rfl

/-- The logistic function of the gate. -/
theorem si (i : Fin 4096) (k : Fin 2816) :
    (val_main_v20_2 (F := Ideal) (up X) (up fun _ => G) (up WG) : S4096x2816.Idx → EReal) (ix2 i k) = (sg (A X G WG i k) : EReal) := by
  unfold val_main_v20_2 val_main_call0_v4 val_main_call0_cst_0 val_main_call0_v3 val_main_call0_v2 val_main_call0_cst val_main_call0_v1 val_main_call0_v0
  pointwise
  simp only [pa, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  exact congrArg _ (sg_eq _).symm

/-- The gradient at the gated product. -/
theorem ds (i : Fin 4096) (k : Fin 2816) :
    (val_main_v29 (F := Ideal) (up WD) (up CT) : S4096x2816.Idx → EReal) (ix2 i k) = (DS WD CT i k : EReal) := by
  unfold val_main_v29 val_main_v28 val_main_v27 val_main_cst_5 val_main_v26
  pointwise
  simp only [up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  rfl

/-- The gradient at the value's projection. -/
theorem db (i : Fin 4096) (k : Fin 2816) :
    (val_main_v30 (F := Ideal) (up X) (up fun _ => G) (up WG) (up WD) (up CT) : S4096x2816.Idx → EReal) (ix2 i k) = (DB X G WG WD CT i k : EReal) := by
  unfold val_main_v30 val_main_v20_0
  pointwise
  simp only [pa, si, ds, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  rw [DB, mul_comm]

/-- The gradient at the gate's preactivation. -/
theorem da (i : Fin 4096) (k : Fin 2816) :
    (val_main_v32 (F := Ideal) (up X) (up fun _ => G) (up WG) (up WU) (up WD) (up CT) : S4096x2816.Idx → EReal) (ix2 i k) = (DA X G WG WU WD CT i k : EReal) := by
  unfold val_main_v32 val_main_call1_v2 val_main_call1_v1 val_main_call1_v0 val_main_v31 val_main_v20_1 val_main_call0_v7 val_main_call0_v6 val_main_call0_cst_1
  pointwise
  simp only [pa, pb, si, ds, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  rw [DA_eq]

/-- The gradient at the normed row. -/
theorem dh (i : Fin 4096) (k : Fin 1024) :
    (val_main_v35 (F := Ideal) (up X) (up fun _ => G) (up WG) (up WU) (up WD) (up CT) : S4096x1024.Idx → EReal) (ix2 i k) = (DH X G WG WU WD CT i k : EReal) := by
  unfold val_main_v35 val_main_v34 val_main_v33
  pointwise
  simp only [da, db, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  rw [DH, add_comm]

/-- The normed rows, as returned. -/
theorem h_out (i : Fin 4096) (k : Fin 1024) :
    (val_main_v70 (F := Ideal) (up X) (up fun _ => G) : S4096x1024.Idx → EReal) (ix2 i k) = (H X G i k : EReal) := by
  unfold val_main_v70 val_main_v69 val_main_v68 val_main_v67 val_main_v66 val_main_v65 val_main_v64 val_main_v63 val_main_cst_12 val_main_v62 val_main_v61 val_main_cst_11 val_main_v60 val_main_v59 val_main_cst_10 val_main_v58
  pointwise
  simp only [up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  rfl

/-- The gradient at the gate's preactivation, as returned. -/
theorem da_out (i : Fin 4096) (k : Fin 2816) :
    (val_main_v56 (F := Ideal) (up X) (up fun _ => G) (up WG) (up WU) (up WD) (up CT) : S4096x2816.Idx → EReal) (ix2 i k) = (DA X G WG WU WD CT i k : EReal) := by
  unfold val_main_v56
  pointwise
  simp only [da, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]

/-- The gradient at the value's projection, as returned. -/
theorem db_out (i : Fin 4096) (k : Fin 2816) :
    (val_main_v57 (F := Ideal) (up X) (up fun _ => G) (up WG) (up WD) (up CT) : S4096x2816.Idx → EReal) (ix2 i k) = (DB X G WG WD CT i k : EReal) := by
  unfold val_main_v57
  pointwise
  simp only [db, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]

/-- The gradient at the rows. -/
theorem dx_out (i : Fin 4096) (k : Fin 1024) :
    (val_main_v55 (F := Ideal) (up X) (up fun _ => G) (up WG) (up WU) (up WD) (up CT) : S4096x1024.Idx → EReal) (ix2 i k) = (DX X G WG WU WD CT i k : EReal) := by
  unfold val_main_v55 val_main_v54 val_main_v53 val_main_v52 val_main_v51 val_main_v50 val_main_cst_9 val_main_v49 val_main_v48 val_main_cst_8 val_main_v47 val_main_v46 val_main_v45 val_main_v44 val_main_v43 val_main_v42 val_main_cst_7 val_main_v41 val_main_v40 val_main_v39 val_main_v11 val_main_v10 val_main_cst_3 val_main_v9
  pointwise
  simp only [dh, ms, rs, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  rw [← DX_eq, Finset.univ_unique, Finset.sum_singleton]
  refine congrArg _ ?_
  ring

/-- The gradient at the gain. -/
theorem dg_out (i : Fin 1) (k : Fin 1024) :
    (val_main_v38 (F := Ideal) (up X) (up fun _ => G) (up WG) (up WU) (up WD) (up CT) : S1x1024.Idx → EReal) (ix2 i k)
      = (DG X G WG WU WD CT k : EReal) := by
  unfold val_main_v38 val_main_v37 val_main_cst_6 val_main_v36
  pointwise
  simp only [xh, dh, up_apply, bits_zero, bits_one, bits_two, bits_half, bits_neg_half, bits_1024, bits_eps, ← EReal.coe_one, ← EReal.coe_zero,
    ← EReal.coe_mul, ← coe_sum, div_real ne_1024, ← EReal.coe_add, ← EReal.coe_sub, ← EReal.coe_neg, exp_real,
    div_real (one_add_exp_ne _), rsqrt_real (ms_pos _ _), div_real (ms_ne _ _), zero_add]
  rw [DG]
  exact congrArg _ (Finset.sum_congr rfl fun i _ => mul_comm _ _)

end Cert.Proof.FfnRef

end
-- ==== Proof.Precondition.lean ====
/- What the precondition says: the arguments are arrays of reals. -/
module

public import proofs.«01_k».proof.Defs
public import proofs.«01_k».proof.Proof.Reals
public import Idealize.ShloMosaic.Lib.Pipeline.ValueKit
public import Idealize.ShloMosaic.Lib.Pointwise.Tactic
public import Idealize.ShloMosaic.Lib.StableHlo.ReadAt

@[expose] public section

noncomputable section

namespace Cert.Proof

open Idealize.ShloMosaic Cert.Maths

/-- The side conditions of the precondition's own operations. -/
theorem preFacts : Cert.Pre_finite.Facts where
  bcast_S_S4096x1024 := by decide
  bcast_S_S1x1024 := by decide
  bcast_S_S1024x2816 := by decide
  bcast_S_S2816x1024 := by decide

/-- An array is a real array when each entry is that real. -/
theorem eq_up {n k : ℕ} (x : Shape.Idx ⟨2, ![n, k]⟩ → EReal) (f : Fin n → Fin k → ℝ) (h : ∀ i j, x (ix2 i j) = (f i j : EReal)) : x = up f := by
  funext y
  have hy : y = ix2 (y 0) (y 1) := by funext a; fin_cases a <;> rfl
  rw [hy]
  exact h _ _

/-- An array that the precondition calls finite is an array of reals. -/
theorem real_of_pre {n k : ℕ} (x : FVec Ideal ⟨2, ![n, k]⟩ .f32) (hb : (⟨0, ![]⟩ : Shape).BroadcastsInDim ⟨2, ![n, k]⟩ (![] : Fin 0 → Fin 2))
    (h : cmpf .olt (Host.absf x) (broadcastInDim ⟨2, ![n, k]⟩ ![] hb (constant ⟨0, ![]⟩ .f32 0x7F800000#32)) = fun _ => 1#1) :
    ∃ f : Fin n → Fin k → ℝ, x = up f := by
  obtain ⟨r, hr⟩ := exists_real_array (fun i => x i) fun i => by
    have hi := congrFun h i
    revert hi
    pointwise
    intro hi
    have hlt : max (x i) (-(x i)) < Ideal.ofBits .f32 0x7F800000#32 := by
      by_contra hn
      rw [show (FloatOps.absf (x i) : EReal) = max (x i) (-(x i)) from rfl, decide_eq_false hn] at hi
      exact absurd hi (by decide)
    rwa [bits_top] at hlt
  exact ⟨fun i j => r (ix2 i j), hr.trans (eq_up _ _ fun i j => rfl)⟩

end Cert.Proof

end
-- ==== Proof.FfnEquation.lean ====
/- The half-step's gradient: the arrays that the kernel leaves are the reference's. -/
module

public import proofs.«01_k».proof.Defs
public import proofs.«01_k».proof.Proof.FfnArray
public import proofs.«01_k».proof.Proof.FfnRef
public import proofs.«01_k».proof.Proof.Gen.KernelIdeal.Value
public import proofs.«01_k».proof.Proof.Gen.ReferenceIdeal.Run
public import proofs.«01_k».proof.Proof.Precondition

@[expose] public section

noncomputable section

namespace Cert.Proof.Ffn

open Idealize.ShloMosaic Idealize.ShloMosaic.TcCoe Idealize.SL.Sem
open Cert.Maths Cert.Maths.Ffn

local instance preFacts_inst : Cert.Pre_finite.Facts := preFacts

variable {X : Fin 4096 → Fin 1024 → ℝ} {G : Fin 1024 → ℝ} {WG WU : Fin 1024 → Fin 2816 → ℝ}
  {WD : Fin 2816 → Fin 1024 → ℝ} {CT : Fin 4096 → Fin 1024 → ℝ}

/-- A device whose arguments are finite has real arguments. -/
theorem holds_of_pre {m : (ℓ : Loc Cert.KernelIdeal.nD Cert.KernelIdeal.τ Cert.KernelIdeal.sig) → Buf (Elt Ideal) ℓ}
    (h : Cert.Pre_KernelIdeal_finite m) (c : Dev Cert.KernelIdeal.nD) :
    ∃ X G WG WU WD CT, Holds m c X G WG WU WD CT := by
  obtain ⟨h0, h1, h2, h3, h4, h5⟩ := h c
  obtain ⟨X, hX⟩ := real_of_pre _ _ h0
  obtain ⟨G, hG⟩ := real_of_pre _ _ h1
  obtain ⟨WG, hWG⟩ := real_of_pre _ _ h2
  obtain ⟨WU, hWU⟩ := real_of_pre _ _ h3
  obtain ⟨WD, hWD⟩ := real_of_pre _ _ h4
  obtain ⟨CT, hCT⟩ := real_of_pre _ _ h5
  refine ⟨X, G 0, WG, WU, WD, CT, ?_, ?_, ?_, ?_, ?_, ?_⟩
  · exact fun i k => congrFun hX _
  · exact fun i k => (congrFun hG _).trans (by rw [up_apply, Subsingleton.elim i 0])
  · exact fun i k => congrFun hWG _
  · exact fun i k => congrFun hWU _
  · exact fun i k => congrFun hWD _
  · exact fun i k => congrFun hCT _

/-- The reference's result, as an array of reals. -/
theorem ref_dx : (Cert.ReferenceIdeal.Read.val_main_v55 (F := Ideal) (up X) (up fun _ => G) (up WG) (up WU) (up WD) (up CT) : Cert.ReferenceIdeal.S4096x1024.Idx → EReal) = up (DX X G WG WU WD CT) :=
  eq_up _ _ fun i k => FfnRef.dx_out i k

/-- The reference's result, as an array of reals. -/
theorem ref_da : (Cert.ReferenceIdeal.Read.val_main_v56 (F := Ideal) (up X) (up fun _ => G) (up WG) (up WU) (up WD) (up CT) : Cert.ReferenceIdeal.S4096x2816.Idx → EReal) = up (DA X G WG WU WD CT) :=
  eq_up _ _ fun i k => FfnRef.da_out i k

/-- The reference's result, as an array of reals. -/
theorem ref_db : (Cert.ReferenceIdeal.Read.val_main_v57 (F := Ideal) (up X) (up fun _ => G) (up WG) (up WD) (up CT) : Cert.ReferenceIdeal.S4096x2816.Idx → EReal) = up (DB X G WG WD CT) :=
  eq_up _ _ fun i k => FfnRef.db_out i k

/-- The reference's result, as an array of reals. -/
theorem ref_h : (Cert.ReferenceIdeal.Read.val_main_v70 (F := Ideal) (up X) (up fun _ => G) : Cert.ReferenceIdeal.S4096x1024.Idx → EReal) = up (H X G) :=
  eq_up _ _ fun i k => FfnRef.h_out i k

/-- The reference's result, as an array of reals. -/
theorem ref_dg : (Cert.ReferenceIdeal.Read.val_main_v38 (F := Ideal) (up X) (up fun _ => G) (up WG) (up WU) (up WD) (up CT) : Cert.ReferenceIdeal.S1x1024.Idx → EReal) = (up fun _ k => DG X G WG WU WD CT k) :=
  eq_up _ _ fun i k => FfnRef.dg_out i k

/-- The value claim of the half-step's gradient. -/
theorem algebraic (hK : Cert.KernelIdeal.Facts) (hR : Cert.ReferenceIdeal.Facts) (hP : Cert.Pre_finite.Facts) :
    Cert.algebraic_KernelIdeal_ReferenceIdeal_pre_finite := by
  intro m g m' g' hpre heq
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, Cert.KernelIdeal.Value.run_blocks m g, ?_⟩
  refine (θ_run _ _ _).mono (fun r h c => ?_) (Cert.ReferenceIdeal.Value.run m' g')
  obtain ⟨r0, r1, r2, r3, r4, a0, a1, a2, a3, a4, a5⟩ := h c
  obtain ⟨X, G, WG, WU, WD, CT, hh⟩ := holds_of_pre hpre c
  obtain ⟨e0, e1, e2, e3, e4, e5⟩ := heq c
  have x0 := e0.trans (eq_up _ X hh.x)
  have x1 := e1.trans (eq_up _ (fun _ => G) hh.g)
  have x2 := e2.trans (eq_up _ WG hh.wg)
  have x3 := e3.trans (eq_up _ WU hh.wu)
  have x4 := e4.trans (eq_up _ WD hh.wd)
  have x5 := e5.trans (eq_up _ CT hh.ct)
  refine ⟨?_, ?_, ?_, ?_, ?_, a0, a1, a2, a3, a4, a5⟩
  · refine r0.trans ((Cert.ReferenceIdeal.Read.val_main_v55_eq m' c).trans (Eq.trans ?_ (ref_dx.trans (arr_dx hh).symm)))
    rw [x0, x1, x2, x3, x4, x5]
  · refine r1.trans ((Cert.ReferenceIdeal.Read.val_main_v56_eq m' c).trans (Eq.trans ?_ (ref_da.trans (arr_da hh).symm)))
    rw [x0, x1, x2, x3, x4, x5]
  · refine r2.trans ((Cert.ReferenceIdeal.Read.val_main_v57_eq _ _ _ _ _).trans (Eq.trans ?_ (ref_db.trans (arr_db hh).symm)))
    rw [x0, x1, x2, x4, x5]
  · refine r3.trans ((Cert.ReferenceIdeal.Read.val_main_v70_eq _ _).trans (Eq.trans ?_ (ref_h.trans (arr_h hh).symm)))
    rw [x0, x1]
  · refine r4.trans ((Cert.ReferenceIdeal.Read.val_main_v38_eq m' c).trans (Eq.trans ?_ (ref_dg.trans (arr_dg hh).symm)))
    rw [x0, x1, x2, x3, x4, x5]

/-- The reference ends with its arguments unchanged; it declares no semaphore. -/
theorem ref_frame (hR : Cert.ReferenceIdeal.Facts) : Cert.quiescent_ReferenceIdeal := fun m ρ _ =>
  (θ_run _ _ _).mono (fun r h => ⟨fun c => (h c).2.2.2.2.2, sem_eq_zero_of_no_sems (by decide) r.2⟩)
    (Cert.ReferenceIdeal.Value.run (F := Ideal) m ρ)

end Cert.Proof.Ffn

end
-- ==== Proof.AttnSpec.lean ====
/- The gradient of the attention into the memory over ℝ: RMSNorm, four heads of softmax attention and the residual. -/
module

public import proofs.«01_k».proof.Proof.Reals

@[expose] public section

noncomputable section

namespace Cert.Maths.Attn

open Idealize.ShloMosaic

/-- The words of a sixteenth and of minus infinity. -/
theorem bits_sixteenth : Ideal.ofBits .f32 0x3D800000#32 = ((1 / 16 : ℝ) : EReal) := by
  simp [Ideal.ofBits, Ideal.ieee, -EReal.coe_mul]; norm_num

theorem bits_bot : Ideal.ofBits .f32 0xFF800000#32 = ⊥ := by
  simp [Ideal.ofBits, Ideal.ieee, -EReal.coe_mul]

/-- The largest of 256 reals. -/
def top (s : Fin 256 → ℝ) : ℝ := Finset.univ.sup' Finset.univ_nonempty s

/-- The largest of 256 reals, taken from minus infinity among the extended reals. -/
theorem fold_max_real (s : Fin 256 → ℝ) :
    Finset.univ.fold max (⊥ : EReal) (fun j => ((s j : ℝ) : EReal)) = ((top s : ℝ) : EReal) := by
  refine le_antisymm ?_ ?_
  · rw [Finset.fold_max_le]
    exact ⟨bot_le, fun j hj => EReal.coe_le_coe_iff.mpr (Finset.le_sup' s hj)⟩
  · obtain ⟨j, hj, e⟩ := Finset.exists_mem_eq_sup' (Finset.univ_nonempty (α := Fin 256)) s
    rw [top, e]
    exact (Finset.le_fold_max _).mpr (Or.inr ⟨j, hj, le_rfl⟩)

theorem sum_exp_pos (s : Fin 256 → ℝ) : 0 < ∑ j, Real.exp (s j) :=
  Finset.sum_pos (fun _ _ => Real.exp_pos _) Finset.univ_nonempty

theorem sum_exp_ne (s : Fin 256 → ℝ) : (∑ j, Real.exp (s j)) ≠ 0 := (sum_exp_pos s).ne'

theorem sum_exp_sq_ne (s : Fin 256 → ℝ) : (∑ j, Real.exp (s j)) * (∑ j, Real.exp (s j)) ≠ 0 :=
  mul_ne_zero (sum_exp_ne s) (sum_exp_ne s)

/-- The softmax of a row of scores. -/
def soft (s : Fin 256 → ℝ) (j : Fin 256) : ℝ := Real.exp (s j - top s) / ∑ l, Real.exp (s l - top s)

/-- The gradient at the scores from that at the softmax. -/
def dsoft (s p : Fin 256 → ℝ) (j : Fin 256) : ℝ := soft s j * (p j - ∑ l, soft s l * p l)

/-- The chain rule through the softmax as the derivative of a quotient writes it. -/
theorem dsoft_eq (s p : Fin 256 → ℝ) (j : Fin 256) :
    (p j / (∑ l, Real.exp (s l - top s))
        + ∑ _u : Fin 1, -(∑ l, p l * (1 / ((∑ l, Real.exp (s l - top s)) * ∑ l, Real.exp (s l - top s)))
            * Real.exp (s l - top s)))
        * Real.exp (s j - top s)
      = dsoft s p j := by
  rw [Finset.univ_unique (α := Fin 1), Finset.sum_singleton]
  unfold dsoft soft
  have h := sum_exp_ne fun l => s l - top s
  generalize (∑ l, Real.exp (s l - top s)) = z at *
  have e : ∑ l, p l * (1 / (z * z)) * Real.exp (s l - top s) = (∑ l, Real.exp (s l - top s) / z * p l) / z := by
    rw [Finset.sum_div]
    refine Finset.sum_congr rfl fun l _ => ?_
    field_simp
  rw [e]; field_simp; ring

/-- Column `d` of head `a`. -/
def col (a : Fin 4) (d : Fin 256) : Fin 1024 := ⟨a.val * 256 + d.val, by omega⟩
/-- Column `d` of head `a`'s keys. -/
def kcol (a : Fin 4) (d : Fin 256) : Fin 2048 := ⟨a.val * 256 + d.val, by omega⟩
/-- Column `d` of head `a`'s values. -/
def vcol (a : Fin 4) (d : Fin 256) : Fin 2048 := ⟨1024 + (a.val * 256 + d.val), by omega⟩
/-- The head a column is of. -/
def hd (f : Fin 1024) : Fin 4 := ⟨f.val / 256, by omega⟩
/-- A column's place in its head. -/
def pl (f : Fin 1024) : Fin 256 := ⟨f.val % 256, by omega⟩

variable (X : Fin 4096 → Fin 1024 → ℝ) (G : Fin 1024 → ℝ) (M : Fin 256 → Fin 1024 → ℝ) (GM : Fin 1024 → ℝ)
  (WQ : Fin 1024 → Fin 1024 → ℝ) (WKV : Fin 1024 → Fin 2048 → ℝ) (WO : Fin 1024 → Fin 1024 → ℝ)
  (CT : Fin 4096 → Fin 1024 → ℝ)

/-- A column is the column of its head and place. -/
theorem col_hd_pl (f : Fin 1024) : col (hd f) (pl f) = f := Fin.ext (show f.val / 256 * 256 + f.val % 256 = f.val by omega)

/-- The queries. -/
def Q (i : Fin 4096) (f : Fin 1024) : ℝ := ∑ k, X i k * rinv (X i) * G k * WQ k f

/-- The keys and values. -/
def KV (j : Fin 256) (f : Fin 2048) : ℝ := ∑ k, M j k * rinv (M j) * GM k * WKV k f

/-- The gradient at the heads' outputs. -/
def DATT (i : Fin 4096) (f : Fin 1024) : ℝ := ∑ k, CT i k * WO f k

/-- The scores of a row in a head. -/
def SC (a : Fin 4) (i : Fin 4096) (j : Fin 256) : ℝ :=
  (∑ d, Q X G WQ i (col a d) * KV M GM WKV j (kcol a d)) * (1 / 16)

/-- The gradient at the softmax. -/
def DP (a : Fin 4) (i : Fin 4096) (j : Fin 256) : ℝ := ∑ d, DATT WO CT i (col a d) * KV M GM WKV j (vcol a d)

/-- The gradient at the products of queries and keys. -/
def DS (a : Fin 4) (i : Fin 4096) (j : Fin 256) : ℝ :=
  dsoft (SC X G M GM WQ WKV a i) (DP M GM WKV WO CT a i) j * (1 / 16)

/-- The gradient at the queries, head by head. -/
def DQh (a : Fin 4) (i : Fin 4096) (d : Fin 256) : ℝ :=
  ∑ j, DS X G M GM WQ WKV WO CT a i j * KV M GM WKV j (kcol a d)

/-- The gradient at the queries. -/
def DQ (i : Fin 4096) (f : Fin 1024) : ℝ := DQh X G M GM WQ WKV WO CT (hd f) i (pl f)

/-- A row's share of the gradient at the keys and values. -/
def DKVr (i : Fin 4096) (j : Fin 256) (f : Fin 2048) : ℝ :=
  if h : f.val < 1024 then DS X G M GM WQ WKV WO CT (hd ⟨f.val, h⟩) i j * Q X G WQ i ⟨f.val, h⟩
  else soft (SC X G M GM WQ WKV (hd ⟨f.val - 1024, by omega⟩) i) j * DATT WO CT i ⟨f.val - 1024, by omega⟩

/-- The gradient at the keys and values. -/
def DKV (j : Fin 256) (f : Fin 2048) : ℝ := ∑ i, DKVr X G M GM WQ WKV WO CT i j f

/-- The gradient at the normed row. -/
def DH (i : Fin 4096) (k : Fin 1024) : ℝ := ∑ f, DQ X G M GM WQ WKV WO CT i f * WQ k f

/-- The gradient at the row, with the residual's share. -/
def DX (i : Fin 4096) (k : Fin 1024) : ℝ :=
  rinv (X i) * (DH X G M GM WQ WKV WO CT i k * G k
    - X i k * rinv (X i) * ((∑ l, DH X G M GM WQ WKV WO CT i l * G l * (X i l * rinv (X i))) / 1024)) + CT i k

/-- The gradient at the norm's gain. -/
def DG (k : Fin 1024) : ℝ := ∑ i, DH X G M GM WQ WKV WO CT i k * (X i k * rinv (X i))

/-- The chain rule through the norm and the residual as the automatic derivative writes it. -/
theorem DX_eq (i : Fin 4096) (k : Fin 1024) :
    CT i k + DH X G M GM WQ WKV WO CT i k * G k * rinv (X i)
        + 2 * (X i k * ((∑ l, X i l * (DH X G M GM WQ WKV WO CT i l * G l))
            * ((-1 / 2) * (rinv (X i) / ((∑ l, X i l * X i l) / 1024 + eps))) / 1024))
      = DX X G M GM WQ WKV WO CT i k := by
  unfold DX
  rw [rms_bwd_eq (X i) (fun l => DH X G M GM WQ WKV WO CT i l * G l) k]
  ring

end Cert.Maths.Attn

end
-- ==== Proof.AttnTile.lean ====
/- One tile of the kernel's attention gradient, read over ℝ. -/
module

public import proofs.«01_k».proof.Proof.Gen.AttnKernelIdeal.Value
public import proofs.«01_k».proof.Proof.AttnSpec
public import Idealize.ShloMosaic.Lib.Pipeline.ValueKit
public import Idealize.ShloMosaic.Lib.Pointwise.Tactic
public import Idealize.ShloMosaic.Lib.StableHlo.ReadAt

@[expose] public section

noncomputable section

namespace Cert.Proof.Attn

open Cert.AttnKernelIdeal Cert.AttnKernelIdeal.Gen Idealize.ShloMosaic Idealize.ShloMosaic.TcCoe Idealize.SL.Sem
open Idealize.ShloMosaic.Pipeline (Dat)
open Cert.Maths Cert.Maths.Attn

/-- Row `i` of tile `t` as a row of the array. -/
def row (t : Fin cfg0.N) (i : Fin 512) : Fin 4096 := ⟨t.val * 512 + i.val, by have := t.isLt; have : cfg0.N = 8 := rfl; omega⟩

/-- The arguments on device `c` are these real arrays. -/
structure Holds (m : (ℓ : Loc nD τ sig) → Buf (Elt Ideal) ℓ) (c : Dev nD)
    (X : Fin 4096 → Fin 1024 → ℝ) (G : Fin 1024 → ℝ) (M : Fin 256 → Fin 1024 → ℝ) (GM : Fin 1024 → ℝ)
    (WQ : Fin 1024 → Fin 1024 → ℝ) (WKV : Fin 1024 → Fin 2048 → ℝ) (WO : Fin 1024 → Fin 1024 → ℝ)
    (CT : Fin 4096 → Fin 1024 → ℝ) : Prop where
  x : ∀ i k, (m (c, Proc.tc.devRef main_arg0) : S4096x1024.Idx → EReal) (ix2 i k) = (X i k : EReal)
  g : ∀ i k, (m (c, Proc.tc.devRef main_arg1) : S1x1024.Idx → EReal) (ix2 i k) = (G k : EReal)
  mem : ∀ i k, (m (c, Proc.tc.devRef main_arg2) : S256x1024.Idx → EReal) (ix2 i k) = (M i k : EReal)
  gm : ∀ i k, (m (c, Proc.tc.devRef main_arg3) : S1x1024.Idx → EReal) (ix2 i k) = (GM k : EReal)
  wq : ∀ i k, (m (c, Proc.tc.devRef main_arg4) : S1024x1024.Idx → EReal) (ix2 i k) = (WQ i k : EReal)
  wkv : ∀ i k, (m (c, Proc.tc.devRef main_arg5) : S1024x2048.Idx → EReal) (ix2 i k) = (WKV i k : EReal)
  wo : ∀ i k, (m (c, Proc.tc.devRef main_arg6) : S1024x1024.Idx → EReal) (ix2 i k) = (WO i k : EReal)
  ct : ∀ i k, (m (c, Proc.tc.devRef main_arg7) : S4096x1024.Idx → EReal) (ix2 i k) = (CT i k : EReal)

variable {m : (ℓ : Loc nD τ sig) → Buf (Elt Ideal) ℓ} {c : Dev nD}
  {X : Fin 4096 → Fin 1024 → ℝ} {G : Fin 1024 → ℝ} {M : Fin 256 → Fin 1024 → ℝ} {GM : Fin 1024 → ℝ}
  {WQ : Fin 1024 → Fin 1024 → ℝ} {WKV : Fin 1024 → Fin 2048 → ℝ} {WO : Fin 1024 → Fin 1024 → ℝ}
  {CT : Fin 4096 → Fin 1024 → ℝ}

/-- The keys and values saved for the backward pass. -/
theorem saved_kv (h : Holds m c X G M GM WQ WKV WO CT) (i : Fin 256) (k : Fin 2048) :
    (V m c main_v13 : S256x2048.Idx → EReal) (ix2 i k) = (KV M GM WKV i k : EReal) := by
  unfold V
  after_reads_at
  simp only [h.mem, h.gm, h.wkv, bits_1024, bits_eps, ← EReal.coe_mul, ← coe_sum, div_real ne_1024, ← EReal.coe_add,
    rsqrt_real (ms_pos _ _)]
  rfl

/-- The queries saved for the backward pass. -/
theorem saved_q (h : Holds m c X G M GM WQ WKV WO CT) (i : Fin 4096) (k : Fin 1024) :
    (V m c main_v27 : S4096x1024.Idx → EReal) (ix2 i k) = (Q X G WQ i k : EReal) := by
  unfold V
  after_reads_at
  simp only [h.x, h.g, h.wq, bits_1024, bits_eps, ← EReal.coe_mul, ← coe_sum, div_real ne_1024, ← EReal.coe_add,
    rsqrt_real (ms_pos _ _)]
  rfl

/-- The queries' weights as the call takes them. -/
theorem weight_q (h : Holds m c X G M GM WQ WKV WO CT) (i : Fin 1024) (k : Fin 1024) :
    (V m c main_v28 : S1024x1024.Idx → EReal) (ix2 i k) = (WQ i k : EReal) := by
  unfold V
  after_reads_at
  exact h.wq _ _

/-- The output weights as the call takes them. -/
theorem weight_o (h : Holds m c X G M GM WQ WKV WO CT) (i : Fin 1024) (k : Fin 1024) :
    (V m c main_v29 : S1024x1024.Idx → EReal) (ix2 i k) = (WO i k : EReal) := by
  unfold V
  after_reads_at
  exact h.wo _ _

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val, 0] := by decide +kernel
theorem index8 : ∀ t : Fin cfg0.N, win0_8.index t = ![t.val, 0] := by decide +kernel
theorem index9 : ∀ t : Fin cfg0.N, win0_9.index t = ![0, 0] := by decide +kernel
theorem index10 : ∀ t : Fin cfg0.N, win0_10.index t = ![0, 0] := by decide +kernel

/-- The tile of the rows. -/
theorem tile_x (h : Holds m c X G M GM WQ WKV WO CT) (t : Fin cfg0.N) (i : Fin 512) (k : Fin 1024) :
    (iblk m c 0 t : S512x1024.Idx → EReal) (ix2 i k) = (X (row t i) k : EReal) := by
  blk_simp [iblk]
  rw [V_main_arg0]
  refine Eq.trans (congrArg _ (?_ : _ = ix2 (row t i) k)) (h.x _ _)
  funext a; refine Fin.ext ?_
  fin_cases a <;> blk_simp [index0] <;> simp [row]

/-- The gain, whole at every tile. -/
theorem tile_g (h : Holds m c X G M GM WQ WKV WO CT) (t : Fin cfg0.N) (i : Fin 1) (k : Fin 1024) :
    (iblk m c 1 t : S1x1024.Idx → EReal) (ix2 i k) = (G k : EReal) := by
  blk_simp [iblk]
  rw [V_main_arg1]
  refine Eq.trans (congrArg _ (?_ : _ = ix2 i k)) (h.g _ _)
  funext a; refine Fin.ext ?_
  fin_cases a <;> blk_simp [index1] <;> simp [row]

/-- The tile of the incoming gradient. -/
theorem tile_ct (h : Holds m c X G M GM WQ WKV WO CT) (t : Fin cfg0.N) (i : Fin 512) (k : Fin 1024) :
    (iblk m c 2 t : S512x1024.Idx → EReal) (ix2 i k) = (CT (row t i) k : EReal) := by
  blk_simp [iblk]
  rw [V_main_arg7]
  refine Eq.trans (congrArg _ (?_ : _ = ix2 (row t i) k)) (h.ct _ _)
  funext a; refine Fin.ext ?_
  fin_cases a <;> blk_simp [index2] <;> simp [row]

/-- The tile of the queries. -/
theorem tile_q (h : Holds m c X G M GM WQ WKV WO CT) (t : Fin cfg0.N) (i : Fin 512) (k : Fin 1024) :
    (iblk m c 3 t : S512x1024.Idx → EReal) (ix2 i k) = (Q X G WQ (row t i) k : EReal) := by
  blk_simp [iblk]
  refine Eq.trans (congrArg _ (?_ : _ = ix2 (row t i) k)) (saved_q h _ _)
  funext a; refine Fin.ext ?_
  fin_cases a <;> blk_simp [index3] <;> simp [row]

/-- The keys and values, whole at every tile. -/
theorem tile_kv (h : Holds m c X G M GM WQ WKV WO CT) (t : Fin cfg0.N) (i : Fin 256) (k : Fin 2048) :
    (iblk m c 4 t : S256x2048.Idx → EReal) (ix2 i k) = (KV M GM WKV i k : EReal) := by
  blk_simp [iblk]
  refine Eq.trans (congrArg _ (?_ : _ = ix2 i k)) (saved_kv h _ _)
  funext a; refine Fin.ext ?_
  fin_cases a <;> blk_simp [index4] <;> simp [row]

/-- The queries' weights, whole at every tile. -/
theorem tile_wq (h : Holds m c X G M GM WQ WKV WO CT) (t : Fin cfg0.N) (i : Fin 1024) (k : Fin 1024) :
    (iblk m c 5 t : S1024x1024.Idx → EReal) (ix2 i k) = (WQ i k : EReal) := by
  blk_simp [iblk]
  refine Eq.trans (congrArg _ (?_ : _ = ix2 i k)) (weight_q h _ _)
  funext a; refine Fin.ext ?_
  fin_cases a <;> blk_simp [index5] <;> simp [row]

/-- The output weights, whole at every tile. -/
theorem tile_wo (h : Holds m c X G M GM WQ WKV WO CT) (t : Fin cfg0.N) (i : Fin 1024) (k : Fin 1024) :
    (iblk m c 6 t : S1024x1024.Idx → EReal) (ix2 i k) = (WO i k : EReal) := by
  blk_simp [iblk]
  refine Eq.trans (congrArg _ (?_ : _ = ix2 i k)) (weight_o h _ _)
  funext a; refine Fin.ext ?_
  fin_cases a <;> blk_simp [index6] <;> simp [row]

/-- The softmax of scaled products. -/
theorem soft_pay (v : FVec Ideal S512x256 .f32) (f : Fin 512 → Fin 256 → ℝ)
    (h : ∀ i j, (v : S512x256.Idx → EReal) (ix2 i j) = ((f i j : ℝ) : EReal)) (i : Fin 512) (j : Fin 256) :
    (k0_pay12 v (FloatOps.ofBits .f32 0x3D800000#32) : S512x256.Idx → EReal) (ix2 i j)
      = ((soft (fun l => f i l * (1 / 16)) j : ℝ) : EReal) := by
  unfold k0_pay12
  pointwise
  simp only [h, bits_sixteenth, bits_bot, ← EReal.coe_mul, fold_max_real, ← EReal.coe_sub, exp_real, ← coe_sum, div_real (sum_exp_ne _)]
  rfl

/-- The gradient through a softmax, scaled. -/
theorem dsoft_pay (v w : FVec Ideal S512x256 .f32) (s f : Fin 512 → Fin 256 → ℝ)
    (hv : ∀ i j, (v : S512x256.Idx → EReal) (ix2 i j) = ((soft (s i) j : ℝ) : EReal))
    (hw : ∀ i j, (w : S512x256.Idx → EReal) (ix2 i j) = ((f i j : ℝ) : EReal)) (i : Fin 512) (j : Fin 256) :
    (k0_pay23 v w : S512x256.Idx → EReal) (ix2 i j) = ((dsoft (s i) (f i) j * (1 / 16) : ℝ) : EReal) := by
  unfold k0_pay23
  pointwise
  simp only [hv, hw, bits_sixteenth, ← EReal.coe_mul, ← EReal.coe_sub, ← coe_sum]
  rfl

/-- The products of queries and keys. -/
theorem prod_pay (v : FVec Ideal S512x256 .bf16) (w : FVec Ideal S256x256 .bf16) (f : Fin 512 → Fin 256 → ℝ) (g : Fin 256 → Fin 256 → ℝ)
    (hv : ∀ i j, (v : S512x256.Idx → EReal) (ix2 i j) = ((f i j : ℝ) : EReal))
    (hw : ∀ i j, (w : S256x256.Idx → EReal) (ix2 i j) = ((g i j : ℝ) : EReal)) (i : Fin 512) (j : Fin 256) :
    (k0_pay15 v w : S512x256.Idx → EReal) (ix2 i j) = ((∑ d, f i d * g j d : ℝ) : EReal) := by
  unfold k0_pay15
  pointwise
  simp only [hv, hw, ← EReal.coe_mul, ← coe_sum]

theorem pay7_eq (v : FVec Ideal S512x256 .bf16) : k0_pay7 v = v := by
  unfold k0_pay7
  funext i
  pointwise

theorem pay8_eq (v) : @k0_pay8 Ideal v = k0_pay7 v := rfl
theorem pay9_eq (v) : @k0_pay9 Ideal v = k0_pay7 v := rfl
theorem pay10_eq (v) : @k0_pay10 Ideal v = k0_pay7 v := rfl
theorem pay16_eq : @k0_pay16 Ideal _ = k0_pay12 := rfl
theorem pay22_eq : @k0_pay22 Ideal _ = k0_pay23 := rfl
theorem pay13_eq (v w) : @k0_pay13 Ideal _ v w = k0_pay12 (k0_pay15 v w) (FloatOps.ofBits .f32 0x3D800000#32) := rfl
theorem pay14_eq (v w) : @k0_pay14 Ideal _ v w = k0_pay12 (k0_pay15 v w) (FloatOps.ofBits .f32 0x3D800000#32) := rfl
theorem pay11_eq (v w) : @k0_pay11 Ideal _ v w = k0_pay15 (k0_pay7 v) w := rfl

/-- A part of the keys and values. -/
theorem ld_kv (h : Holds m c X G M GM WQ WKV WO CT) (t : Fin cfg0.N) (o : ℕ) (ho) (ho' : o + 256 ≤ 2048) (j : Fin 256) (d : Fin 256) :
    (View.ld (iblk m c 4 t) (Rect.unit (s := S256x2048) ![0, o] ![256, 256] ho) : S256x256.Idx → EReal) (ix2 j d)
      = ((KV M GM WKV j ⟨o + d.val, by omega⟩ : ℝ) : EReal) := by
  refine Eq.trans ?_ (tile_kv h t _ _)
  pointwise

/-- A part of the queries. -/
theorem ld_q (h : Holds m c X G M GM WQ WKV WO CT) (t : Fin cfg0.N) (o : ℕ) (ho) (ho' : o + 256 ≤ 1024) (i : Fin 512) (d : Fin 256) :
    (View.ld (iblk m c 3 t) (Rect.unit (s := S512x1024) ![0, o] ![512, 256] ho) : S512x256.Idx → EReal) (ix2 i d)
      = ((Q X G WQ (row t i) ⟨o + d.val, by omega⟩ : ℝ) : EReal) := by
  refine Eq.trans ?_ (tile_q h t _ _)
  pointwise

section pays

variable (v : FVec Ideal S512x1024 .bf16) (w : FVec Ideal S256x256 .bf16) (p : FVec Ideal S512x256 .f32)
  (f : Fin 512 → Fin 1024 → ℝ) (g : Fin 256 → Fin 256 → ℝ) (s : Fin 512 → Fin 256 → ℝ)
  (hv : ∀ i j, (v : S512x1024.Idx → EReal) (ix2 i j) = ((f i j : ℝ) : EReal))
  (hw : ∀ i j, (w : S256x256.Idx → EReal) (ix2 i j) = ((g i j : ℝ) : EReal))
  (hp : ∀ i j, (p : S512x256.Idx → EReal) (ix2 i j) = ((soft (s i) j : ℝ) : EReal))

include hv hw in
/-- The gradient at the third head's softmax. -/
theorem dp_pay17 (i : Fin 512) (j : Fin 256) :
    (k0_pay17 v w : S512x256.Idx → EReal) (ix2 i j) = ((∑ d, f i (col 2 d) * g j d : ℝ) : EReal) := by
  unfold k0_pay17
  pointwise
  simp only [hv, hw, ← EReal.coe_mul, ← coe_sum]
  rfl

include hv hw in
/-- The gradient at the fourth head's softmax. -/
theorem dp_pay18 (i : Fin 512) (j : Fin 256) :
    (k0_pay18 v w : S512x256.Idx → EReal) (ix2 i j) = ((∑ d, f i (col 3 d) * g j d : ℝ) : EReal) := by
  unfold k0_pay18
  pointwise
  simp only [hv, hw, ← EReal.coe_mul, ← coe_sum]
  rfl

theorem col_zero (d : Fin 256) (h : d.val < 1024) : (⟨d.val, h⟩ : Fin 1024) = col 0 d := Fin.ext (by simp [col])

include hv hw hp in
/-- The gradient at the first head's products. -/
theorem ds_pay19 (i : Fin 512) (j : Fin 256) :
    (k0_pay19 v p w : S512x256.Idx → EReal) (ix2 i j)
      = ((dsoft (s i) (fun j => ∑ d, f i (col 0 d) * g j d) j * (1 / 16) : ℝ) : EReal) := by
  unfold k0_pay19
  pointwise
  simp only [hv, hw, hp, bits_sixteenth, ← EReal.coe_mul, ← coe_sum, ← EReal.coe_sub, col_zero]
  rfl

include hv hw hp in
/-- The gradient at the second head's products. -/
theorem ds_pay20 (i : Fin 512) (j : Fin 256) :
    (k0_pay21 (k0_pay20 v p w) (FloatOps.ofBits .f32 0x3D800000#32) : S512x256.Idx → EReal) (ix2 i j)
      = ((dsoft (s i) (fun j => ∑ d, f i (col 1 d) * g j d) j * (1 / 16) : ℝ) : EReal) := by
  unfold k0_pay21 k0_pay20
  pointwise
  simp only [hv, hw, hp, bits_sixteenth, ← EReal.coe_mul, ← coe_sum, ← EReal.coe_sub]
  rfl

end pays

/-- The head and place of a column given by them. -/
theorem at_head (a : Fin 4) (j : Fin 1024) (e : ℕ) (he : e < 256) (hj : j.val = a.val * 256 + e) :
    hd j = a ∧ pl j = ⟨e, he⟩ :=
  ⟨Fin.ext (show j.val / 256 = a.val by omega), Fin.ext (show j.val % 256 = e by omega)⟩

/-- A product over a head's columns, at a column given by its head and place. -/
theorem at_col {n : ℕ} (D : Fin 4 → Fin n → ℝ) (K : Fin 4 → Fin n → Fin 256 → ℝ) (a : Fin 4) (j : Fin 1024) (e : ℕ)
    (he : e < 256) (hj : j.val = a.val * 256 + e) :
    ((∑ x, D a x * K a x ⟨e, he⟩ : ℝ) : EReal) = ((∑ x, D (hd j) x * K (hd j) x (pl j) : ℝ) : EReal) := by
  obtain ⟨h1, h2⟩ := at_head a j e he hj
  rw [h1, h2]

/-- The heads' products side by side: the gradient at the queries. -/
theorem dq_pay (D : Fin 4 → Fin 512 → Fin 256 → ℝ) (K : Fin 4 → Fin 256 → Fin 256 → ℝ)
    (v70 v84 v96 v100 v115 : FVec Ideal S512x256 .f32) (v109 : FVec Ideal S512x256 .bf16) (k0 k1 k2 k3 : FVec Ideal S256x256 .bf16)
    (h0 : ∀ i j, (v109 : S512x256.Idx → EReal) (ix2 i j) = ((D 0 i j : ℝ) : EReal))
    (h1 : ∀ i j, (k0_pay21 v115 (FloatOps.ofBits .f32 0x3D800000#32) : S512x256.Idx → EReal) (ix2 i j) = ((D 1 i j : ℝ) : EReal))
    (h2 : ∀ i j, (k0_pay23 v70 v96 : S512x256.Idx → EReal) (ix2 i j) = ((D 2 i j : ℝ) : EReal))
    (h3 : ∀ i j, (k0_pay23 v84 v100 : S512x256.Idx → EReal) (ix2 i j) = ((D 3 i j : ℝ) : EReal))
    (e0 : ∀ i j, (k0 : S256x256.Idx → EReal) (ix2 i j) = ((K 0 i j : ℝ) : EReal))
    (e1 : ∀ i j, (k1 : S256x256.Idx → EReal) (ix2 i j) = ((K 1 i j : ℝ) : EReal))
    (e2 : ∀ i j, (k2 : S256x256.Idx → EReal) (ix2 i j) = ((K 2 i j : ℝ) : EReal))
    (e3 : ∀ i j, (k3 : S256x256.Idx → EReal) (ix2 i j) = ((K 3 i j : ℝ) : EReal))
    (i : Fin 512) (j : Fin 1024) :
    (k0_pay24 v70 v84 v96 v100 v109 v115 (FloatOps.ofBits .f32 0x3D800000#32) k0 k1 k2 k3 : S512x1024.Idx → EReal) (ix2 i j)
      = ((∑ x, D (hd j) i x * K (hd j) x (pl j) : ℝ) : EReal) := by
  unfold k0_pay24
  rw [pay22_eq]
  pointwise
  simp only [show k0_pay21 v115 (Ideal.ofBits .f32 1031798784#32) = k0_pay21 v115 (FloatOps.ofBits .f32 0x3D800000#32) from rfl,
    h0, h1, h2, h3, e0, e1, e2, e3, ← EReal.coe_mul, ← coe_sum]
  by_cases c0 : j.val < 256
  · rw [dif_pos c0]; exact at_col (fun a x => D a i x) K 0 j _ _ (by simp)
  rw [dif_neg c0]
  by_cases c1 : j.val - 256 < 256
  · rw [dif_pos c1]; exact at_col (fun a x => D a i x) K 1 j _ _ (by simp; omega)
  rw [dif_neg c1]
  by_cases c2 : j.val - 256 - 256 < 256
  · rw [dif_pos c2]; exact at_col (fun a x => D a i x) K 2 j _ _ (by simp; omega)
  rw [dif_neg c2]
  exact at_col (fun a x => D a i x) K 3 j _ _ (by simp; omega)

/-- A tile's share of the gradient at the keys and values. -/
theorem dkv_pay (D Qh P : Fin 4 → Fin 512 → Fin 256 → ℝ) (A : Fin 512 → Fin 1024 → ℝ)
    (v20 : FVec Ideal S512x1024 .bf16) (v22 v24 v26 v28 : FVec Ideal S512x256 .bf16) (v42 v56 v70 v84 : FVec Ideal S512x256 .f32)
    (v109 v118 v127 v136 : FVec Ideal S512x256 .bf16) (v153 : FVec Ideal S256x2048 .f32)
    (ha : ∀ i j, (v20 : S512x1024.Idx → EReal) (ix2 i j) = ((A i j : ℝ) : EReal))
    (q0 : ∀ i j, (v22 : S512x256.Idx → EReal) (ix2 i j) = ((Qh 0 i j : ℝ) : EReal))
    (q1 : ∀ i j, (v24 : S512x256.Idx → EReal) (ix2 i j) = ((Qh 1 i j : ℝ) : EReal))
    (q2 : ∀ i j, (v26 : S512x256.Idx → EReal) (ix2 i j) = ((Qh 2 i j : ℝ) : EReal))
    (q3 : ∀ i j, (v28 : S512x256.Idx → EReal) (ix2 i j) = ((Qh 3 i j : ℝ) : EReal))
    (p0 : ∀ i j, (v42 : S512x256.Idx → EReal) (ix2 i j) = ((P 0 i j : ℝ) : EReal))
    (p1 : ∀ i j, (v56 : S512x256.Idx → EReal) (ix2 i j) = ((P 1 i j : ℝ) : EReal))
    (p2 : ∀ i j, (v70 : S512x256.Idx → EReal) (ix2 i j) = ((P 2 i j : ℝ) : EReal))
    (p3 : ∀ i j, (v84 : S512x256.Idx → EReal) (ix2 i j) = ((P 3 i j : ℝ) : EReal))
    (h0 : ∀ i j, (v109 : S512x256.Idx → EReal) (ix2 i j) = ((D 0 i j : ℝ) : EReal))
    (h1 : ∀ i j, (v118 : S512x256.Idx → EReal) (ix2 i j) = ((D 1 i j : ℝ) : EReal))
    (h2 : ∀ i j, (v127 : S512x256.Idx → EReal) (ix2 i j) = ((D 2 i j : ℝ) : EReal))
    (h3 : ∀ i j, (v136 : S512x256.Idx → EReal) (ix2 i j) = ((D 3 i j : ℝ) : EReal))
    (i : Fin 256) (j : Fin 2048) :
    (k0_pay26 v20 v22 v24 v26 v28 v42 v56 v70 v84 v109 v118 v127 v136 v153 (constant S256x256 .f32 0x00000000#32)
        : S256x2048.Idx → EReal) (ix2 i j)
      = (v153 : S256x2048.Idx → EReal) (ix2 i j)
        + ((∑ x, if h : j.val < 1024 then D (hd ⟨j.val, h⟩) x i * Qh (hd ⟨j.val, h⟩) x (pl ⟨j.val, h⟩)
            else P (hd ⟨j.val - 1024, by omega⟩) x i * A x ⟨j.val - 1024, by omega⟩ : ℝ) : EReal) := by
  unfold k0_pay26
  pointwise
  simp only [ha, q0, q1, q2, q3, p0, p1, p2, p3, h0, h1, h2, h3, ← EReal.coe_mul, ← coe_sum]
  refine congrArg (_ + ·) ?_
  by_cases c : j.val < 1024
  · simp only [dif_pos c]
    by_cases c0 : j.val < 256
    · rw [dif_pos c0]; exact at_col (fun a x => D a x i) Qh 0 ⟨j.val, c⟩ _ _ (by simp)
    rw [dif_neg c0]
    by_cases c1 : j.val - 256 < 256
    · rw [dif_pos c1]; exact at_col (fun a x => D a x i) Qh 1 ⟨j.val, c⟩ _ _ (by simp; omega)
    rw [dif_neg c1]
    by_cases c2 : j.val - 256 - 256 < 256
    · rw [dif_pos c2]; exact at_col (fun a x => D a x i) Qh 2 ⟨j.val, c⟩ _ _ (by simp; omega)
    rw [dif_neg c2, dif_pos (by omega)]
    exact at_col (fun a x => D a x i) Qh 3 ⟨j.val, c⟩ _ _ (by simp; omega)
  · simp only [dif_neg c]
    rw [dif_neg (by omega), dif_neg (by omega), dif_neg (by omega), dif_neg (by omega)]
    have pa (a : Fin 4) (e : ℕ) (he : e < 1024) (e' : j.val - 1024 < 1024) (hj : j.val = 1024 + e) (ha : e / 256 = a.val) :
        ((∑ x, P a x i * A x ⟨e, he⟩ : ℝ) : EReal)
          = ((∑ x, P (hd ⟨j.val - 1024, e'⟩) x i * A x ⟨j.val - 1024, e'⟩ : ℝ) : EReal) := by
      have h1 : (⟨j.val - 1024, e'⟩ : Fin 1024) = ⟨e, he⟩ := Fin.ext (show j.val - 1024 = e by omega)
      have h2 : hd ⟨e, he⟩ = a := Fin.ext ha
      rw [h1, h2]
    by_cases c4 : j.val - 256 - 256 - 256 - 256 < 256
    · rw [dif_pos c4]; exact pa 0 _ _ _ (by omega) (by simp; omega)
    rw [dif_neg c4]
    by_cases c5 : j.val - 256 - 256 - 256 - 256 - 256 < 256
    · rw [dif_pos c5]; exact pa 1 _ _ _ (by omega) (by simp; omega)
    rw [dif_neg c5]
    by_cases c6 : j.val - 256 - 256 - 256 - 256 - 256 - 256 < 256
    · rw [dif_pos c6]; exact pa 2 _ _ _ (by omega) (by simp; omega)
    rw [dif_neg c6]
    exact pa 3 _ _ _ (by omega) (by simp; omega)

/-- The gradient at the heads' outputs. -/
theorem datt_pay (v : FVec Ideal S512x1024 .f32) (w : FVec Ideal S1024x1024 .bf16) (f : Fin 512 → Fin 1024 → ℝ) (g : Fin 1024 → Fin 1024 → ℝ)
    (hv : ∀ i j, (v : S512x1024.Idx → EReal) (ix2 i j) = ((f i j : ℝ) : EReal))
    (hw : ∀ i j, (w : S1024x1024.Idx → EReal) (ix2 i j) = ((g i j : ℝ) : EReal)) (i : Fin 512) (j : Fin 1024) :
    (k0_pay6 (F := Ideal) v w : S512x1024.Idx → EReal) (ix2 i j) = ((∑ k, f i k * g j k : ℝ) : EReal) := by
  unfold k0_pay6
  pointwise
  simp only [hv, hw, ← EReal.coe_mul, ← coe_sum]

/-- The reciprocal root mean square of a row. -/
theorem rinv_pay (v : FVec Ideal S512x1024 .f32) (f : Fin 512 → Fin 1024 → ℝ)
    (hv : ∀ i j, (v : S512x1024.Idx → EReal) (ix2 i j) = ((f i j : ℝ) : EReal)) (i : Fin 512) (z : Fin 1) :
    (k0_pay4 (F := Ideal) v : S512x1.Idx → EReal) (ix2 i z) = ((rinv (f i) : ℝ) : EReal) := by
  unfold k0_pay4
  pointwise
  simp only [hv, bits_1024, bits_eps, ← EReal.coe_mul, ← coe_sum, div_real ne_1024, ← EReal.coe_add, rsqrt_real (ms_pos _ _)]
  rfl

/-- A normed row before its gain. -/
theorem xh_pay (v : FVec Ideal S512x1024 .f32) (f : Fin 512 → Fin 1024 → ℝ)
    (hv : ∀ i j, (v : S512x1024.Idx → EReal) (ix2 i j) = ((f i j : ℝ) : EReal)) (i : Fin 512) (j : Fin 1024) :
    (k0_pay5 (F := Ideal) v : S512x1024.Idx → EReal) (ix2 i j) = ((f i j * rinv (f i) : ℝ) : EReal) := by
  unfold k0_pay5
  pointwise
  simp only [hv, rinv_pay v f hv, ← EReal.coe_mul]

section rows

variable (g : FVec Ideal S1x1024 .f32) (r : FVec Ideal S512x1 .f32) (xh ct : FVec Ideal S512x1024 .f32) (dq : FVec Ideal S512x1024 .bf16)
  (wq : FVec Ideal S1024x1024 .bf16) (g' : Fin 1024 → ℝ) (r' : Fin 512 → ℝ) (xh' ct' dq' : Fin 512 → Fin 1024 → ℝ)
  (wq' : Fin 1024 → Fin 1024 → ℝ)
  (hg : ∀ i j, (g : S1x1024.Idx → EReal) (ix2 i j) = ((g' j : ℝ) : EReal))
  (hr : ∀ i j, (r : S512x1.Idx → EReal) (ix2 i j) = ((r' i : ℝ) : EReal))
  (hx : ∀ i j, (xh : S512x1024.Idx → EReal) (ix2 i j) = ((xh' i j : ℝ) : EReal))
  (hc : ∀ i j, (ct : S512x1024.Idx → EReal) (ix2 i j) = ((ct' i j : ℝ) : EReal))
  (hq : ∀ i j, (dq : S512x1024.Idx → EReal) (ix2 i j) = ((dq' i j : ℝ) : EReal))
  (hw : ∀ i j, (wq : S1024x1024.Idx → EReal) (ix2 i j) = ((wq' i j : ℝ) : EReal))

include hq hw in
/-- The gradient at the normed row. -/
theorem dh_pay (i : Fin 512) (j : Fin 1024) :
    (k0_pay27 (F := Ideal) dq wq : S512x1024.Idx → EReal) (ix2 i j) = ((∑ f, dq' i f * wq' j f : ℝ) : EReal) := by
  unfold k0_pay27
  pointwise
  simp only [hq, hw, ← EReal.coe_mul, ← coe_sum]

include hg hr hx hc hq hw in
/-- The gradient at the row. -/
theorem dx_pay (i : Fin 512) (j : Fin 1024) :
    (k0_pay28 (F := Ideal) g r xh ct dq wq : S512x1024.Idx → EReal) (ix2 i j)
      = ((r' i * ((∑ f, dq' i f * wq' j f) * g' j - xh' i j * ((∑ l, (∑ f, dq' i f * wq' l f) * g' l * xh' i l) / 1024))
          + ct' i j : ℝ) : EReal) := by
  unfold k0_pay28
  pointwise
  simp only [hg, hr, hx, hc, dh_pay dq wq dq' wq' hq hw, bits_1024, ← EReal.coe_mul, ← coe_sum, div_real ne_1024,
    ← EReal.coe_sub, ← EReal.coe_add]

include hx hq hw in
/-- A tile's share of the gradient at the gain. -/
theorem dg_pay (v : FVec Ideal S1x1024 .f32) (i : Fin 1) (j : Fin 1024) :
    (k0_pay1 (k0_pay29 (F := Ideal) v) (k0_pay30 (F := Ideal) xh dq wq) : S1x1024.Idx → EReal) (ix2 i j)
      = (v : S1x1024.Idx → EReal) (ix2 i j) + ((∑ x, (∑ f, dq' x f * wq' j f) * xh' x j : ℝ) : EReal) := by
  unfold k0_pay1 k0_pay29 k0_pay30
  pointwise
  simp only [hx, dh_pay dq wq dq' wq' hq hw, ← EReal.coe_mul, ← coe_sum]

end rows

end Cert.Proof.Attn

end
-- ==== Proof.AttnArray.lean ====
/- The kernel's arrays of the attention gradient after the last tile, read over ℝ. -/
module

public import proofs.«01_k».proof.Proof.AttnTile

@[expose] public section

noncomputable section

namespace Cert.Proof.Attn

open Cert.AttnKernelIdeal Cert.AttnKernelIdeal.Gen Idealize.ShloMosaic Idealize.ShloMosaic.TcCoe Idealize.SL.Sem
open Idealize.ShloMosaic.Pipeline (Dat)
open Cert.Maths Cert.Maths.Attn

variable {m : (ℓ : Loc nD τ sig) → Buf (Elt Ideal) ℓ} {c : Dev nD}
  {X : Fin 4096 → Fin 1024 → ℝ} {G : Fin 1024 → ℝ} {M : Fin 256 → Fin 1024 → ℝ} {GM : Fin 1024 → ℝ}
  {WQ : Fin 1024 → Fin 1024 → ℝ} {WKV : Fin 1024 → Fin 2048 → ℝ} {WO : Fin 1024 → Fin 1024 → ℝ}
  {CT : Fin 4096 → Fin 1024 → ℝ}

variable (m c) in
/-- Some columns of the queries' tile. -/
abbrev qv (t : Fin cfg0.N) (o : ℕ) (ho : ∀ a, ![0, o] a + ![512, 256] a ≤ S512x1024.size a) : FVec Ideal S512x256 .bf16 :=
  View.ld (iblk m c 3 t) (Rect.unit (s := S512x1024) ![0, o] ![512, 256] ho)

variable (m c) in
/-- Some columns of the keys and values. -/
abbrev kv (t : Fin cfg0.N) (o : ℕ) (ho : ∀ a, ![0, o] a + ![256, 256] a ≤ S256x2048.size a) : FVec Ideal S256x256 .bf16 :=
  View.ld (iblk m c 4 t) (Rect.unit (s := S256x2048) ![0, o] ![256, 256] ho)

variable (m c) in
/-- A head's softmax. -/
abbrev pv (t : Fin cfg0.N) (o : ℕ) (hq : ∀ a, ![0, o] a + ![512, 256] a ≤ S512x1024.size a)
    (hk : ∀ a, ![0, o] a + ![256, 256] a ≤ S256x2048.size a) : FVec Ideal S512x256 .f32 :=
  k0_pay12 (k0_pay15 (qv m c t o hq) (kv m c t o hk)) (FloatOps.ofBits .f32 0x3D800000#32)

variable (m c) in
/-- The gradient at the heads' outputs. -/
abbrev av (t : Fin cfg0.N) : FVec Ideal S512x1024 .bf16 := k0_pay6 (F := Ideal) (iblk m c 2 t) (iblk m c 6 t)

variable (m c) in
/-- The gradient at the queries. -/
abbrev dqv (t : Fin cfg0.N) : FVec Ideal S512x1024 .bf16 :=
  k0_pay24 (pv m c t 512 inb_S512x1024_S512x256_0_512 inb_S256x2048_S256x256_0_512)
    (pv m c t 768 inb_S512x1024_S512x256_0_768 inb_S256x2048_S256x256_0_768)
    (k0_pay17 (av m c t) (kv m c t 1536 inb_S256x2048_S256x256_0_1536))
    (k0_pay18 (av m c t) (kv m c t 1792 inb_S256x2048_S256x256_0_1792))
    (k0_pay19 (av m c t) (pv m c t 0 inb_S512x1024_S512x256_0_0 inb_S256x2048_S256x256_0_0)
      (kv m c t 1024 inb_S256x2048_S256x256_0_1024))
    (k0_pay20 (av m c t) (pv m c t 256 inb_S512x1024_S512x256_0_256 inb_S256x2048_S256x256_0_256)
      (kv m c t 1280 inb_S256x2048_S256x256_0_1280))
    (FloatOps.ofBits .f32 0x3D800000#32) (kv m c t 0 inb_S256x2048_S256x256_0_0) (kv m c t 256 inb_S256x2048_S256x256_0_256)
    (kv m c t 512 inb_S256x2048_S256x256_0_512) (kv m c t 768 inb_S256x2048_S256x256_0_768)

theorem qv_eq (h : Holds m c X G M GM WQ WKV WO CT) (t : Fin cfg0.N) (a : Fin 4) (o : ℕ) (e : o = a.val * 256) (ho) (i : Fin 512) (d : Fin 256) :
    (qv m c t o ho : S512x256.Idx → EReal) (ix2 i d) = ((Q X G WQ (row t i) (col a d) : ℝ) : EReal) := by
  subst e; exact ld_q h t _ ho (by omega) i d

theorem kv_eq_k (h : Holds m c X G M GM WQ WKV WO CT) (t : Fin cfg0.N) (a : Fin 4) (o : ℕ) (e : o = a.val * 256) (ho) (j d : Fin 256) :
    (kv m c t o ho : S256x256.Idx → EReal) (ix2 j d) = ((KV M GM WKV j (kcol a d) : ℝ) : EReal) := by
  subst e; exact ld_kv h t _ ho (by omega) j d

theorem kv_eq_v (h : Holds m c X G M GM WQ WKV WO CT) (t : Fin cfg0.N) (a : Fin 4) (o : ℕ) (e : o = 1024 + a.val * 256) (ho) (j d : Fin 256) :
    (kv m c t o ho : S256x256.Idx → EReal) (ix2 j d) = ((KV M GM WKV j (vcol a d) : ℝ) : EReal) := by
  subst e
  refine (ld_kv h t _ ho (by omega) j d).trans ?_
  rw [vcol]; exact congrArg (fun z => ((KV M GM WKV j z : ℝ) : EReal)) (Fin.ext (Nat.add_assoc _ _ _))

theorem pv_eq (h : Holds m c X G M GM WQ WKV WO CT) (t : Fin cfg0.N) (a : Fin 4) (o : ℕ) (e : o = a.val * 256) (hq) (hk) (i : Fin 512) (j : Fin 256) :
    (pv m c t o hq hk : S512x256.Idx → EReal) (ix2 i j) = ((soft (SC X G M GM WQ WKV a (row t i)) j : ℝ) : EReal) :=
  soft_pay _ _ (prod_pay _ _ _ _ (qv_eq h t a o e hq) (kv_eq_k h t a o e hk)) i j

theorem av_eq (h : Holds m c X G M GM WQ WKV WO CT) (t : Fin cfg0.N) (i : Fin 512) (f : Fin 1024) :
    (av m c t : S512x1024.Idx → EReal) (ix2 i f) = ((DATT WO CT (row t i) f : ℝ) : EReal) :=
  datt_pay _ _ _ _ (tile_ct h t) (tile_wo h t) i f

/-- The gradient at the first head's products. -/
theorem ds0 (h : Holds m c X G M GM WQ WKV WO CT) (t : Fin cfg0.N) (i : Fin 512) (j : Fin 256) :
    (k0_pay19 (av m c t) (pv m c t 0 inb_S512x1024_S512x256_0_0 inb_S256x2048_S256x256_0_0)
      (kv m c t 1024 inb_S256x2048_S256x256_0_1024) : S512x256.Idx → EReal) (ix2 i j) = ((DS X G M GM WQ WKV WO CT 0 (row t i) j : ℝ) : EReal) :=
  ds_pay19 _ _ _ _ _ _ (av_eq h t) (kv_eq_v h t 0 _ rfl _) (pv_eq h t 0 _ rfl _ _) i j

/-- The gradient at the second head's products. -/
theorem ds1 (h : Holds m c X G M GM WQ WKV WO CT) (t : Fin cfg0.N) (i : Fin 512) (j : Fin 256) :
    (k0_pay21 (k0_pay20 (av m c t) (pv m c t 256 inb_S512x1024_S512x256_0_256 inb_S256x2048_S256x256_0_256)
      (kv m c t 1280 inb_S256x2048_S256x256_0_1280)) (FloatOps.ofBits .f32 0x3D800000#32) : S512x256.Idx → EReal) (ix2 i j)
      = ((DS X G M GM WQ WKV WO CT 1 (row t i) j : ℝ) : EReal) :=
  ds_pay20 _ _ _ _ _ _ (av_eq h t) (kv_eq_v h t 1 _ rfl _) (pv_eq h t 1 _ rfl _ _) i j

/-- The gradient at the third head's products. -/
theorem ds2 (h : Holds m c X G M GM WQ WKV WO CT) (t : Fin cfg0.N) (i : Fin 512) (j : Fin 256) :
    (k0_pay23 (pv m c t 512 inb_S512x1024_S512x256_0_512 inb_S256x2048_S256x256_0_512)
      (k0_pay17 (av m c t) (kv m c t 1536 inb_S256x2048_S256x256_0_1536)) : S512x256.Idx → EReal) (ix2 i j)
      = ((DS X G M GM WQ WKV WO CT 2 (row t i) j : ℝ) : EReal) :=
  dsoft_pay _ _ _ _ (pv_eq h t 2 _ rfl _ _) (dp_pay17 _ _ _ _ (av_eq h t) (kv_eq_v h t 2 _ rfl _)) i j

/-- The gradient at the fourth head's products. -/
theorem ds3 (h : Holds m c X G M GM WQ WKV WO CT) (t : Fin cfg0.N) (i : Fin 512) (j : Fin 256) :
    (k0_pay23 (pv m c t 768 inb_S512x1024_S512x256_0_768 inb_S256x2048_S256x256_0_768)
      (k0_pay18 (av m c t) (kv m c t 1792 inb_S256x2048_S256x256_0_1792)) : S512x256.Idx → EReal) (ix2 i j)
      = ((DS X G M GM WQ WKV WO CT 3 (row t i) j : ℝ) : EReal) :=
  dsoft_pay _ _ _ _ (pv_eq h t 3 _ rfl _ _) (dp_pay18 _ _ _ _ (av_eq h t) (kv_eq_v h t 3 _ rfl _)) i j

/-- The gradient at the queries. -/
theorem dqv_eq (h : Holds m c X G M GM WQ WKV WO CT) (t : Fin cfg0.N) (i : Fin 512) (f : Fin 1024) :
    (dqv m c t : S512x1024.Idx → EReal) (ix2 i f) = ((DQ X G M GM WQ WKV WO CT (row t i) f : ℝ) : EReal) :=
  dq_pay (fun a i => DS X G M GM WQ WKV WO CT a (row t i)) (fun a j d => KV M GM WKV j (kcol a d)) _ _ _ _ _ _ _ _ _ _
    (ds0 h t) (ds1 h t) (ds2 h t) (ds3 h t) (kv_eq_k h t 0 _ rfl _) (kv_eq_k h t 1 _ rfl _) (kv_eq_k h t 2 _ rfl _)
    (kv_eq_k h t 3 _ rfl _) i f

/-- A tile's share of the gradient at the keys and values. -/
theorem dkv_eq (h : Holds m c X G M GM WQ WKV WO CT) (t : Fin cfg0.N) (w : FVec Ideal S256x2048 .f32) (j : Fin 256) (f : Fin 2048) :
    (k0_pay26 (av m c t) (qv m c t 0 inb_S512x1024_S512x256_0_0) (qv m c t 256 inb_S512x1024_S512x256_0_256)
      (qv m c t 512 inb_S512x1024_S512x256_0_512) (qv m c t 768 inb_S512x1024_S512x256_0_768)
      (pv m c t 0 inb_S512x1024_S512x256_0_0 inb_S256x2048_S256x256_0_0)
      (pv m c t 256 inb_S512x1024_S512x256_0_256 inb_S256x2048_S256x256_0_256)
      (pv m c t 512 inb_S512x1024_S512x256_0_512 inb_S256x2048_S256x256_0_512)
      (pv m c t 768 inb_S512x1024_S512x256_0_768 inb_S256x2048_S256x256_0_768)
      (k0_pay19 (av m c t) (pv m c t 0 inb_S512x1024_S512x256_0_0 inb_S256x2048_S256x256_0_0)
        (kv m c t 1024 inb_S256x2048_S256x256_0_1024))
      (k0_pay21 (k0_pay20 (av m c t) (pv m c t 256 inb_S512x1024_S512x256_0_256 inb_S256x2048_S256x256_0_256)
        (kv m c t 1280 inb_S256x2048_S256x256_0_1280)) (FloatOps.ofBits .f32 0x3D800000#32))
      (k0_pay23 (pv m c t 512 inb_S512x1024_S512x256_0_512 inb_S256x2048_S256x256_0_512)
        (k0_pay17 (av m c t) (kv m c t 1536 inb_S256x2048_S256x256_0_1536)))
      (k0_pay23 (pv m c t 768 inb_S512x1024_S512x256_0_768 inb_S256x2048_S256x256_0_768)
        (k0_pay18 (av m c t) (kv m c t 1792 inb_S256x2048_S256x256_0_1792)))
      w (constant S256x256 .f32 0x00000000#32) : S256x2048.Idx → EReal) (ix2 j f)
      = (w : S256x2048.Idx → EReal) (ix2 j f) + ((∑ x, DKVr X G M GM WQ WKV WO CT (row t x) j f : ℝ) : EReal) := by
  refine (dkv_pay (fun a i => DS X G M GM WQ WKV WO CT a (row t i)) (fun a i d => Q X G WQ (row t i) (col a d))
    (fun a i => soft (SC X G M GM WQ WKV a (row t i))) (fun i => DATT WO CT (row t i)) _ _ _ _ _ _ _ _ _ _ _ _ _ w
    (av_eq h t) (qv_eq h t 0 _ rfl _) (qv_eq h t 1 _ rfl _) (qv_eq h t 2 _ rfl _) (qv_eq h t 3 _ rfl _)
    (pv_eq h t 0 _ rfl _ _) (pv_eq h t 1 _ rfl _ _) (pv_eq h t 2 _ rfl _ _) (pv_eq h t 3 _ rfl _ _)
    (ds0 h t) (ds1 h t) (ds2 h t) (ds3 h t) j f).trans ?_
  simp only [col_hd_pl]
  rfl

/-- The tile of the gradient at the rows, at the first tile. -/
theorem out_dx_A (h : Holds m c X G M GM WQ WKV WO CT) (t : Fin cfg0.N) (ht : t.val % 8 = 0) (i : Fin 512) (k : Fin 1024) :
    ((outsAt0 m c t.val t.isLt).1 : S512x1024.Idx → EReal) (ix2 i k) = (DX X G M GM WQ WKV WO CT (row t i) k : EReal) := by
  rw [outsAt0_A m c t ht]
  frame_out
  simp only [pay8_eq, pay9_eq, pay10_eq, pay7_eq, pay11_eq, pay13_eq, pay14_eq, pay16_eq, pay22_eq]
  exact dx_pay _ _ _ _ (dqv m c t) _ _ _ _ _ _ _ (tile_g h t) (rinv_pay _ _ (tile_x h t)) (xh_pay _ _ (tile_x h t)) (tile_ct h t)
    (dqv_eq h t) (tile_wq h t) i k

/-- The tile of the gradient at the rows, at a later tile. -/
theorem out_dx_B (h : Holds m c X G M GM WQ WKV WO CT) (t : Fin cfg0.N) (ht : ¬t.val % 8 = 0) (i : Fin 512) (k : Fin 1024) :
    ((outsAt0 m c t.val t.isLt).1 : S512x1024.Idx → EReal) (ix2 i k) = (DX X G M GM WQ WKV WO CT (row t i) k : EReal) := by
  rw [outsAt0_B m c t ht]
  frame_out
  simp only [pay8_eq, pay9_eq, pay10_eq, pay7_eq, pay11_eq, pay13_eq, pay14_eq, pay16_eq, pay22_eq]
  exact dx_pay _ _ _ _ (dqv m c t) _ _ _ _ _ _ _ (tile_g h t) (rinv_pay _ _ (tile_x h t)) (xh_pay _ _ (tile_x h t)) (tile_ct h t)
    (dqv_eq h t) (tile_wq h t) i k

/-- The tile of the gradient at the rows. -/
theorem out_dx (h : Holds m c X G M GM WQ WKV WO CT) (t : Fin cfg0.N) (i : Fin 512) (k : Fin 1024) :
    ((outsAt0 m c t.val t.isLt).1 : S512x1024.Idx → EReal) (ix2 i k) = (DX X G M GM WQ WKV WO CT (row t i) k : EReal) :=
  if ht : t.val % 8 = 0 then out_dx_A h t ht i k else out_dx_B h t ht i k

/-- The tile of the gradient at the queries, at the first tile. -/
theorem out_dq_A (h : Holds m c X G M GM WQ WKV WO CT) (t : Fin cfg0.N) (ht : t.val % 8 = 0) (i : Fin 512) (k : Fin 1024) :
    ((outsAt0 m c t.val t.isLt).2.1 : S512x1024.Idx → EReal) (ix2 i k) = (DQ X G M GM WQ WKV WO CT (row t i) k : EReal) := by
  rw [outsAt0_A m c t ht]
  frame_out
  simp only [pay8_eq, pay9_eq, pay10_eq, pay7_eq, pay11_eq, pay13_eq, pay14_eq, pay16_eq, pay22_eq]
  exact dqv_eq h t i k

/-- The tile of the gradient at the queries, at a later tile. -/
theorem out_dq_B (h : Holds m c X G M GM WQ WKV WO CT) (t : Fin cfg0.N) (ht : ¬t.val % 8 = 0) (i : Fin 512) (k : Fin 1024) :
    ((outsAt0 m c t.val t.isLt).2.1 : S512x1024.Idx → EReal) (ix2 i k) = (DQ X G M GM WQ WKV WO CT (row t i) k : EReal) := by
  rw [outsAt0_B m c t ht]
  frame_out
  simp only [pay8_eq, pay9_eq, pay10_eq, pay7_eq, pay11_eq, pay13_eq, pay14_eq, pay16_eq, pay22_eq]
  exact dqv_eq h t i k

/-- The tile of the gradient at the queries. -/
theorem out_dq (h : Holds m c X G M GM WQ WKV WO CT) (t : Fin cfg0.N) (i : Fin 512) (k : Fin 1024) :
    ((outsAt0 m c t.val t.isLt).2.1 : S512x1024.Idx → EReal) (ix2 i k) = (DQ X G M GM WQ WKV WO CT (row t i) k : EReal) :=
  if ht : t.val % 8 = 0 then out_dq_A h t ht i k else out_dq_B h t ht i k

/-- The gradient at the keys and values after the first tile: its own share. -/
theorem out_dkv_A (h : Holds m c X G M GM WQ WKV WO CT) (t : Fin cfg0.N) (ht : t.val % 8 = 0) (i : Fin 256) (k : Fin 2048) :
    ((outsAt0 m c t.val t.isLt).2.2.1 : S256x2048.Idx → EReal) (ix2 i k)
      = ((∑ x, DKVr X G M GM WQ WKV WO CT (row t x) i k : ℝ) : EReal) := by
  rw [outsAt0_A m c t ht]
  frame_out
  simp only [pay8_eq, pay9_eq, pay10_eq, pay7_eq, pay11_eq, pay13_eq, pay14_eq, pay16_eq, pay22_eq]
  refine (dkv_eq h t _ i k).trans ?_
  unfold k0_pay25 k0_pay2
  pointwise

/-- The gradient at the keys and values after a later tile: what was there and the tile's share. -/
theorem out_dkv_B (h : Holds m c X G M GM WQ WKV WO CT) (t : Fin cfg0.N) (ht : ¬t.val % 8 = 0) (i : Fin 256) (k : Fin 2048) :
    ((outsAt0 m c t.val t.isLt).2.2.1 : S256x2048.Idx → EReal) (ix2 i k)
      = ((outsAt0 m c (t.val - 1) (Nat.lt_of_le_of_lt (Nat.sub_le _ _) t.isLt)).2.2.1 : S256x2048.Idx → EReal) (ix2 i k)
        + ((∑ x, DKVr X G M GM WQ WKV WO CT (row t x) i k : ℝ) : EReal) := by
  rw [outsAt0_B m c t ht]
  frame_out
  simp only [pay8_eq, pay9_eq, pay10_eq, pay7_eq, pay11_eq, pay13_eq, pay14_eq, pay16_eq, pay22_eq]
  refine (dkv_eq h t _ i k).trans ?_
  unfold k0_pay25
  pointwise

/-- The gain's gradient after the first tile: its own share. -/
theorem out_dg_A (h : Holds m c X G M GM WQ WKV WO CT) (t : Fin cfg0.N) (ht : t.val % 8 = 0) (i : Fin 1) (k : Fin 1024) :
    ((outsAt0 m c t.val t.isLt).2.2.2 : S1x1024.Idx → EReal) (ix2 i k)
      = ((∑ x, DH X G M GM WQ WKV WO CT (row t x) k * (X (row t x) k * rinv (X (row t x))) : ℝ) : EReal) := by
  rw [outsAt0_A m c t ht]
  frame_out
  simp only [pay8_eq, pay9_eq, pay10_eq, pay7_eq, pay11_eq, pay13_eq, pay14_eq, pay16_eq, pay22_eq]
  refine (dg_pay _ (dqv m c t) _ _ _ _ (xh_pay _ _ (tile_x h t)) (dqv_eq h t) (tile_wq h t) _ i k).trans ?_
  unfold k0_pay3
  pointwise
  rfl

/-- The gain's gradient after a later tile: what was there and the tile's share. -/
theorem out_dg_B (h : Holds m c X G M GM WQ WKV WO CT) (t : Fin cfg0.N) (ht : ¬t.val % 8 = 0) (i : Fin 1) (k : Fin 1024) :
    ((outsAt0 m c t.val t.isLt).2.2.2 : S1x1024.Idx → EReal) (ix2 i k)
      = ((outsAt0 m c (t.val - 1) (Nat.lt_of_le_of_lt (Nat.sub_le _ _) t.isLt)).2.2.2 : S1x1024.Idx → EReal) (ix2 i k)
        + ((∑ x, DH X G M GM WQ WKV WO CT (row t x) k * (X (row t x) k * rinv (X (row t x))) : ℝ) : EReal) := by
  rw [outsAt0_B m c t ht]
  frame_out
  simp only [pay8_eq, pay9_eq, pay10_eq, pay7_eq, pay11_eq, pay13_eq, pay14_eq, pay16_eq, pay22_eq]
  refine (dg_pay _ (dqv m c t) _ _ _ _ (xh_pay _ _ (tile_x h t)) (dqv_eq h t) (tile_wq h t) _ i k).trans ?_
  rfl

/-- The array of the gradient at the rows. -/
theorem arr_dx (h : Holds m c X G M GM WQ WKV WO CT) :
    ((dats m 0 c).arrAt 7 cfg0.N : S4096x1024.Idx → EReal) = up (DX X G M GM WQ WKV WO CT) := by
  refine (dats m 0 c).arrAt_eq_of_covers 7 _ (by decide +kernel) fun t hf y => ?_
  blk_simp
  rw [after0_7]
  have hy : (y : S512x1024.Idx) = ix2 (y 0) (y 1) := by funext a; fin_cases a <;> rfl
  refine (congrArg _ hy).trans ((out_dx h t (y 0) (y 1)).trans (up_congr _ _ _ _ ?_ ?_))
  · blk_simp [index7]; rfl
  · blk_simp [index7]

/-- The array of the gradient at the queries. -/
theorem arr_dq (h : Holds m c X G M GM WQ WKV WO CT) :
    ((dats m 0 c).arrAt 8 cfg0.N : S4096x1024.Idx → EReal) = up (DQ X G M GM WQ WKV WO CT) := by
  refine (dats m 0 c).arrAt_eq_of_covers 8 _ (by decide +kernel) fun t hf y => ?_
  blk_simp
  rw [after0_8]
  have hy : (y : S512x1024.Idx) = ix2 (y 0) (y 1) := by funext a; fin_cases a <;> rfl
  refine (congrArg _ hy).trans ((out_dq h t (y 0) (y 1)).trans (up_congr _ _ _ _ ?_ ?_))
  · blk_simp [index8]; rfl
  · blk_simp [index8]

/-- The gradient at the keys and values after the last tile: the shares of all rows. -/
theorem last_dkv (h : Holds m c X G M GM WQ WKV WO CT) (j : Fin 256) (f : Fin 2048) :
    ((outsAt0 m c t0_7.val t0_7.isLt).2.2.1 : S256x2048.Idx → EReal) (ix2 j f) = (DKV X G M GM WQ WKV WO CT j f : EReal) := by
  rw [Pipeline.eq_sum_fin_of_reset_step_last
    (fun n h => ((outsAt0 m c n h).2.2.1 : S256x2048.Idx → EReal) (ix2 j f)) 8 0
    (fun t => ((∑ x, DKVr X G M GM WQ WKV WO CT (row t x) j f : ℝ) : EReal))
    (fun t ht => by rw [zero_add]; exact out_dkv_A h t ht j f) (fun t ht => out_dkv_B h t ht j f)
    (le_of_eq N_0) t0_7 rfl, zero_add, ← coe_sum]
  refine congrArg _ ?_
  exact Fin.sum_mul_add_fin (S := 8) (n := 512) (L := 4096) (fun i => DKVr X G M GM WQ WKV WO CT i j f)

/-- The array of the gradient at the keys and values. -/
theorem arr_dkv (h : Holds m c X G M GM WQ WKV WO CT) :
    ((dats m 0 c).arrAt 9 cfg0.N : S256x2048.Idx → EReal) = up (DKV X G M GM WQ WKV WO CT) := by
  refine (dats m 0 c).arrAt_eq_of_after_last 9 t0_7 (by decide +kernel) _ fun j => ?_
  blk_simp
  rw [after0_9]
  have hy : (j : S256x2048.Idx) = ix2 (j 0) (j 1) := by funext a; fin_cases a <;> rfl
  refine (congrArg _ hy).trans ((last_dkv h (j 0) (j 1)).trans ?_)
  rfl

/-- The gain's gradient after the last tile: the shares of all rows. -/
theorem last_dg (h : Holds m c X G M GM WQ WKV WO CT) (k : Fin 1024) :
    ((outsAt0 m c t0_7.val t0_7.isLt).2.2.2 : S1x1024.Idx → EReal) (ix2 0 k) = (DG X G M GM WQ WKV WO CT k : EReal) := by
  rw [Pipeline.eq_sum_fin_of_reset_step_last
    (fun n h => ((outsAt0 m c n h).2.2.2 : S1x1024.Idx → EReal) (ix2 0 k)) 8 0
    (fun t => ((∑ x, DH X G M GM WQ WKV WO CT (row t x) k * (X (row t x) k * rinv (X (row t x))) : ℝ) : EReal))
    (fun t ht => by rw [zero_add]; exact out_dg_A h t ht 0 k) (fun t ht => out_dg_B h t ht 0 k)
    (le_of_eq N_0) t0_7 rfl, zero_add, ← coe_sum]
  refine congrArg _ ?_
  exact Fin.sum_mul_add_fin (S := 8) (n := 512) (L := 4096) (fun i => DH X G M GM WQ WKV WO CT i k * (X i k * rinv (X i)))

/-- The array of the gain's gradient. -/
theorem arr_dg (h : Holds m c X G M GM WQ WKV WO CT) :
    ((dats m 0 c).arrAt 10 cfg0.N : S1x1024.Idx → EReal) = up fun _ k => DG X G M GM WQ WKV WO CT k := by
  refine (dats m 0 c).arrAt_eq_of_after_last 10 t0_7 (by decide +kernel) _ fun j => ?_
  blk_simp
  rw [after0_10]
  have hy : (j : S1x1024.Idx) = ix2 0 (j 1) := by
    funext a; fin_cases a
    · exact Subsingleton.elim (α := Fin 1) _ _
    · rfl
  refine (congrArg _ hy).trans ((last_dg h (j 1)).trans ?_)
  rfl

end Cert.Proof.Attn

end
-- ==== Proof.AttnRef.lean ====
/- The reference's attention gradient, read over ℝ stage by stage. -/
module

public import proofs.«01_k».proof.Proof.Gen.AttnReferenceIdeal.Read
public import proofs.«01_k».proof.Proof.AttnSpec
public import Idealize.ShloMosaic.Lib.Pipeline.ValueKit
public import Idealize.ShloMosaic.Lib.Pointwise.Tactic
public import Idealize.ShloMosaic.Lib.StableHlo.ReadAt

@[expose] public section

noncomputable section

namespace Cert.Proof.AttnRef

open Cert.AttnReferenceIdeal Cert.AttnReferenceIdeal.Read Idealize.ShloMosaic Idealize.ShloMosaic.TcCoe Idealize.SL.Sem
open Cert.Maths Cert.Maths.Attn

variable {X : Fin 4096 → Fin 1024 → ℝ} {G : Fin 1024 → ℝ} {M : Fin 256 → Fin 1024 → ℝ} {GM : Fin 1024 → ℝ}
  {WQ : Fin 1024 → Fin 1024 → ℝ} {WKV : Fin 1024 → Fin 2048 → ℝ} {WO : Fin 1024 → Fin 1024 → ℝ}
  {CT : Fin 4096 → Fin 1024 → ℝ}

/-- The mean of squares of a row and the small number. -/
theorem ms (i : Fin 4096) (k : Fin 1) :
    (val_main_v8 (F := Ideal) (up X) : S4096x1.Idx → EReal) (ix2 i k) = (((∑ l, X i l * X i l) / 1024 + eps : ℝ) : EReal) := by
  unfold val_main_v8 val_main_v6 val_main_v4 val_main_v3 val_main_v2 val_main_cst_1 val_main_v5 val_main_cst_2 val_main_v7 val_main_cst_3
  pointwise
  simp only [add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]

/-- The reciprocal root mean square of a row. -/
theorem rs (i : Fin 4096) (k : Fin 1) :
    (val_main_v9 (F := Ideal) (up X) : S4096x1.Idx → EReal) (ix2 i k) = ((rinv (X i) : ℝ) : EReal) := by
  unfold val_main_v9
  pointwise
  simp only [ms, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The factor of the derivative through the mean of squares. -/
theorem rms (i : Fin 4096) (k : Fin 1) :
    (val_main_v12 (F := Ideal) (up X) : S4096x1.Idx → EReal) (ix2 i k) = (((-1 / 2) * (rinv (X i) / ((∑ l, X i l * X i l) / 1024 + eps)) : ℝ) : EReal) := by
  unfold val_main_v12 val_main_v11 val_main_cst_4 val_main_v10
  pointwise
  simp only [rs, ms, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]

/-- The row over its root mean square. -/
theorem xh (i : Fin 4096) (k : Fin 1024) :
    (val_main_v14 (F := Ideal) (up X) : S4096x1024.Idx → EReal) (ix2 i k) = ((X i k * rinv (X i) : ℝ) : EReal) := by
  unfold val_main_v14 val_main_v13
  pointwise
  simp only [rs, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]

/-- The queries. -/
theorem q (i : Fin 4096) (f : Fin 1024) :
    (val_main_v18 (F := Ideal) (up X) (up fun _ => G) (up WQ) : S4096x1024.Idx → EReal) (ix2 i f) = ((Q X G WQ i f : ℝ) : EReal) := by
  unfold val_main_v18 val_main_v17 val_main_v16 val_main_v15 val_main_v0 val_main_cst
  pointwise
  simp only [xh, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The queries, head by head. -/
theorem qh (i : Fin 4096) (a : Fin 4) (d : Fin 256) :
    (val_main_v19 (F := Ideal) (up X) (up fun _ => G) (up WQ) : S4096x4x256.Idx → EReal) (ix3 i a d) = ((Q X G WQ i (col a d) : ℝ) : EReal) := by
  unfold val_main_v19
  pointwise
  simp only [q, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The mean of squares of a row of the memory and the small number. -/
theorem msm (j : Fin 256) (k : Fin 1) :
    (val_main_v26 (F := Ideal) (up M) : S256x1.Idx → EReal) (ix2 j k) = (((∑ l, M j l * M j l) / 1024 + eps : ℝ) : EReal) := by
  unfold val_main_v26 val_main_v24 val_main_v22 val_main_v21 val_main_v20 val_main_cst_5 val_main_v23 val_main_cst_6 val_main_v25 val_main_cst_7
  pointwise
  simp only [add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]

/-- The keys and values. -/
theorem kv (j : Fin 256) (f : Fin 2048) :
    (val_main_v33 (F := Ideal) (up M) (up fun _ => GM) (up WKV) : S256x2048.Idx → EReal) (ix2 j f) = ((KV M GM WKV j f : ℝ) : EReal) := by
  unfold val_main_v33 val_main_v32 val_main_v31 val_main_v29 val_main_v28 val_main_v27 val_main_v30 val_main_v1 val_main_cst_0
  pointwise
  simp only [msm, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The keys, head by head. -/
theorem kh (j : Fin 256) (a : Fin 4) (d : Fin 256) :
    (val_main_v35 (F := Ideal) (up M) (up fun _ => GM) (up WKV) : S256x4x256.Idx → EReal) (ix3 j a d) = ((KV M GM WKV j (kcol a d) : ℝ) : EReal) := by
  unfold val_main_v35 val_main_v34
  pointwise
  simp only [kv, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The values, head by head. -/
theorem vh (j : Fin 256) (a : Fin 4) (d : Fin 256) :
    (val_main_v37 (F := Ideal) (up M) (up fun _ => GM) (up WKV) : S256x4x256.Idx → EReal) (ix3 j a d) = ((KV M GM WKV j (vcol a d) : ℝ) : EReal) := by
  unfold val_main_v37 val_main_v36
  pointwise
  simp only [kv, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The scores. -/
theorem sc (a : Fin 4) (i : Fin 4096) (j : Fin 256) :
    (val_main_v40 (F := Ideal) (up X) (up fun _ => G) (up M) (up fun _ => GM) (up WQ) (up WKV) : S4x4096x256.Idx → EReal) (ix3 a i j) = ((SC X G M GM WQ WKV a i j : ℝ) : EReal) := by
  unfold val_main_v40 val_main_v38 val_main_v39 val_main_cst_8
  pointwise
  simp only [qh, kh, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The host's largest value along the last axis. -/
theorem host_max {n0 n1 n2 : ℕ} (x : FVec Ideal ⟨3, ![n0, n1, n2]⟩ .f32) (c : FVec Ideal S_ .f32)
    (h : (⟨3, ![n0, n1, n2]⟩ : Shape).ReducesTo [2] ⟨2, ![n0, n1]⟩) (hu : 0 < S_.numel) (a : Fin n0) (b : Fin n1) :
    Host.reduce FloatOps.maximumf x c h hu (ix2 a b)
      = Finset.univ.fold max (c (Shape.Idx.first hu)) fun k : Fin n2 => x (ix3 a b k) := by
  simp only [pointwise]

/-- The largest of a row of reals. -/
theorem mxs (f : Fin 4 → Fin 4096 → Fin 256 → ℝ) (x : FVec Ideal S4x4096x256 .f32)
    (hx : ∀ a i j, (x : S4x4096x256.Idx → EReal) (ix3 a i j) = ((f a i j : ℝ) : EReal))
    (h : S4x4096x256.ReducesTo [2] S4x4096) (hu : 0 < S_.numel) (a : Fin 4) (i : Fin 4096) :
    Host.reduce FloatOps.maximumf x (val_main_cst_9 (F := Ideal)) h hu (ix2 a i) = ((top (f a i) : ℝ) : EReal) := by
  refine (host_max x _ h hu a i).trans ?_
  have e : (val_main_cst_9 (F := Ideal)) (Shape.Idx.first hu) = (⊥ : EReal) := (val_main_cst_9_apply _).trans bits_bot
  rw [e]
  refine Eq.trans (congrArg (Finset.univ.fold max (⊥ : EReal)) (funext fun k => hx a i k)) (fold_max_real _)

/-- The largest score of a row. -/
theorem mx (a : Fin 4) (i : Fin 4096) :
    (val_main_v48 (F := Ideal) (up X) (up fun _ => G) (up M) (up fun _ => GM) (up WQ) (up WKV) : S4x4096.Idx → EReal) (ix2 a i) = ((top (SC X G M GM WQ WKV a i) : ℝ) : EReal) := by
  have h : (val_main_v41 (F := Ideal) (up X) (up fun _ => G) (up M) (up fun _ => GM) (up WQ) (up WKV) : S4x4096.Idx → EReal) (ix2 a i) = ((top (SC X G M GM WQ WKV a i) : ℝ) : EReal) := by
    unfold val_main_v41
    exact mxs _ _ sc _ _ a i
  have e : (val_main_v47 (F := Ideal) : S4x4096.Idx → EReal) (ix2 a i) = ⊥ :=
    (val_main_v47_apply _).trans ((val_main_cst_11_apply _).trans bits_bot)
  refine (val_main_v48_apply _ _ _ _ _ _ _).trans ?_
  rw [h, e]
  exact max_eq_right bot_le

/-- The exponentials. -/
theorem ex (a : Fin 4) (i : Fin 4096) (j : Fin 256) :
    (val_main_v61 (F := Ideal) (up X) (up fun _ => G) (up M) (up fun _ => GM) (up WQ) (up WKV) : S4x4096x256.Idx → EReal) (ix3 a i j) = ((Real.exp (SC X G M GM WQ WKV a i j - top (SC X G M GM WQ WKV a i)) : ℝ) : EReal) := by
  unfold val_main_v61 val_main_v60 val_main_v59 val_main_v58
  pointwise
  simp only [sc, mx, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]

/-- The sum of a row's exponentials. -/
theorem sm (a : Fin 4) (i : Fin 4096) (k : Fin 1) :
    (val_main_v63 (F := Ideal) (up X) (up fun _ => G) (up M) (up fun _ => GM) (up WQ) (up WKV) : S4x4096x1.Idx → EReal) (ix3 a i k) = ((∑ l, Real.exp (SC X G M GM WQ WKV a i l - top (SC X G M GM WQ WKV a i)) : ℝ) : EReal) := by
  unfold val_main_v63 val_main_v62 val_main_cst_17
  pointwise
  simp only [ex, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]

/-- The softmax. -/
theorem p (a : Fin 4) (i : Fin 4096) (j : Fin 256) :
    (val_main_v65 (F := Ideal) (up X) (up fun _ => G) (up M) (up fun _ => GM) (up WQ) (up WKV) : S4x4096x256.Idx → EReal) (ix3 a i j) = ((soft (SC X G M GM WQ WKV a i) j : ℝ) : EReal) := by
  unfold val_main_v65 val_main_v64
  pointwise
  simp only [ex, sm, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The gradient at the heads' outputs. -/
theorem dt (i : Fin 4096) (a : Fin 4) (d : Fin 256) :
    (val_main_v76 (F := Ideal) (up WO) (up CT) : S4096x4x256.Idx → EReal) (ix3 i a d) = ((DATT WO CT i (col a d) : ℝ) : EReal) := by
  unfold val_main_v76 val_main_v75 val_main_v74
  pointwise
  simp only [add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The gradient at the softmax. -/
theorem dp (a : Fin 4) (i : Fin 4096) (j : Fin 256) :
    (val_main_v78 (F := Ideal) (up M) (up fun _ => GM) (up WKV) (up WO) (up CT) : S4x4096x256.Idx → EReal) (ix3 a i j) = ((DP M GM WKV WO CT a i j : ℝ) : EReal) := by
  unfold val_main_v78 val_main_v77
  pointwise
  simp only [dt, vh, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The gradient at the products of queries and keys. -/
theorem ds (a : Fin 4) (i : Fin 4096) (j : Fin 256) :
    (val_main_v94 (F := Ideal) (up X) (up fun _ => G) (up M) (up fun _ => GM) (up WQ) (up WKV) (up WO) (up CT) : S4x4096x256.Idx → EReal) (ix3 a i j) = ((DS X G M GM WQ WKV WO CT a i j : ℝ) : EReal) := by
  unfold val_main_v94 val_main_v92 val_main_v91 val_main_v88 val_main_v87 val_main_v90 val_main_v89 val_main_v86 val_main_v85 val_main_v84 val_main_v83 val_main_v82 val_main_v81 val_main_v68 val_main_v67 val_main_cst_18 val_main_v66 val_main_cst_19 val_main_cst_20 val_main_v93 val_main_cst_21
  pointwise
  simp only [dp, sm, ex, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  exact congrArg _ (congrArg (· * _) (dsoft_eq _ _ _))

/-- The gradient at the values. -/
theorem dv (j : Fin 256) (f : Fin 1024) :
    (val_main_v99 (F := Ideal) (up X) (up fun _ => G) (up M) (up fun _ => GM) (up WQ) (up WKV) (up WO) (up CT) : S256x1024.Idx → EReal) (ix2 j f) = ((∑ i, soft (SC X G M GM WQ WKV (hd f) i) j * DATT WO CT i (col (hd f) (pl f)) : ℝ) : EReal) := by
  unfold val_main_v99 val_main_v80 val_main_v79 val_main_v77
  pointwise
  simp only [dt, p, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  exact congrArg _ (Finset.sum_congr rfl fun i _ => mul_comm _ _)

/-- The gradient at the keys. -/
theorem dk (j : Fin 256) (f : Fin 1024) :
    (val_main_v101 (F := Ideal) (up X) (up fun _ => G) (up M) (up fun _ => GM) (up WQ) (up WKV) (up WO) (up CT) : S256x1024.Idx → EReal) (ix2 j f) = ((∑ i, DS X G M GM WQ WKV WO CT (hd f) i j * Q X G WQ i (col (hd f) (pl f)) : ℝ) : EReal) := by
  unfold val_main_v101 val_main_v96 val_main_v95
  pointwise
  simp only [ds, qh, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The gradient at the keys and values. -/
theorem dkv (j : Fin 256) (f : Fin 2048) :
    (val_main_v103 (F := Ideal) (up X) (up fun _ => G) (up M) (up fun _ => GM) (up WQ) (up WKV) (up WO) (up CT) : S256x2048.Idx → EReal) (ix2 j f) = ((DKV X G M GM WQ WKV WO CT j f : ℝ) : EReal) := by
  unfold val_main_v103 val_main_v100 val_main_cst_22 val_main_v102 val_main_cst_23
  pointwise
  simp only [dv, dk, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  unfold DKV DKVr
  by_cases hf : f.val < 1024
  · rw [dif_neg (by omega), dif_pos hf, col_hd_pl, EReal.coe_zero, zero_add]
    simp only [dif_pos hf]
  · rw [dif_pos ⟨by omega, by omega⟩, dif_neg hf, col_hd_pl, EReal.coe_zero, add_zero]
    simp only [dif_neg hf]

/-- The gradient at the queries. -/
theorem dq (i : Fin 4096) (f : Fin 1024) :
    (val_main_v104 (F := Ideal) (up X) (up fun _ => G) (up M) (up fun _ => GM) (up WQ) (up WKV) (up WO) (up CT) : S4096x1024.Idx → EReal) (ix2 i f) = ((DQ X G M GM WQ WKV WO CT i f : ℝ) : EReal) := by
  unfold val_main_v104 val_main_v98 val_main_v97
  pointwise
  simp only [ds, kh, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The gradient at the queries, as given back. -/
theorem dqb (i : Fin 4096) (f : Fin 1024) :
    (val_main_v126 (F := Ideal) (up X) (up fun _ => G) (up M) (up fun _ => GM) (up WQ) (up WKV) (up WO) (up CT) : S4096x1024.Idx → EReal) (ix2 i f) = ((DQ X G M GM WQ WKV WO CT i f : ℝ) : EReal) := by
  unfold val_main_v126
  pointwise
  simp only [dq, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]

/-- The gradient at the normed row. -/
theorem dh (i : Fin 4096) (k : Fin 1024) :
    (val_main_v105 (F := Ideal) (up X) (up fun _ => G) (up M) (up fun _ => GM) (up WQ) (up WKV) (up WO) (up CT) : S4096x1024.Idx → EReal) (ix2 i k) = ((DH X G M GM WQ WKV WO CT i k : ℝ) : EReal) := by
  unfold val_main_v105
  pointwise
  simp only [dq, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rfl

/-- The gradient at the gain. -/
theorem dg (z : Fin 1) (k : Fin 1024) :
    (val_main_v108 (F := Ideal) (up X) (up fun _ => G) (up M) (up fun _ => GM) (up WQ) (up WKV) (up WO) (up CT) : S1x1024.Idx → EReal) (ix2 z k) = ((DG X G M GM WQ WKV WO CT k : ℝ) : EReal) := by
  unfold val_main_v108 val_main_v107 val_main_v106 val_main_cst_24
  pointwise
  simp only [xh, dh, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  exact congrArg _ (Finset.sum_congr rfl fun i _ => mul_comm _ _)

/-- The gradient at the normed row times the gain. -/
theorem dhg (i : Fin 4096) (k : Fin 1024) :
    (val_main_v110 (F := Ideal) (up X) (up fun _ => G) (up M) (up fun _ => GM) (up WQ) (up WKV) (up WO) (up CT) : S4096x1024.Idx → EReal) (ix2 i k) = ((DH X G M GM WQ WKV WO CT i k * G k : ℝ) : EReal) := by
  unfold val_main_v110 val_main_v109
  pointwise
  simp only [dh, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]

/-- A row's share of the derivative through the mean of squares. -/
theorem dms (i : Fin 4096) (k : Fin 1024) :
    (val_main_v121 (F := Ideal) (up X) (up fun _ => G) (up M) (up fun _ => GM) (up WQ) (up WKV) (up WO) (up CT) : S4096x1024.Idx → EReal) (ix2 i k) = (((∑ l, X i l * (DH X G M GM WQ WKV WO CT i l * G l)) * ((-1 / 2) * (rinv (X i) / ((∑ l, X i l * X i l) / 1024 + eps))) / 1024 : ℝ) : EReal) := by
  unfold val_main_v121 val_main_v120 val_main_v119 val_main_v117 val_main_v113 val_main_v112 val_main_v111 val_main_cst_25 val_main_v118 val_main_cst_26 val_main_cst_27
  pointwise
  simp only [dhg, rms, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rw [Finset.univ_unique, Finset.sum_singleton]

/-- The gradient at the row. -/
theorem dx (i : Fin 4096) (k : Fin 1024) :
    (val_main_v125 (F := Ideal) (up X) (up fun _ => G) (up M) (up fun _ => GM) (up WQ) (up WKV) (up WO) (up CT) : S4096x1024.Idx → EReal) (ix2 i k) = ((DX X G M GM WQ WKV WO CT i k : ℝ) : EReal) := by
  unfold val_main_v125 val_main_v123 val_main_v116 val_main_v115 val_main_v114 val_main_v122 val_main_v124
  pointwise
  simp only [dhg, rs, dms, add_zero, zero_add, up_apply, bits_zero, bits_one, bits_neg_half, bits_1024, bits_eps, bits_sixteenth, bits_bot,
    fold_max_real, max_eq_right bot_le, ← EReal.coe_one, ← EReal.coe_zero, ← EReal.coe_mul, ← coe_sum, div_real ne_1024,
    ← EReal.coe_add, ← EReal.coe_sub, ← EReal.coe_neg, exp_real, div_real (sum_exp_ne _), div_real (sum_exp_sq_ne _),
    rsqrt_real (ms_pos _ _), div_real (ms_ne _ _)]
  rw [← DX_eq]
  refine congrArg _ ?_
  ring

end Cert.Proof.AttnRef

end
-- ==== Proof.AttnEquation.lean ====
/- The attention gradient: the arrays that the kernel leaves are the reference's. -/
module

public import proofs.«01_k».proof.Defs
public import proofs.«01_k».proof.Proof.AttnArray
public import proofs.«01_k».proof.Proof.AttnRef
public import proofs.«01_k».proof.Proof.Gen.AttnKernelIdeal.Value
public import proofs.«01_k».proof.Proof.Gen.AttnReferenceIdeal.Run
public import proofs.«01_k».proof.Proof.Precondition

@[expose] public section

noncomputable section

namespace Cert.Proof.Attn

open Idealize.ShloMosaic Idealize.ShloMosaic.TcCoe Idealize.SL.Sem
open Cert.Maths Cert.Maths.Attn

/-- The side conditions of the precondition's own operations. -/
theorem preFacts : Cert.Pre_finite_attn.Facts where
  bcast_S_S4096x1024 := by decide
  bcast_S_S1x1024 := by decide
  bcast_S_S256x1024 := by decide
  bcast_S_S1024x1024 := by decide
  bcast_S_S1024x2048 := by decide

local instance preFacts_inst : Cert.Pre_finite_attn.Facts := preFacts

variable {X : Fin 4096 → Fin 1024 → ℝ} {G : Fin 1024 → ℝ} {M : Fin 256 → Fin 1024 → ℝ} {GM : Fin 1024 → ℝ} {WQ : Fin 1024 → Fin 1024 → ℝ} {WKV : Fin 1024 → Fin 2048 → ℝ} {WO : Fin 1024 → Fin 1024 → ℝ} {CT : Fin 4096 → Fin 1024 → ℝ}

/-- A device whose arguments are finite has real arguments. -/
theorem holds_of_pre {m : (ℓ : Loc Cert.AttnKernelIdeal.nD Cert.AttnKernelIdeal.τ Cert.AttnKernelIdeal.sig) → Buf (Elt Ideal) ℓ}
    (h : Cert.Pre_AttnKernelIdeal_finite_attn m) (c : Dev Cert.AttnKernelIdeal.nD) :
    ∃ X G M GM WQ WKV WO CT, Holds m c X G M GM WQ WKV WO CT := by
  obtain ⟨h0, h1, h2, h3, h4, h5, h6, h7⟩ := h c
  obtain ⟨X, e0⟩ := real_of_pre _ _ h0
  obtain ⟨G, e1⟩ := real_of_pre _ _ h1
  obtain ⟨M, e2⟩ := real_of_pre _ _ h2
  obtain ⟨GM, e3⟩ := real_of_pre _ _ h3
  obtain ⟨WQ, e4⟩ := real_of_pre _ _ h4
  obtain ⟨WKV, e5⟩ := real_of_pre _ _ h5
  obtain ⟨WO, e6⟩ := real_of_pre _ _ h6
  obtain ⟨CT, e7⟩ := real_of_pre _ _ h7
  refine ⟨X, G 0, M, GM 0, WQ, WKV, WO, CT, ?_, ?_, ?_, ?_, ?_, ?_, ?_, ?_⟩
  · exact fun i k => congrFun e0 _
  · exact fun i k => (congrFun e1 _).trans (by rw [up_apply, Subsingleton.elim i 0])
  · exact fun i k => congrFun e2 _
  · exact fun i k => (congrFun e3 _).trans (by rw [up_apply, Subsingleton.elim i 0])
  · exact fun i k => congrFun e4 _
  · exact fun i k => congrFun e5 _
  · exact fun i k => congrFun e6 _
  · exact fun i k => congrFun e7 _

/-- The reference's result, as an array of reals. -/
theorem ref_dx : (Cert.AttnReferenceIdeal.Read.val_main_v125 (F := Ideal) (up X) (up fun _ => G) (up M) (up fun _ => GM) (up WQ) (up WKV) (up WO) (up CT) : Cert.AttnReferenceIdeal.S4096x1024.Idx → EReal) = up (DX X G M GM WQ WKV WO CT) :=
  eq_up _ _ fun i k => AttnRef.dx i k

/-- The reference's result, as an array of reals. -/
theorem ref_dq : (Cert.AttnReferenceIdeal.Read.val_main_v126 (F := Ideal) (up X) (up fun _ => G) (up M) (up fun _ => GM) (up WQ) (up WKV) (up WO) (up CT) : Cert.AttnReferenceIdeal.S4096x1024.Idx → EReal) = up (DQ X G M GM WQ WKV WO CT) :=
  eq_up _ _ fun i k => AttnRef.dqb i k

/-- The reference's result, as an array of reals. -/
theorem ref_dkv : (Cert.AttnReferenceIdeal.Read.val_main_v103 (F := Ideal) (up X) (up fun _ => G) (up M) (up fun _ => GM) (up WQ) (up WKV) (up WO) (up CT) : Cert.AttnReferenceIdeal.S256x2048.Idx → EReal) = up (DKV X G M GM WQ WKV WO CT) :=
  eq_up _ _ fun i k => AttnRef.dkv i k

/-- The reference's result, as an array of reals. -/
theorem ref_dg : (Cert.AttnReferenceIdeal.Read.val_main_v108 (F := Ideal) (up X) (up fun _ => G) (up M) (up fun _ => GM) (up WQ) (up WKV) (up WO) (up CT) : Cert.AttnReferenceIdeal.S1x1024.Idx → EReal) = up fun _ k => DG X G M GM WQ WKV WO CT k :=
  eq_up _ _ fun i k => AttnRef.dg i k

/-- The value claim. -/
theorem algebraic (hK : Cert.AttnKernelIdeal.Facts) (hR : Cert.AttnReferenceIdeal.Facts) (hP : Cert.Pre_finite_attn.Facts) :
    Cert.algebraic_AttnKernelIdeal_AttnReferenceIdeal_pre_finite_attn := by
  intro m g m' g' hpre heq
  refine ⟨fun c => (Cert.AttnKernelIdeal.Gen.dats m 0 c).arrAt 7 Cert.AttnKernelIdeal.cfg0.N,
    fun c => (Cert.AttnKernelIdeal.Gen.dats m 0 c).arrAt 8 Cert.AttnKernelIdeal.cfg0.N,
    fun c => (Cert.AttnKernelIdeal.Gen.dats m 0 c).arrAt 9 Cert.AttnKernelIdeal.cfg0.N,
    fun c => (Cert.AttnKernelIdeal.Gen.dats m 0 c).arrAt 10 Cert.AttnKernelIdeal.cfg0.N,
    Cert.AttnKernelIdeal.Value.run_blocks m g, ?_⟩
  refine (θ_run _ _ _).mono (fun r h c => ?_) (Cert.AttnReferenceIdeal.Value.run m' g')
  obtain ⟨r0, r1, r2, r3, ra⟩ := h c
  obtain ⟨X, G, M, GM, WQ, WKV, WO, CT, hh⟩ := holds_of_pre hpre c
  obtain ⟨e0, e1, e2, e3, e4, e5, e6, e7⟩ := heq c
  have x0 := e0.trans (eq_up _ X hh.x)
  have x1 := e1.trans (eq_up _ (fun _ => G) hh.g)
  have x2 := e2.trans (eq_up _ M hh.mem)
  have x3 := e3.trans (eq_up _ (fun _ => GM) hh.gm)
  have x4 := e4.trans (eq_up _ WQ hh.wq)
  have x5 := e5.trans (eq_up _ WKV hh.wkv)
  have x6 := e6.trans (eq_up _ WO hh.wo)
  have x7 := e7.trans (eq_up _ CT hh.ct)
  refine ⟨?_, ?_, ?_, ?_, ra⟩
  · refine r0.trans ((Cert.AttnReferenceIdeal.Read.val_main_v125_eq m' c).trans (Eq.trans ?_ (ref_dx.trans (arr_dx hh).symm)))
    rw [x0, x1, x2, x3, x4, x5, x6, x7]
  · refine r1.trans ((Cert.AttnReferenceIdeal.Read.val_main_v126_eq m' c).trans (Eq.trans ?_ (ref_dq.trans (arr_dq hh).symm)))
    rw [x0, x1, x2, x3, x4, x5, x6, x7]
  · refine r2.trans ((Cert.AttnReferenceIdeal.Read.val_main_v103_eq m' c).trans (Eq.trans ?_ (ref_dkv.trans (arr_dkv hh).symm)))
    rw [x0, x1, x2, x3, x4, x5, x6, x7]
  · refine r3.trans ((Cert.AttnReferenceIdeal.Read.val_main_v108_eq m' c).trans (Eq.trans ?_ (ref_dg.trans (arr_dg hh).symm)))
    rw [x0, x1, x2, x3, x4, x5, x6, x7]

/-- The reference ends with its arguments unchanged; it declares no semaphore. -/
theorem ref_frame (hR : Cert.AttnReferenceIdeal.Facts) : Cert.quiescent_AttnReferenceIdeal := fun m ρ _ =>
  (θ_run _ _ _).mono (fun r h => ⟨fun c => (h c).2.2.2.2, sem_eq_zero_of_no_sems (by decide) r.2⟩)
    (Cert.AttnReferenceIdeal.Value.run (F := Ideal) m ρ)

end Cert.Proof.Attn

end
-- ==== Proof.HeadSpec.lean ====
/- The last half-step with the loss and its gradient, over the extended reals. -/
module

public import proofs.«01_k».proof.Proof.Reals

@[expose] public section

noncomputable section

namespace Cert.Maths.Head

open Idealize.ShloMosaic Cert.Maths

/-- The word of a 1024th. -/
theorem bits_1024th : Ideal.ofBits .f32 0x3A800000#32 = ((1 / 1024 : ℝ) : EReal) := by
  simp [Ideal.ofBits, Ideal.ieee, -EReal.coe_mul]; norm_num

/-! ## Extended reals -/

/-- A positive real factor goes into a sum. -/
theorem mul_add_pos {r : ℝ} (h : 0 ≤ r) (x y : EReal) : (r : EReal) * (x + y) = r * x + r * y :=
  EReal.left_distrib_of_nonneg_of_ne_top (EReal.coe_nonneg.mpr h) (EReal.coe_ne_top r) x y

/-- A positive real factor goes into a finite sum. -/
theorem mul_sum_pos {ι : Type*} (s : Finset ι) {r : ℝ} (h : 0 ≤ r) (f : ι → EReal) : (r : EReal) * ∑ i ∈ s, f i = ∑ i ∈ s, r * f i := by
  classical
  induction s using Finset.induction_on with
  | empty => simp
  | insert a s ha ih => rw [Finset.sum_insert ha, Finset.sum_insert ha, mul_add_pos h, ih]

/-- A quotient by a nonzero real is a product. -/
theorem div_1024 (x : EReal) : Ideal.div x ((1024 : ℝ) : EReal) = x * ((1 / 1024 : ℝ) : EReal) := Ideal.div_coe ne_1024 x

/-- The mean of squares of a row and the small number. -/
def ms (x : Fin 1024 → EReal) : EReal := Ideal.div (∑ l, x l * x l) ((1024 : ℝ) : EReal) + ((eps : ℝ) : EReal)

/-- The reciprocal root mean square of a row. -/
def rr (x : Fin 1024 → EReal) : EReal := Ideal.rsqrt (ms x)

/-- A square is not negative. -/
theorem mul_self_nonneg' (x : EReal) : 0 ≤ x * x := by
  induction x with
  | bot => simp
  | top => simp
  | coe r => rw [← EReal.coe_mul]; exact EReal.coe_nonneg.mpr (mul_self_nonneg r)

/-- A row that holds an infinity has mean of squares plus infinity. -/
theorem ms_top (x : Fin 1024 → EReal) (h : ¬∀ l, ∃ r : ℝ, x l = r) : ms x = ⊤ := by
  obtain ⟨l, hl⟩ := not_forall.mp h
  have e : x l * x l = ⊤ := by
    generalize x l = y at hl
    induction y with
    | bot => simp
    | top => simp
    | coe r => exact absurd ⟨r, rfl⟩ hl
  have hs : ∑ l, x l * x l = ⊤ := by
    refine top_le_iff.mp ?_
    rw [← e]
    exact Finset.single_le_sum (f := fun l => x l * x l) (fun l _ => mul_self_nonneg' _) (Finset.mem_univ l)
  rw [ms, hs, div_1024, EReal.top_mul_coe_of_pos (by norm_num), EReal.top_add_coe]

/-- The gradient through the norm: the backward pass's formula (dividing by the root mean square once) and the chain
    rule's (through the mean of squares) agree on every row. -/
theorem rms_bwd (o u : Fin 1024 → EReal) (k : Fin 1024) :
    u k * rr o + o k * Ideal.div ((∑ l, o l * u l) * (((-1 / 2 : ℝ) : EReal) * Ideal.div (rr o) (ms o))) ((1024 : ℝ) : EReal)
        + Ideal.div ((∑ l, o l * u l) * (((-1 / 2 : ℝ) : EReal) * Ideal.div (rr o) (ms o))) ((1024 : ℝ) : EReal) * o k
      = rr o * (u k - o k * rr o * Ideal.div (∑ l, u l * (o l * rr o)) ((1024 : ℝ) : EReal)) := by
  by_cases h : ∀ l, ∃ r : ℝ, o l = r
  · choose a ha using h
    have hm : ms o = (((∑ l, a l * a l) / 1024 + eps : ℝ) : EReal) := by
      simp only [ms, ha, ← EReal.coe_mul, ← coe_sum, div_real ne_1024, ← EReal.coe_add]
    have hr : rr o = ((rinv a : ℝ) : EReal) := by rw [rr, hm, rsqrt_real (ms_pos _ _)]; rfl
    have hp : 0 ≤ rinv a := inv_nonneg.mpr (Real.sqrt_nonneg _)
    have hs : (∑ l, u l * (o l * rr o)) = ((rinv a : ℝ) : EReal) * ∑ l, o l * u l := by
      rw [mul_sum_pos _ hp]
      exact Finset.sum_congr rfl fun l _ => by rw [hr, mul_comm (u l), mul_comm (o l) (rinv a : EReal), mul_assoc]
    have hq : rinv a / ((∑ l, a l * a l) / 1024 + eps) = rinv a * (rinv a * rinv a) := by rw [rinv_sq, mul_one_div]
    rw [hs, hr, hm, div_real (ms_ne _ _), ha k, div_1024, div_1024, hq]
    generalize (∑ l, o l * u l) = S
    generalize rinv a = r at hp
    generalize a k = b
    rw [sub_eq_add_neg, mul_add_pos hp, mul_comm (u k), add_assoc]
    refine congrArg _ ?_
    have e1 : (b : EReal) * (S * (((-1 / 2 : ℝ) : EReal) * ((r * (r * r) : ℝ) : EReal)) * ((1 / 1024 : ℝ) : EReal))
        = -((1 / 2 : ℝ) * (((b * (r * (r * r)) * (1 / 1024) : ℝ) : EReal) * S)) := by
      rw [← EReal.neg_mul, mul_comm S, ← EReal.coe_mul, mul_assoc, mul_comm S, ← mul_assoc, ← mul_assoc, ← mul_assoc,
        ← EReal.coe_mul, ← EReal.coe_mul, ← EReal.coe_neg]
      refine Eq.trans ?_ (mul_assoc _ _ S)
      rw [← EReal.coe_mul]
      exact congrArg (· * S) (congrArg _ (by ring))
    have e2 : (r : EReal) * -((b : EReal) * r * ((r : EReal) * S * ((1 / 1024 : ℝ) : EReal)))
        = -(((b * (r * (r * r)) * (1 / 1024) : ℝ) : EReal) * S) := by
      rw [mul_neg, mul_comm ((r : EReal) * S), ← mul_assoc, ← mul_assoc, ← mul_assoc, ← EReal.coe_mul, ← EReal.coe_mul,
        ← EReal.coe_mul, ← EReal.coe_mul]
      exact congrArg Neg.neg (congrArg (· * S) (congrArg _ (by ring)))
    rw [mul_comm _ (b : EReal), e1, e2]
    generalize ((b * (r * (r * r)) * (1 / 1024) : ℝ) : EReal) * S = T
    induction T with
    | bot => rw [EReal.coe_mul_bot_of_pos (by norm_num), EReal.neg_bot]; rfl
    | top => rw [EReal.coe_mul_top_of_pos (by norm_num), EReal.neg_top]; rfl
    | coe t => rw [← EReal.coe_mul, ← EReal.coe_neg, ← EReal.coe_neg, ← EReal.coe_add]; exact congrArg _ (by ring)
  · have hm := ms_top o h
    have hr : rr o = 0 := by rw [rr, hm]; rfl
    have hd : Ideal.div 0 (⊤ : EReal) = 0 := by unfold Ideal.div; rw [if_neg (by simp)]; simp
    rw [hr, hm, hd, div_1024]
    simp

/-! ## The half-step, the loss, their gradients -/

section
variable (X : Fin 4096 → Fin 1024 → EReal) (G : Fin 1024 → EReal) (WG WU : Fin 1024 → Fin 2816 → EReal)
  (WD : Fin 2816 → Fin 1024 → EReal) (GF : Fin 1024 → EReal) (T : Fin 4096 → Fin 1024 → EReal)

/-- The normed row. -/
def H (i : Fin 4096) (k : Fin 1024) : EReal := X i k * rr (X i) * G k

/-- A projection of the normed row. -/
def A (W : Fin 1024 → Fin 2816 → EReal) (i : Fin 4096) (f : Fin 2816) : EReal := ∑ k, H X G i k * W k f

/-- The logistic function. -/
def sgm (a : EReal) : EReal := Ideal.div ((1 : ℝ) : EReal) (((1 : ℝ) : EReal) + Ideal.exp (-a))

/-- The gated product. -/
def S (i : Fin 4096) (f : Fin 2816) : EReal := A X G WG i f * sgm (A X G WG i f) * A X G WU i f

/-- The half-step's result. -/
def O (i : Fin 4096) (k : Fin 1024) : EReal := X i k + ((1 / 2 : ℝ) : EReal) * ∑ f, S X G WG WU i f * WD f k

/-- The normed result before the gain. -/
def OH (i : Fin 4096) (k : Fin 1024) : EReal := O X G WG WU WD i k * rr (O X G WG WU WD i)

/-- The error. -/
def ER (i : Fin 4096) (k : Fin 1024) : EReal := OH X G WG WU WD i k * GF k - T i k

/-- The gradient at the normed result. -/
def DY (i : Fin 4096) (k : Fin 1024) : EReal := ER X G WG WU WD GF T i k * ((1 / 1024 : ℝ) : EReal)

/-- A row's mean of squared errors. -/
def LR (i : Fin 4096) : EReal := (∑ k, ER X G WG WU WD GF T i k * ER X G WG WU WD GF T i k) * ((1 / 1024 : ℝ) : EReal)

/-- The loss. -/
def LOSS : EReal := ((1 / 2 : ℝ) : EReal) * ∑ i, LR X G WG WU WD GF T i

/-- The gradient at the last norm's gain. -/
def DG (k : Fin 1024) : EReal := ∑ i, DY X G WG WU WD GF T i k * OH X G WG WU WD i k

/-- The gradient at the half-step's result. -/
def DX (i : Fin 4096) (k : Fin 1024) : EReal :=
  rr (O X G WG WU WD i) * (DY X G WG WU WD GF T i k * GF k
    - OH X G WG WU WD i k * Ideal.div (∑ l, DY X G WG WU WD GF T i l * GF l * OH X G WG WU WD i l) ((1024 : ℝ) : EReal))

/-- The gradient at the result as the automatic derivative writes it. -/
theorem DX_eq (i : Fin 4096) (k : Fin 1024) :
    DY X G WG WU WD GF T i k * GF k * rr (O X G WG WU WD i)
        + O X G WG WU WD i k * Ideal.div ((∑ l, O X G WG WU WD i l * (DY X G WG WU WD GF T i l * GF l))
            * (((-1 / 2 : ℝ) : EReal) * Ideal.div (rr (O X G WG WU WD i)) (ms (O X G WG WU WD i)))) ((1024 : ℝ) : EReal)
        + Ideal.div ((∑ l, O X G WG WU WD i l * (DY X G WG WU WD GF T i l * GF l))
            * (((-1 / 2 : ℝ) : EReal) * Ideal.div (rr (O X G WG WU WD i)) (ms (O X G WG WU WD i)))) ((1024 : ℝ) : EReal)
          * O X G WG WU WD i k
      = DX X G WG WU WD GF T i k :=
  rms_bwd (O X G WG WU WD i) (fun l => DY X G WG WU WD GF T i l * GF l) k

end

/-- An array of two axes. -/
def arr {n k : ℕ} (f : Fin n → Fin k → EReal) : Shape.Idx ⟨2, ![n, k]⟩ → EReal := fun i => f (i 0) (i 1)

theorem arr_apply {n k : ℕ} (f : Fin n → Fin k → EReal) (a : Fin n) (b : Fin k) : arr f (ix2 a b) = f a b := rfl

/-- Such an array at equal coordinates. -/
theorem arr_congr {n k : ℕ} (f : Fin n → Fin k → EReal) (a : Fin n) (b : Fin k) (i : Shape.Idx ⟨2, ![n, k]⟩)
    (ha : (i 0).val = a.val) (hb : (i 1).val = b.val) : f a b = arr f i := by
  have h0 : i 0 = a := Fin.ext ha
  have h1 : i 1 = b := Fin.ext hb
  rw [arr, h0, h1]

/-- An array is given by its entries. -/
theorem eq_arr {n k : ℕ} (x : Shape.Idx ⟨2, ![n, k]⟩ → EReal) (f : Fin n → Fin k → EReal) (h : ∀ i j, x (ix2 i j) = f i j) : x = arr f := by
  funext y
  have hy : y = ix2 (y 0) (y 1) := by funext a; fin_cases a <;> rfl
  rw [hy]
  exact h _ _

end Cert.Maths.Head

end
-- ==== Proof.HeadTile.lean ====
/- One tile of the last half-step with the loss and its gradient. -/
module

public import proofs.«01_k».proof.Proof.Gen.HeadKernelIdeal.Value
public import proofs.«01_k».proof.Proof.HeadSpec
public import Idealize.ShloMosaic.Lib.Pipeline.ValueKit
public import Idealize.ShloMosaic.Lib.Pointwise.Tactic
public import Idealize.ShloMosaic.Lib.StableHlo.ReadAt

@[expose] public section

noncomputable section

namespace Cert.Proof.Head

open Cert.HeadKernelIdeal Cert.HeadKernelIdeal.Gen Idealize.ShloMosaic Idealize.ShloMosaic.TcCoe Idealize.SL.Sem
open Idealize.ShloMosaic.Pipeline (Dat)
open Cert.Maths Cert.Maths.Head

/-- Row `i` of tile `t` as a row of the array. -/
def row (t : Fin cfg0.N) (i : Fin 512) : Fin 4096 := ⟨t.val * 512 + i.val, by have := t.isLt; have : cfg0.N = 8 := rfl; omega⟩

/-- The arguments on device `c` are these arrays. -/
structure Holds (m : (ℓ : Loc nD τ sig) → Buf (Elt Ideal) ℓ) (c : Dev nD)
    (X : Fin 4096 → Fin 1024 → EReal) (G : Fin 1024 → EReal) (WG WU : Fin 1024 → Fin 2816 → EReal)
    (WD : Fin 2816 → Fin 1024 → EReal) (GF : Fin 1024 → EReal) (T : Fin 4096 → Fin 1024 → EReal) : Prop where
  x : ∀ i k, (m (c, Proc.tc.devRef main_arg0) : S4096x1024.Idx → EReal) (ix2 i k) = X i k
  g : ∀ i k, (m (c, Proc.tc.devRef main_arg1) : S1x1024.Idx → EReal) (ix2 i k) = G k
  wg : ∀ i k, (m (c, Proc.tc.devRef main_arg2) : S1024x2816.Idx → EReal) (ix2 i k) = WG i k
  wu : ∀ i k, (m (c, Proc.tc.devRef main_arg3) : S1024x2816.Idx → EReal) (ix2 i k) = WU i k
  wd : ∀ i k, (m (c, Proc.tc.devRef main_arg4) : S2816x1024.Idx → EReal) (ix2 i k) = WD i k
  gf : ∀ i k, (m (c, Proc.tc.devRef main_arg5) : S1x1024.Idx → EReal) (ix2 i k) = GF k
  tg : ∀ i k, (m (c, Proc.tc.devRef main_arg6) : S4096x1024.Idx → EReal) (ix2 i k) = T i k

variable {m : (ℓ : Loc nD τ sig) → Buf (Elt Ideal) ℓ} {c : Dev nD}
  {X : Fin 4096 → Fin 1024 → EReal} {G : Fin 1024 → EReal} {WG WU : Fin 1024 → Fin 2816 → EReal}
  {WD : Fin 2816 → Fin 1024 → EReal} {GF : Fin 1024 → EReal} {T : Fin 4096 → Fin 1024 → EReal}

/-- The gate's weights as the call takes them, transposed. -/
theorem weight_g (h : Holds m c X G WG WU WD GF T) (f : Fin 2816) (k : Fin 1024) :
    (V m c main_v1 : S2816x1024.Idx → EReal) (ix2 f k) = WG k f := by
  unfold V
  after_reads_at
  exact h.wg _ _

/-- The value's weights as the call takes them, transposed. -/
theorem weight_u (h : Holds m c X G WG WU WD GF T) (f : Fin 2816) (k : Fin 1024) :
    (V m c main_v3 : S2816x1024.Idx → EReal) (ix2 f k) = WU k f := by
  unfold V
  after_reads_at
  exact h.wu _ _

/-- The output weights as the call takes them. -/
theorem weight_d (h : Holds m c X G WG WU WD GF T) (f : Fin 2816) (k : Fin 1024) :
    (V m c main_v4 : S2816x1024.Idx → EReal) (ix2 f k) = WD f k := by
  unfold V
  after_reads_at
  exact h.wd _ _

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![t.val, 0] := by decide +kernel
theorem index9 : ∀ t : Fin cfg0.N, win0_9.index t = ![t.val, 0] := by decide +kernel
theorem index10 : ∀ t : Fin cfg0.N, win0_10.index t = ![t.val, 0] := by decide +kernel
theorem index11 : ∀ t : Fin cfg0.N, win0_11.index t = ![0, 0] := by decide +kernel
theorem index12 : ∀ t : Fin cfg0.N, win0_12.index t = ![0, 0] := by decide +kernel

/-- The tile of the rows. -/
theorem tile_x (h : Holds m c X G WG WU WD GF T) (t : Fin cfg0.N) (i : Fin 512) (k : Fin 1024) :
    (iblk m c 0 t : S512x1024.Idx → EReal) (ix2 i k) = X (row t i) k := by
  blk_simp [iblk]
  rw [V_main_arg0]
  refine Eq.trans (congrArg _ (?_ : _ = ix2 (row t i) k)) (h.x _ _)
  funext a; refine Fin.ext ?_
  fin_cases a <;> blk_simp [index0] <;> simp [row]

/-- The gain, whole at every tile. -/
theorem tile_g (h : Holds m c X G WG WU WD GF T) (t : Fin cfg0.N) (i : Fin 1) (k : Fin 1024) :
    (iblk m c 1 t : S1x1024.Idx → EReal) (ix2 i k) = G k := by
  blk_simp [iblk]
  rw [V_main_arg1]
  refine Eq.trans (congrArg _ (?_ : _ = ix2 i k)) (h.g _ _)
  funext a; refine Fin.ext ?_
  fin_cases a <;> blk_simp [index1] <;> simp [row]

/-- The gate's weights, whole at every tile. -/
theorem tile_wg (h : Holds m c X G WG WU WD GF T) (t : Fin cfg0.N) (i : Fin 2816) (k : Fin 1024) :
    (iblk m c 2 t : S2816x1024.Idx → EReal) (ix2 i k) = WG k i := by
  blk_simp [iblk]
  refine Eq.trans (congrArg _ (?_ : _ = ix2 i k)) (weight_g h _ _)
  funext a; refine Fin.ext ?_
  fin_cases a <;> blk_simp [index2] <;> simp

/-- The value's weights, whole at every tile. -/
theorem tile_wu (h : Holds m c X G WG WU WD GF T) (t : Fin cfg0.N) (i : Fin 2816) (k : Fin 1024) :
    (iblk m c 3 t : S2816x1024.Idx → EReal) (ix2 i k) = WU k i := by
  blk_simp [iblk]
  refine Eq.trans (congrArg _ (?_ : _ = ix2 i k)) (weight_u h _ _)
  funext a; refine Fin.ext ?_
  fin_cases a <;> blk_simp [index3] <;> simp

/-- The output weights, whole at every tile. -/
theorem tile_wd (h : Holds m c X G WG WU WD GF T) (t : Fin cfg0.N) (i : Fin 2816) (k : Fin 1024) :
    (iblk m c 4 t : S2816x1024.Idx → EReal) (ix2 i k) = WD i k := by
  blk_simp [iblk]
  refine Eq.trans (congrArg _ (?_ : _ = ix2 i k)) (weight_d h _ _)
  funext a; refine Fin.ext ?_
  fin_cases a <;> blk_simp [index4] <;> simp

/-- The last gain, whole at every tile. -/
theorem tile_gf (h : Holds m c X G WG WU WD GF T) (t : Fin cfg0.N) (i : Fin 1) (k : Fin 1024) :
    (iblk m c 5 t : S1x1024.Idx → EReal) (ix2 i k) = GF k := by
  blk_simp [iblk]
  rw [V_main_arg5]
  refine Eq.trans (congrArg _ (?_ : _ = ix2 i k)) (h.gf _ _)
  funext a; refine Fin.ext ?_
  fin_cases a <;> blk_simp [index5] <;> simp [row]

/-- The tile of the targets. -/
theorem tile_tg (h : Holds m c X G WG WU WD GF T) (t : Fin cfg0.N) (i : Fin 512) (k : Fin 1024) :
    (iblk m c 6 t : S512x1024.Idx → EReal) (ix2 i k) = T (row t i) k := by
  blk_simp [iblk]
  rw [V_main_arg6]
  refine Eq.trans (congrArg _ (?_ : _ = ix2 (row t i) k)) (h.tg _ _)
  funext a; refine Fin.ext ?_
  fin_cases a <;> blk_simp [index6] <;> simp [row]

/-! ## The body's values -/

/-- The normed rows. -/
theorem h_pay (h : Holds m c X G WG WU WD GF T) (t : Fin cfg0.N) (i : Fin 512) (k : Fin 1024) :
    (k0_pay7 (F := Ideal) (iblk m c 0 t) (iblk m c 1 t) : S512x1024.Idx → EReal) (ix2 i k) = H X G (row t i) k := by
  unfold k0_pay7
  pointwise
  simp only [tile_x h, tile_g h, bits_1024, bits_eps]
  rfl

/-- The gate's preactivation. -/
theorem a_pay (h : Holds m c X G WG WU WD GF T) (t : Fin cfg0.N) (i : Fin 512) (f : Fin 2816) :
    (k0_pay8 (F := Ideal) (iblk m c 0 t) (iblk m c 1 t) (iblk m c 2 t) : S512x2816.Idx → EReal) (ix2 i f) = A X G WG (row t i) f := by
  unfold k0_pay8
  pointwise
  simp only [h_pay h, tile_wg h]
  rfl

/-- The value's projection. -/
theorem b_pay (h : Holds m c X G WG WU WD GF T) (t : Fin cfg0.N) (i : Fin 512) (f : Fin 2816) :
    (k0_pay9 (F := Ideal) (iblk m c 0 t) (iblk m c 1 t) (iblk m c 3 t) : S512x2816.Idx → EReal) (ix2 i f) = A X G WU (row t i) f := by
  unfold k0_pay9
  pointwise
  simp only [h_pay h, tile_wu h]
  rfl

/-- The gated product. -/
theorem s_pay (h : Holds m c X G WG WU WD GF T) (t : Fin cfg0.N) (i : Fin 512) (f : Fin 2816) :
    (k0_pay10 (F := Ideal) (iblk m c 0 t) (iblk m c 1 t) (iblk m c 2 t) (iblk m c 3 t) : S512x2816.Idx → EReal) (ix2 i f)
      = S X G WG WU (row t i) f := by
  unfold k0_pay10
  pointwise
  simp only [a_pay h, b_pay h, bits_one, bits_zero, EReal.coe_zero, sub_eq_add_neg, zero_add]
  rfl

variable (m c) in
/-- The product with the output weights. -/
abbrev pv (t : Fin cfg0.N) : FVec Ideal S512x1024 .f32 :=
  k0_pay11 (F := Ideal) (iblk m c 0 t) (iblk m c 1 t) (iblk m c 2 t) (iblk m c 3 t) (iblk m c 4 t)

/-- The half-step's result. -/
theorem o_pay (h : Holds m c X G WG WU WD GF T) (t : Fin cfg0.N) (i : Fin 512) (k : Fin 1024) :
    (k0_pay12 (F := Ideal) (iblk m c 0 t) (pv m c t) : S512x1024.Idx → EReal) (ix2 i k) = O X G WG WU WD (row t i) k := by
  unfold k0_pay12 pv k0_pay11
  pointwise
  simp only [s_pay h, tile_x h, tile_wd h, bits_half]
  rfl

/-- Its reciprocal root mean square. -/
theorem r_pay (h : Holds m c X G WG WU WD GF T) (t : Fin cfg0.N) (i : Fin 512) (k : Fin 1) :
    (k0_pay13 (F := Ideal) (iblk m c 0 t) (pv m c t) : S512x1.Idx → EReal) (ix2 i k) = rr (O X G WG WU WD (row t i)) := by
  unfold k0_pay13
  pointwise
  simp only [o_pay h, bits_1024, bits_eps]
  rfl

/-- The normed result before the gain. -/
theorem oh_pay (h : Holds m c X G WG WU WD GF T) (t : Fin cfg0.N) (i : Fin 512) (k : Fin 1024) :
    (k0_pay14 (F := Ideal) (iblk m c 0 t) (pv m c t) : S512x1024.Idx → EReal) (ix2 i k) = OH X G WG WU WD (row t i) k := by
  unfold k0_pay14
  pointwise
  simp only [o_pay h, r_pay h]
  rfl

/-- The error. -/
theorem er_pay (h : Holds m c X G WG WU WD GF T) (t : Fin cfg0.N) (i : Fin 512) (k : Fin 1024) :
    (k0_pay15 (F := Ideal) (iblk m c 0 t) (pv m c t) (iblk m c 5 t) (iblk m c 6 t) : S512x1024.Idx → EReal) (ix2 i k)
      = ER X G WG WU WD GF T (row t i) k := by
  unfold k0_pay15
  pointwise
  simp only [oh_pay h, tile_gf h, tile_tg h]
  rfl

/-- The gradient at the normed result. -/
theorem dy_pay (h : Holds m c X G WG WU WD GF T) (t : Fin cfg0.N) (i : Fin 512) (k : Fin 1024) :
    (k0_pay16 (F := Ideal) (iblk m c 0 t) (pv m c t) (iblk m c 5 t) (iblk m c 6 t) : S512x1024.Idx → EReal) (ix2 i k)
      = DY X G WG WU WD GF T (row t i) k := by
  unfold k0_pay16
  pointwise
  simp only [er_pay h, bits_1024th]
  rfl

/-- The tile's share of the loss. -/
theorem loss_pay (h : Holds m c X G WG WU WD GF T) (t : Fin cfg0.N) (i k : Fin 1) :
    (k0_pay17 (F := Ideal) (iblk m c 0 t) (pv m c t) (iblk m c 5 t) (iblk m c 6 t) : S1x1.Idx → EReal) (ix2 i k)
      = ((1 / 2 : ℝ) : EReal) * ∑ x, LR X G WG WU WD GF T (row t x) := by
  unfold k0_pay17
  pointwise
  simp only [er_pay h, bits_1024th, bits_half]
  rfl

/-- The gradient at the half-step's result. -/
theorem dx_pay (h : Holds m c X G WG WU WD GF T) (t : Fin cfg0.N) (i : Fin 512) (k : Fin 1024) :
    (k0_pay18 (F := Ideal) (iblk m c 0 t) (pv m c t) (iblk m c 5 t) (iblk m c 6 t) : S512x1024.Idx → EReal) (ix2 i k)
      = DX X G WG WU WD GF T (row t i) k := by
  unfold k0_pay18
  pointwise
  simp only [dy_pay h, oh_pay h, r_pay h, tile_gf h, bits_1024]
  rfl

/-- The tile's share of the gradient at the last gain. -/
theorem dg_pay (h : Holds m c X G WG WU WD GF T) (t : Fin cfg0.N) (i : Fin 1) (k : Fin 1024) :
    (k0_pay19 (F := Ideal) (iblk m c 0 t) (pv m c t) (iblk m c 5 t) (iblk m c 6 t) : S1x1024.Idx → EReal) (ix2 i k)
      = ∑ x, DY X G WG WU WD GF T (row t x) k * OH X G WG WU WD (row t x) k := by
  unfold k0_pay19
  pointwise
  simp only [dy_pay h, oh_pay h]

end Cert.Proof.Head

end
-- ==== Proof.HeadArray.lean ====
/- The kernel's arrays of the last half-step, the loss and its gradient, after the last tile. -/
module

public import proofs.«01_k».proof.Proof.HeadTile

@[expose] public section

noncomputable section

namespace Cert.Proof.Head

open Cert.HeadKernelIdeal Cert.HeadKernelIdeal.Gen Idealize.ShloMosaic Idealize.ShloMosaic.TcCoe Idealize.SL.Sem
open Idealize.ShloMosaic.Pipeline (Dat)
open Cert.Maths Cert.Maths.Head

variable {m : (ℓ : Loc nD τ sig) → Buf (Elt Ideal) ℓ} {c : Dev nD}
  {X : Fin 4096 → Fin 1024 → EReal} {G : Fin 1024 → EReal} {WG WU : Fin 1024 → Fin 2816 → EReal}
  {WD : Fin 2816 → Fin 1024 → EReal} {GF : Fin 1024 → EReal} {T : Fin 4096 → Fin 1024 → EReal}

/-- The tile of the gradient at the half-step's result, at the first tile. -/
theorem out_dx_A (h : Holds m c X G WG WU WD GF T) (t : Fin cfg0.N) (ht : t.val % 8 = 0) (i : Fin 512) (k : Fin 1024) :
    ((outsAt0 m c t.val t.isLt).1 : S512x1024.Idx → EReal) (ix2 i k) = DX X G WG WU WD GF T (row t i) k := by
  rw [outsAt0_A m c t ht]
  frame_out
  exact dx_pay h t i k

/-- The tile of the gradient at the half-step's result, at a later tile. -/
theorem out_dx_B (h : Holds m c X G WG WU WD GF T) (t : Fin cfg0.N) (ht : ¬t.val % 8 = 0) (i : Fin 512) (k : Fin 1024) :
    ((outsAt0 m c t.val t.isLt).1 : S512x1024.Idx → EReal) (ix2 i k) = DX X G WG WU WD GF T (row t i) k := by
  rw [outsAt0_B m c t ht]
  frame_out
  exact dx_pay h t i k

/-- The tile of the gradient at the half-step's result. -/
theorem out_dx (h : Holds m c X G WG WU WD GF T) (t : Fin cfg0.N) (i : Fin 512) (k : Fin 1024) :
    ((outsAt0 m c t.val t.isLt).1 : S512x1024.Idx → EReal) (ix2 i k) = DX X G WG WU WD GF T (row t i) k :=
  if ht : t.val % 8 = 0 then out_dx_A h t ht i k else out_dx_B h t ht i k

/-- The array of the gradient at the half-step's result. -/
theorem arr_dx (h : Holds m c X G WG WU WD GF T) :
    ((dats m 0 c).arrAt 7 cfg0.N : S4096x1024.Idx → EReal) = arr (DX X G WG WU WD GF T) := by
  refine (dats m 0 c).arrAt_eq_of_covers 7 _ (by decide +kernel) fun t hf y => ?_
  blk_simp
  rw [after0_7]
  have hy : (y : S512x1024.Idx) = ix2 (y 0) (y 1) := by funext a; fin_cases a <;> rfl
  refine (congrArg _ hy).trans ((out_dx h t (y 0) (y 1)).trans (arr_congr _ _ _ _ ?_ ?_))
  · blk_simp [index7]; rfl
  · blk_simp [index7]

/-- The tile of the gate's preactivation, at the first tile. -/
theorem out_a_A (h : Holds m c X G WG WU WD GF T) (t : Fin cfg0.N) (ht : t.val % 8 = 0) (i : Fin 512) (k : Fin 2816) :
    ((outsAt0 m c t.val t.isLt).2.1 : S512x2816.Idx → EReal) (ix2 i k) = A X G WG (row t i) k := by
  rw [outsAt0_A m c t ht]
  frame_out
  exact a_pay h t i k

/-- The tile of the gate's preactivation, at a later tile. -/
theorem out_a_B (h : Holds m c X G WG WU WD GF T) (t : Fin cfg0.N) (ht : ¬t.val % 8 = 0) (i : Fin 512) (k : Fin 2816) :
    ((outsAt0 m c t.val t.isLt).2.1 : S512x2816.Idx → EReal) (ix2 i k) = A X G WG (row t i) k := by
  rw [outsAt0_B m c t ht]
  frame_out
  exact a_pay h t i k

/-- The tile of the gate's preactivation. -/
theorem out_a (h : Holds m c X G WG WU WD GF T) (t : Fin cfg0.N) (i : Fin 512) (k : Fin 2816) :
    ((outsAt0 m c t.val t.isLt).2.1 : S512x2816.Idx → EReal) (ix2 i k) = A X G WG (row t i) k :=
  if ht : t.val % 8 = 0 then out_a_A h t ht i k else out_a_B h t ht i k

/-- The array of the gate's preactivation. -/
theorem arr_a (h : Holds m c X G WG WU WD GF T) :
    ((dats m 0 c).arrAt 8 cfg0.N : S4096x2816.Idx → EReal) = arr (A X G WG) := by
  refine (dats m 0 c).arrAt_eq_of_covers 8 _ (by decide +kernel) fun t hf y => ?_
  blk_simp
  rw [after0_8]
  have hy : (y : S512x2816.Idx) = ix2 (y 0) (y 1) := by funext a; fin_cases a <;> rfl
  refine (congrArg _ hy).trans ((out_a h t (y 0) (y 1)).trans (arr_congr _ _ _ _ ?_ ?_))
  · blk_simp [index8]; rfl
  · blk_simp [index8]

/-- The tile of the value's projection, at the first tile. -/
theorem out_b_A (h : Holds m c X G WG WU WD GF T) (t : Fin cfg0.N) (ht : t.val % 8 = 0) (i : Fin 512) (k : Fin 2816) :
    ((outsAt0 m c t.val t.isLt).2.2.1 : S512x2816.Idx → EReal) (ix2 i k) = A X G WU (row t i) k := by
  rw [outsAt0_A m c t ht]
  frame_out
  exact b_pay h t i k

/-- The tile of the value's projection, at a later tile. -/
theorem out_b_B (h : Holds m c X G WG WU WD GF T) (t : Fin cfg0.N) (ht : ¬t.val % 8 = 0) (i : Fin 512) (k : Fin 2816) :
    ((outsAt0 m c t.val t.isLt).2.2.1 : S512x2816.Idx → EReal) (ix2 i k) = A X G WU (row t i) k := by
  rw [outsAt0_B m c t ht]
  frame_out
  exact b_pay h t i k

/-- The tile of the value's projection. -/
theorem out_b (h : Holds m c X G WG WU WD GF T) (t : Fin cfg0.N) (i : Fin 512) (k : Fin 2816) :
    ((outsAt0 m c t.val t.isLt).2.2.1 : S512x2816.Idx → EReal) (ix2 i k) = A X G WU (row t i) k :=
  if ht : t.val % 8 = 0 then out_b_A h t ht i k else out_b_B h t ht i k

/-- The array of the value's projection. -/
theorem arr_b (h : Holds m c X G WG WU WD GF T) :
    ((dats m 0 c).arrAt 9 cfg0.N : S4096x2816.Idx → EReal) = arr (A X G WU) := by
  refine (dats m 0 c).arrAt_eq_of_covers 9 _ (by decide +kernel) fun t hf y => ?_
  blk_simp
  rw [after0_9]
  have hy : (y : S512x2816.Idx) = ix2 (y 0) (y 1) := by funext a; fin_cases a <;> rfl
  refine (congrArg _ hy).trans ((out_b h t (y 0) (y 1)).trans (arr_congr _ _ _ _ ?_ ?_))
  · blk_simp [index9]; rfl
  · blk_simp [index9]

/-- The tile of the gated product, at the first tile. -/
theorem out_s_A (h : Holds m c X G WG WU WD GF T) (t : Fin cfg0.N) (ht : t.val % 8 = 0) (i : Fin 512) (k : Fin 2816) :
    ((outsAt0 m c t.val t.isLt).2.2.2.1 : S512x2816.Idx → EReal) (ix2 i k) = S X G WG WU (row t i) k := by
  rw [outsAt0_A m c t ht]
  frame_out
  exact s_pay h t i k

/-- The tile of the gated product, at a later tile. -/
theorem out_s_B (h : Holds m c X G WG WU WD GF T) (t : Fin cfg0.N) (ht : ¬t.val % 8 = 0) (i : Fin 512) (k : Fin 2816) :
    ((outsAt0 m c t.val t.isLt).2.2.2.1 : S512x2816.Idx → EReal) (ix2 i k) = S X G WG WU (row t i) k := by
  rw [outsAt0_B m c t ht]
  frame_out
  exact s_pay h t i k

/-- The tile of the gated product. -/
theorem out_s (h : Holds m c X G WG WU WD GF T) (t : Fin cfg0.N) (i : Fin 512) (k : Fin 2816) :
    ((outsAt0 m c t.val t.isLt).2.2.2.1 : S512x2816.Idx → EReal) (ix2 i k) = S X G WG WU (row t i) k :=
  if ht : t.val % 8 = 0 then out_s_A h t ht i k else out_s_B h t ht i k

/-- The array of the gated product. -/
theorem arr_s (h : Holds m c X G WG WU WD GF T) :
    ((dats m 0 c).arrAt 10 cfg0.N : S4096x2816.Idx → EReal) = arr (S X G WG WU) := by
  refine (dats m 0 c).arrAt_eq_of_covers 10 _ (by decide +kernel) fun t hf y => ?_
  blk_simp
  rw [after0_10]
  have hy : (y : S512x2816.Idx) = ix2 (y 0) (y 1) := by funext a; fin_cases a <;> rfl
  refine (congrArg _ hy).trans ((out_s h t (y 0) (y 1)).trans (arr_congr _ _ _ _ ?_ ?_))
  · blk_simp [index10]; rfl
  · blk_simp [index10]

/-- The loss after the first tile: its own share. -/
theorem out_loss_A (h : Holds m c X G WG WU WD GF T) (t : Fin cfg0.N) (ht : t.val % 8 = 0) (i : Fin 1) (k : Fin 128) :
    ((outsAt0 m c t.val t.isLt).2.2.2.2.1 : S1x128.Idx → EReal) (ix2 i k)
      = ((1 / 2 : ℝ) : EReal) * ∑ x, LR X G WG WU WD GF T (row t x) := by
  rw [outsAt0_A m c t ht]
  frame_out
  unfold k0_pay1 k0_pay5
  pointwise
  simp only [loss_pay h t, bits_zero, EReal.coe_zero, zero_add]

/-- The loss after a later tile: what was there and the tile's share. -/
theorem out_loss_B (h : Holds m c X G WG WU WD GF T) (t : Fin cfg0.N) (ht : ¬t.val % 8 = 0) (i : Fin 1) (k : Fin 128) :
    ((outsAt0 m c t.val t.isLt).2.2.2.2.1 : S1x128.Idx → EReal) (ix2 i k)
      = ((outsAt0 m c (t.val - 1) (Nat.lt_of_le_of_lt (Nat.sub_le _ _) t.isLt)).2.2.2.2.1 : S1x128.Idx → EReal) (ix2 i k)
        + ((1 / 2 : ℝ) : EReal) * ∑ x, LR X G WG WU WD GF T (row t x) := by
  rw [outsAt0_B m c t ht]
  frame_out
  unfold k0_pay1
  pointwise
  simp only [loss_pay h t]

/-- The loss after the last tile: the shares of all rows. -/
theorem last_loss (h : Holds m c X G WG WU WD GF T) (k : Fin 128) :
    ((outsAt0 m c t0_7.val t0_7.isLt).2.2.2.2.1 : S1x128.Idx → EReal) (ix2 0 k) = LOSS X G WG WU WD GF T := by
  rw [Pipeline.eq_sum_fin_of_reset_step_last
    (fun n h => ((outsAt0 m c n h).2.2.2.2.1 : S1x128.Idx → EReal) (ix2 0 k)) 8 0
    (fun t => ((1 / 2 : ℝ) : EReal) * ∑ x, LR X G WG WU WD GF T (row t x))
    (fun t ht => by rw [zero_add]; exact out_loss_A h t ht 0 k) (fun t ht => out_loss_B h t ht 0 k)
    (le_of_eq N_0) t0_7 rfl, zero_add]
  rw [← mul_sum_pos _ (by norm_num)]
  exact congrArg _ (Fin.sum_mul_add_fin (S := 8) (n := 512) (L := 4096) (fun i => LR X G WG WU WD GF T i))

/-- The array of the loss. -/
theorem arr_loss (h : Holds m c X G WG WU WD GF T) :
    ((dats m 0 c).arrAt 11 cfg0.N : S1x128.Idx → EReal) = arr fun _ _ => LOSS X G WG WU WD GF T := by
  refine (dats m 0 c).arrAt_eq_of_after_last 11 t0_7 (by decide +kernel) _ fun j => ?_
  blk_simp
  rw [after0_11]
  have hy : (j : S1x128.Idx) = ix2 0 (j 1) := by
    funext a; fin_cases a
    · exact Subsingleton.elim (α := Fin 1) _ _
    · rfl
  refine (congrArg _ hy).trans ((last_loss h (j 1)).trans ?_)
  rfl

/-- The last gain's gradient after the first tile: its own share. -/
theorem out_dg_A (h : Holds m c X G WG WU WD GF T) (t : Fin cfg0.N) (ht : t.val % 8 = 0) (i : Fin 1) (k : Fin 1024) :
    ((outsAt0 m c t.val t.isLt).2.2.2.2.2 : S1x1024.Idx → EReal) (ix2 i k)
      = ∑ x, DY X G WG WU WD GF T (row t x) k * OH X G WG WU WD (row t x) k := by
  rw [outsAt0_A m c t ht]
  frame_out
  unfold k0_pay2 k0_pay6
  pointwise
  simp only [dg_pay h t, bits_zero, EReal.coe_zero, zero_add]

/-- The last gain's gradient after a later tile: what was there and the tile's share. -/
theorem out_dg_B (h : Holds m c X G WG WU WD GF T) (t : Fin cfg0.N) (ht : ¬t.val % 8 = 0) (i : Fin 1) (k : Fin 1024) :
    ((outsAt0 m c t.val t.isLt).2.2.2.2.2 : S1x1024.Idx → EReal) (ix2 i k)
      = ((outsAt0 m c (t.val - 1) (Nat.lt_of_le_of_lt (Nat.sub_le _ _) t.isLt)).2.2.2.2.2 : S1x1024.Idx → EReal) (ix2 i k)
        + ∑ x, DY X G WG WU WD GF T (row t x) k * OH X G WG WU WD (row t x) k := by
  rw [outsAt0_B m c t ht]
  frame_out
  unfold k0_pay2
  pointwise
  simp only [dg_pay h t]

/-- The last gain's gradient after the last tile: the shares of all rows. -/
theorem last_dg (h : Holds m c X G WG WU WD GF T) (k : Fin 1024) :
    ((outsAt0 m c t0_7.val t0_7.isLt).2.2.2.2.2 : S1x1024.Idx → EReal) (ix2 0 k) = DG X G WG WU WD GF T k := by
  rw [Pipeline.eq_sum_fin_of_reset_step_last
    (fun n h => ((outsAt0 m c n h).2.2.2.2.2 : S1x1024.Idx → EReal) (ix2 0 k)) 8 0
    (fun t => ∑ x, DY X G WG WU WD GF T (row t x) k * OH X G WG WU WD (row t x) k)
    (fun t ht => by rw [zero_add]; exact out_dg_A h t ht 0 k) (fun t ht => out_dg_B h t ht 0 k)
    (le_of_eq N_0) t0_7 rfl, zero_add]
  exact Fin.sum_mul_add_fin (S := 8) (n := 512) (L := 4096) (fun i => DY X G WG WU WD GF T i k * OH X G WG WU WD i k)

/-- The array of the last gain's gradient. -/
theorem arr_dg (h : Holds m c X G WG WU WD GF T) :
    ((dats m 0 c).arrAt 12 cfg0.N : S1x1024.Idx → EReal) = arr fun _ k => DG X G WG WU WD GF T k := by
  refine (dats m 0 c).arrAt_eq_of_after_last 12 t0_7 (by decide +kernel) _ fun j => ?_
  blk_simp
  rw [after0_12]
  have hy : (j : S1x1024.Idx) = ix2 0 (j 1) := by
    funext a; fin_cases a
    · exact Subsingleton.elim (α := Fin 1) _ _
    · rfl
  refine (congrArg _ hy).trans ((last_dg h (j 1)).trans ?_)
  rfl

end Cert.Proof.Head

end
-- ==== Proof.HeadRef.lean ====
/- The reference's last half-step, loss and gradient, stage by stage. -/
module

public import proofs.«01_k».proof.Proof.Gen.HeadReferenceIdeal.Read
public import proofs.«01_k».proof.Proof.HeadSpec
public import Idealize.ShloMosaic.Lib.Pipeline.ValueKit
public import Idealize.ShloMosaic.Lib.Pointwise.Tactic
public import Idealize.ShloMosaic.Lib.StableHlo.ReadAt

@[expose] public section

noncomputable section

namespace Cert.Proof.HeadRef

open Cert.HeadReferenceIdeal Cert.HeadReferenceIdeal.Read Idealize.ShloMosaic Idealize.ShloMosaic.TcCoe Idealize.SL.Sem
open Cert.Maths Cert.Maths.Head

variable {X : Fin 4096 → Fin 1024 → EReal} {G : Fin 1024 → EReal} {WG WU : Fin 1024 → Fin 2816 → EReal}
  {WD : Fin 2816 → Fin 1024 → EReal} {GF : Fin 1024 → EReal} {T : Fin 4096 → Fin 1024 → EReal}

/-- The mean of squares of a row and the small number. -/
theorem mean (i : Fin 4096) (z : Fin 1) :
    (val_main_v6 (F := Ideal) (arr X) : S4096x1.Idx → EReal) (ix2 i z) = ms (X i) := by
  unfold val_main_v6 val_main_v4 val_main_v2 val_main_v1 val_main_v0 val_main_cst val_main_v3 val_main_cst_0 val_main_v5 val_main_cst_1
  pointwise
  simp only [arr_apply, bits_zero, bits_one, bits_two, bits_half, bits_neg_half, bits_1024, bits_eps, EReal.coe_zero, zero_add, add_zero]
  rfl

/-- The reciprocal root mean square of a row. -/
theorem rs (i : Fin 4096) (z : Fin 1) :
    (val_main_v7 (F := Ideal) (arr X) : S4096x1.Idx → EReal) (ix2 i z) = rr (X i) := by
  unfold val_main_v7
  pointwise
  simp only [mean, arr_apply, bits_zero, bits_one, bits_two, bits_half, bits_neg_half, bits_1024, bits_eps, EReal.coe_zero, zero_add, add_zero]
  rfl

/-- The normed rows. -/
theorem h (i : Fin 4096) (k : Fin 1024) :
    (val_main_v11 (F := Ideal) (arr X) (arr fun _ => G) : S4096x1024.Idx → EReal) (ix2 i k) = H X G i k := by
  unfold val_main_v11 val_main_v9 val_main_v8 val_main_v10
  pointwise
  simp only [rs, arr_apply, bits_zero, bits_one, bits_two, bits_half, bits_neg_half, bits_1024, bits_eps, EReal.coe_zero, zero_add, add_zero]
  rfl

/-- The gate's preactivation. -/
theorem a (i : Fin 4096) (f : Fin 2816) :
    (val_main_v12 (F := Ideal) (arr X) (arr fun _ => G) (arr WG) : S4096x2816.Idx → EReal) (ix2 i f) = A X G WG i f := by
  unfold val_main_v12
  pointwise
  simp only [h, arr_apply, bits_zero, bits_one, bits_two, bits_half, bits_neg_half, bits_1024, bits_eps, EReal.coe_zero, zero_add, add_zero]
  rfl

/-- The value's projection. -/
theorem b (i : Fin 4096) (f : Fin 2816) :
    (val_main_v13 (F := Ideal) (arr X) (arr fun _ => G) (arr WU) : S4096x2816.Idx → EReal) (ix2 i f) = A X G WU i f := by
  unfold val_main_v13
  pointwise
  simp only [h, arr_apply, bits_zero, bits_one, bits_two, bits_half, bits_neg_half, bits_1024, bits_eps, EReal.coe_zero, zero_add, add_zero]
  rfl

/-- The gated product. -/
theorem s (i : Fin 4096) (f : Fin 2816) :
    (val_main_v15 (F := Ideal) (arr X) (arr fun _ => G) (arr WG) (arr WU) : S4096x2816.Idx → EReal) (ix2 i f) = S X G WG WU i f := by
  unfold val_main_v15 val_main_v14 val_main_call0_v5 val_main_call0_v4 val_main_call0_cst_0 val_main_call0_v3 val_main_call0_v2 val_main_call0_cst val_main_call0_v1 val_main_call0_v0
  pointwise
  simp only [a, b, arr_apply, bits_zero, bits_one, bits_two, bits_half, bits_neg_half, bits_1024, bits_eps, EReal.coe_zero, zero_add, add_zero]
  rfl

/-- The half-step's result. -/
theorem o (i : Fin 4096) (k : Fin 1024) :
    (val_main_v19 (F := Ideal) (arr X) (arr fun _ => G) (arr WG) (arr WU) (arr WD) : S4096x1024.Idx → EReal) (ix2 i k) = O X G WG WU WD i k := by
  unfold val_main_v19 val_main_v18 val_main_v17 val_main_cst_2 val_main_v16
  pointwise
  simp only [s, arr_apply, bits_zero, bits_one, bits_two, bits_half, bits_neg_half, bits_1024, bits_eps, EReal.coe_zero, zero_add, add_zero]
  rfl

/-- The result's mean of squares and the small number. -/
theorem mean_o (i : Fin 4096) (z : Fin 1) :
    (val_main_v26 (F := Ideal) (arr X) (arr fun _ => G) (arr WG) (arr WU) (arr WD) : S4096x1.Idx → EReal) (ix2 i z) = ms (O X G WG WU WD i) := by
  unfold val_main_v26 val_main_v24 val_main_v22 val_main_v21 val_main_v20 val_main_cst_3 val_main_v23 val_main_cst_4 val_main_v25 val_main_cst_5
  pointwise
  simp only [o, arr_apply, bits_zero, bits_one, bits_two, bits_half, bits_neg_half, bits_1024, bits_eps, EReal.coe_zero, zero_add, add_zero]
  rfl

/-- The result's reciprocal root mean square. -/
theorem rs_o (i : Fin 4096) (z : Fin 1) :
    (val_main_v27 (F := Ideal) (arr X) (arr fun _ => G) (arr WG) (arr WU) (arr WD) : S4096x1.Idx → EReal) (ix2 i z) = rr (O X G WG WU WD i) := by
  unfold val_main_v27
  pointwise
  simp only [mean_o, arr_apply, bits_zero, bits_one, bits_two, bits_half, bits_neg_half, bits_1024, bits_eps, EReal.coe_zero, zero_add, add_zero]
  rfl

/-- The factor of the derivative through the mean of squares. -/
theorem drs (i : Fin 4096) (z : Fin 1) :
    (val_main_v30 (F := Ideal) (arr X) (arr fun _ => G) (arr WG) (arr WU) (arr WD) : S4096x1.Idx → EReal) (ix2 i z) = ((-1 / 2 : ℝ) : EReal) * Ideal.div (rr (O X G WG WU WD i)) (ms (O X G WG WU WD i)) := by
  unfold val_main_v30 val_main_v29 val_main_cst_6 val_main_v28
  pointwise
  simp only [rs_o, mean_o, arr_apply, bits_zero, bits_one, bits_two, bits_half, bits_neg_half, bits_1024, bits_eps, EReal.coe_zero, zero_add, add_zero]

/-- The normed result before the gain. -/
theorem oh (i : Fin 4096) (k : Fin 1024) :
    (val_main_v32 (F := Ideal) (arr X) (arr fun _ => G) (arr WG) (arr WU) (arr WD) : S4096x1024.Idx → EReal) (ix2 i k) = OH X G WG WU WD i k := by
  unfold val_main_v32 val_main_v31
  pointwise
  simp only [o, rs_o, arr_apply, bits_zero, bits_one, bits_two, bits_half, bits_neg_half, bits_1024, bits_eps, EReal.coe_zero, zero_add, add_zero]
  rfl

/-- The error. -/
theorem er (i : Fin 4096) (k : Fin 1024) :
    (val_main_v35 (F := Ideal) (arr X) (arr fun _ => G) (arr WG) (arr WU) (arr WD) (arr fun _ => GF) (arr T) : S4096x1024.Idx → EReal) (ix2 i k) = ER X G WG WU WD GF T i k := by
  unfold val_main_v35 val_main_v34 val_main_v33
  pointwise
  simp only [oh, arr_apply, bits_zero, bits_one, bits_two, bits_half, bits_neg_half, bits_1024, bits_eps, EReal.coe_zero, zero_add, add_zero]
  rfl

/-- A row's mean of squared errors. -/
theorem lr (i : Fin 4096) :
    (val_main_v41 (F := Ideal) (arr X) (arr fun _ => G) (arr WG) (arr WU) (arr WD) (arr fun _ => GF) (arr T) : S4096.Idx → EReal) (ix1 i) = LR X G WG WU WD GF T i := by
  unfold val_main_v41 val_main_v39 val_main_v36 val_main_cst_8 val_main_v40 val_main_cst_9
  pointwise
  simp only [er, arr_apply, bits_zero, bits_one, bits_two, bits_half, bits_neg_half, bits_1024, bits_eps, EReal.coe_zero, zero_add, add_zero]
  rw [div_1024]; rfl

/-- The loss, broadcast. -/
theorem loss (z : Fin 1) (l : Fin 128) :
    (val_main_v72 (F := Ideal) (arr X) (arr fun _ => G) (arr WG) (arr WU) (arr WD) (arr fun _ => GF) (arr T) : S1x128.Idx → EReal) (ix2 z l) = LOSS X G WG WU WD GF T := by
  unfold val_main_v72 val_main_v43 val_main_cst_11 val_main_v42 val_main_cst_10
  pointwise
  simp only [lr, arr_apply, bits_zero, bits_one, bits_two, bits_half, bits_neg_half, bits_1024, bits_eps, EReal.coe_zero, zero_add, add_zero]
  rfl

/-- The gradient at the normed result. -/
theorem dy (i : Fin 4096) (k : Fin 1024) :
    (val_main_v49 (F := Ideal) (arr X) (arr fun _ => G) (arr WG) (arr WU) (arr WD) (arr fun _ => GF) (arr T) : S4096x1024.Idx → EReal) (ix2 i k) = DY X G WG WU WD GF T i k := by
  unfold val_main_v49 val_main_v48 val_main_v47 val_main_v45 val_main_v44 val_main_cst_12 val_main_cst_13 val_main_v46 val_main_cst_14 val_main_v38 val_main_v37 val_main_cst_7
  pointwise
  simp only [er, arr_apply, bits_zero, bits_one, bits_two, bits_half, bits_neg_half, bits_1024, bits_eps, EReal.coe_zero, zero_add, add_zero]
  rw [div_1024, DY, ← mul_assoc, ← EReal.coe_mul, ← EReal.coe_mul, mul_comm]
  exact congrArg _ (congrArg _ (by norm_num))

/-- The gradient at the last gain. -/
theorem dg (z : Fin 1) (k : Fin 1024) :
    (val_main_v52 (F := Ideal) (arr X) (arr fun _ => G) (arr WG) (arr WU) (arr WD) (arr fun _ => GF) (arr T) : S1x1024.Idx → EReal) (ix2 z k) = DG X G WG WU WD GF T k := by
  unfold val_main_v52 val_main_v51 val_main_v50 val_main_cst_15
  pointwise
  simp only [oh, dy, arr_apply, bits_zero, bits_one, bits_two, bits_half, bits_neg_half, bits_1024, bits_eps, EReal.coe_zero, zero_add, add_zero]
  exact Finset.sum_congr rfl fun i _ => mul_comm _ _

/-- The gradient at the normed result times the gain. -/
theorem du (i : Fin 4096) (k : Fin 1024) :
    (val_main_v54 (F := Ideal) (arr X) (arr fun _ => G) (arr WG) (arr WU) (arr WD) (arr fun _ => GF) (arr T) : S4096x1024.Idx → EReal) (ix2 i k) = DY X G WG WU WD GF T i k * GF k := by
  unfold val_main_v54 val_main_v53
  pointwise
  simp only [dy, arr_apply, bits_zero, bits_one, bits_two, bits_half, bits_neg_half, bits_1024, bits_eps, EReal.coe_zero, zero_add, add_zero]

/-- A row's share of the derivative through the mean of squares. -/
theorem dt (i : Fin 4096) (k : Fin 1024) :
    (val_main_v64 (F := Ideal) (arr X) (arr fun _ => G) (arr WG) (arr WU) (arr WD) (arr fun _ => GF) (arr T) : S4096x1024.Idx → EReal) (ix2 i k) = Ideal.div ((∑ l, O X G WG WU WD i l * (DY X G WG WU WD GF T i l * GF l)) * (((-1 / 2 : ℝ) : EReal) * Ideal.div (rr (O X G WG WU WD i)) (ms (O X G WG WU WD i)))) ((1024 : ℝ) : EReal) := by
  unfold val_main_v64 val_main_v63 val_main_v62 val_main_v60 val_main_v57 val_main_v56 val_main_v55 val_main_cst_16 val_main_v61 val_main_cst_17 val_main_cst_18
  pointwise
  simp only [o, du, drs, arr_apply, bits_zero, bits_one, bits_two, bits_half, bits_neg_half, bits_1024, bits_eps, EReal.coe_zero, zero_add, add_zero]
  rw [Finset.univ_unique, Finset.sum_singleton]

/-- The gradient at the half-step's result. -/
theorem dx (i : Fin 4096) (k : Fin 1024) :
    (val_main_v68 (F := Ideal) (arr X) (arr fun _ => G) (arr WG) (arr WU) (arr WD) (arr fun _ => GF) (arr T) : S4096x1024.Idx → EReal) (ix2 i k) = DX X G WG WU WD GF T i k := by
  unfold val_main_v68 val_main_v66 val_main_v59 val_main_v58 val_main_v65 val_main_v67
  pointwise
  simp only [du, rs_o, o, dt, arr_apply, bits_zero, bits_one, bits_two, bits_half, bits_neg_half, bits_1024, bits_eps, EReal.coe_zero, zero_add, add_zero]
  exact DX_eq _ _ _ _ _ _ _ i k

/-- The gate's preactivation, as given back. -/
theorem ab (i : Fin 4096) (f : Fin 2816) :
    (val_main_v69 (F := Ideal) (arr X) (arr fun _ => G) (arr WG) : S4096x2816.Idx → EReal) (ix2 i f) = A X G WG i f := by
  unfold val_main_v69
  pointwise
  simp only [a, arr_apply, bits_zero, bits_one, bits_two, bits_half, bits_neg_half, bits_1024, bits_eps, EReal.coe_zero, zero_add, add_zero]

/-- The value's projection, as given back. -/
theorem bb (i : Fin 4096) (f : Fin 2816) :
    (val_main_v70 (F := Ideal) (arr X) (arr fun _ => G) (arr WU) : S4096x2816.Idx → EReal) (ix2 i f) = A X G WU i f := by
  unfold val_main_v70
  pointwise
  simp only [b, arr_apply, bits_zero, bits_one, bits_two, bits_half, bits_neg_half, bits_1024, bits_eps, EReal.coe_zero, zero_add, add_zero]

/-- The gated product, as given back. -/
theorem sb (i : Fin 4096) (f : Fin 2816) :
    (val_main_v71 (F := Ideal) (arr X) (arr fun _ => G) (arr WG) (arr WU) : S4096x2816.Idx → EReal) (ix2 i f) = S X G WG WU i f := by
  unfold val_main_v71
  pointwise
  simp only [s, arr_apply, bits_zero, bits_one, bits_two, bits_half, bits_neg_half, bits_1024, bits_eps, EReal.coe_zero, zero_add, add_zero]

end Cert.Proof.HeadRef

end
-- ==== Proof.HeadEquation.lean ====
/- The last half-step with the loss and its gradient: the arrays that the kernel leaves are the reference's. -/
module

public import proofs.«01_k».proof.Defs
public import proofs.«01_k».proof.Proof.HeadArray
public import proofs.«01_k».proof.Proof.HeadRef
public import proofs.«01_k».proof.Proof.Gen.HeadKernelIdeal.Value
public import proofs.«01_k».proof.Proof.Gen.HeadReferenceIdeal.Run

@[expose] public section

noncomputable section

namespace Cert.Proof.Head

open Idealize.ShloMosaic Idealize.ShloMosaic.TcCoe Idealize.SL.Sem
open Cert.Maths Cert.Maths.Head

variable {X : Fin 4096 → Fin 1024 → EReal} {G : Fin 1024 → EReal} {WG : Fin 1024 → Fin 2816 → EReal} {WU : Fin 1024 → Fin 2816 → EReal} {WD : Fin 2816 → Fin 1024 → EReal} {GF : Fin 1024 → EReal} {T : Fin 4096 → Fin 1024 → EReal}

/-- Every device's arguments are some arrays. -/
theorem holds_some (m : (ℓ : Loc Cert.HeadKernelIdeal.nD Cert.HeadKernelIdeal.τ Cert.HeadKernelIdeal.sig) → Buf (Elt Ideal) ℓ) (c : Dev Cert.HeadKernelIdeal.nD) :
    ∃ X G WG WU WD GF T, Holds m c X G WG WU WD GF T :=
  ⟨fun i k => (m (c, Proc.tc.devRef Cert.HeadKernelIdeal.main_arg0) : Cert.HeadKernelIdeal.S4096x1024.Idx → EReal) (ix2 i k),
    fun k => (m (c, Proc.tc.devRef Cert.HeadKernelIdeal.main_arg1) : Cert.HeadKernelIdeal.S1x1024.Idx → EReal) (ix2 0 k),
    fun i k => (m (c, Proc.tc.devRef Cert.HeadKernelIdeal.main_arg2) : Cert.HeadKernelIdeal.S1024x2816.Idx → EReal) (ix2 i k),
    fun i k => (m (c, Proc.tc.devRef Cert.HeadKernelIdeal.main_arg3) : Cert.HeadKernelIdeal.S1024x2816.Idx → EReal) (ix2 i k),
    fun i k => (m (c, Proc.tc.devRef Cert.HeadKernelIdeal.main_arg4) : Cert.HeadKernelIdeal.S2816x1024.Idx → EReal) (ix2 i k),
    fun k => (m (c, Proc.tc.devRef Cert.HeadKernelIdeal.main_arg5) : Cert.HeadKernelIdeal.S1x1024.Idx → EReal) (ix2 0 k),
    fun i k => (m (c, Proc.tc.devRef Cert.HeadKernelIdeal.main_arg6) : Cert.HeadKernelIdeal.S4096x1024.Idx → EReal) (ix2 i k),
    fun _ _ => rfl, fun i k => by rw [Subsingleton.elim i 0], fun _ _ => rfl, fun _ _ => rfl, fun _ _ => rfl, fun i k => by rw [Subsingleton.elim i 0], fun _ _ => rfl⟩

/-- The reference's gradient at the half-step's result. -/
theorem ref_dx : (Cert.HeadReferenceIdeal.Read.val_main_v68 (F := Ideal) (arr X) (arr fun _ => G) (arr WG) (arr WU) (arr WD) (arr fun _ => GF) (arr T) : Cert.HeadReferenceIdeal.S4096x1024.Idx → EReal) = arr (DX X G WG WU WD GF T) :=
  eq_arr _ _ fun i k => HeadRef.dx i k

/-- The reference's gate's preactivation. -/
theorem ref_a : (Cert.HeadReferenceIdeal.Read.val_main_v69 (F := Ideal) (arr X) (arr fun _ => G) (arr WG) : Cert.HeadReferenceIdeal.S4096x2816.Idx → EReal) = arr (A X G WG) :=
  eq_arr _ _ fun i k => HeadRef.ab i k

/-- The reference's value's projection. -/
theorem ref_b : (Cert.HeadReferenceIdeal.Read.val_main_v70 (F := Ideal) (arr X) (arr fun _ => G) (arr WU) : Cert.HeadReferenceIdeal.S4096x2816.Idx → EReal) = arr (A X G WU) :=
  eq_arr _ _ fun i k => HeadRef.bb i k

/-- The reference's gated product. -/
theorem ref_s : (Cert.HeadReferenceIdeal.Read.val_main_v71 (F := Ideal) (arr X) (arr fun _ => G) (arr WG) (arr WU) : Cert.HeadReferenceIdeal.S4096x2816.Idx → EReal) = arr (S X G WG WU) :=
  eq_arr _ _ fun i k => HeadRef.sb i k

/-- The reference's loss. -/
theorem ref_loss : (Cert.HeadReferenceIdeal.Read.val_main_v72 (F := Ideal) (arr X) (arr fun _ => G) (arr WG) (arr WU) (arr WD) (arr fun _ => GF) (arr T) : Cert.HeadReferenceIdeal.S1x128.Idx → EReal) = arr fun _ _ => LOSS X G WG WU WD GF T :=
  eq_arr _ _ fun i k => HeadRef.loss i k

/-- The reference's gradient at the last gain. -/
theorem ref_dg : (Cert.HeadReferenceIdeal.Read.val_main_v52 (F := Ideal) (arr X) (arr fun _ => G) (arr WG) (arr WU) (arr WD) (arr fun _ => GF) (arr T) : Cert.HeadReferenceIdeal.S1x1024.Idx → EReal) = arr fun _ k => DG X G WG WU WD GF T k :=
  eq_arr _ _ fun i k => HeadRef.dg i k

/-- The value claim. -/
theorem algebraic (hK : Cert.HeadKernelIdeal.Facts) (hR : Cert.HeadReferenceIdeal.Facts) : Cert.algebraic_HeadKernelIdeal_HeadReferenceIdeal := by
  intro m g m' g' _ heq
  refine ⟨fun c => (Cert.HeadKernelIdeal.Gen.dats m 0 c).arrAt 7 Cert.HeadKernelIdeal.cfg0.N,
    fun c => (Cert.HeadKernelIdeal.Gen.dats m 0 c).arrAt 8 Cert.HeadKernelIdeal.cfg0.N,
    fun c => (Cert.HeadKernelIdeal.Gen.dats m 0 c).arrAt 9 Cert.HeadKernelIdeal.cfg0.N,
    fun c => (Cert.HeadKernelIdeal.Gen.dats m 0 c).arrAt 10 Cert.HeadKernelIdeal.cfg0.N,
    fun c => (Cert.HeadKernelIdeal.Gen.dats m 0 c).arrAt 11 Cert.HeadKernelIdeal.cfg0.N,
    fun c => (Cert.HeadKernelIdeal.Gen.dats m 0 c).arrAt 12 Cert.HeadKernelIdeal.cfg0.N,
    Cert.HeadKernelIdeal.Value.run_blocks m g, ?_⟩
  refine (θ_run _ _ _).mono (fun r h c => ?_) (Cert.HeadReferenceIdeal.Value.run m' g')
  obtain ⟨r0, r1, r2, r3, r4, r5, ra⟩ := h c
  obtain ⟨X, G, WG, WU, WD, GF, T, hh⟩ := holds_some m c
  obtain ⟨e0, e1, e2, e3, e4, e5, e6⟩ := heq c
  have x0 := e0.trans (eq_arr _ X hh.x)
  have x1 := e1.trans (eq_arr _ (fun _ => G) hh.g)
  have x2 := e2.trans (eq_arr _ WG hh.wg)
  have x3 := e3.trans (eq_arr _ WU hh.wu)
  have x4 := e4.trans (eq_arr _ WD hh.wd)
  have x5 := e5.trans (eq_arr _ (fun _ => GF) hh.gf)
  have x6 := e6.trans (eq_arr _ T hh.tg)
  refine ⟨?_, ?_, ?_, ?_, ?_, ?_, ra⟩
  · refine r0.trans ((Cert.HeadReferenceIdeal.Read.val_main_v68_eq m' c).trans (Eq.trans ?_ (ref_dx.trans (arr_dx hh).symm)))
    rw [x0, x1, x2, x3, x4, x5, x6]
  · refine r1.trans ((Cert.HeadReferenceIdeal.Read.val_main_v69_eq _ _ _).trans (Eq.trans ?_ (ref_a.trans (arr_a hh).symm)))
    rw [x0, x1, x2]
  · refine r2.trans ((Cert.HeadReferenceIdeal.Read.val_main_v70_eq _ _ _).trans (Eq.trans ?_ (ref_b.trans (arr_b hh).symm)))
    rw [x0, x1, x3]
  · refine r3.trans ((Cert.HeadReferenceIdeal.Read.val_main_v71_eq _ _ _ _).trans (Eq.trans ?_ (ref_s.trans (arr_s hh).symm)))
    rw [x0, x1, x2, x3]
  · refine r4.trans ((Cert.HeadReferenceIdeal.Read.val_main_v72_eq m' c).trans (Eq.trans ?_ (ref_loss.trans (arr_loss hh).symm)))
    rw [x0, x1, x2, x3, x4, x5, x6]
  · refine r5.trans ((Cert.HeadReferenceIdeal.Read.val_main_v52_eq m' c).trans (Eq.trans ?_ (ref_dg.trans (arr_dg hh).symm)))
    rw [x0, x1, x2, x3, x4, x5, x6]

/-- The reference ends with its arguments unchanged; it declares no semaphore. -/
theorem ref_frame (hR : Cert.HeadReferenceIdeal.Facts) : Cert.quiescent_HeadReferenceIdeal := fun m ρ _ =>
  (θ_run _ _ _).mono (fun r h => ⟨fun c => (h c).2.2.2.2.2.2, sem_eq_zero_of_no_sems (by decide) r.2⟩)
    (Cert.HeadReferenceIdeal.Value.run (F := Ideal) m ρ)

end Cert.Proof.Head

end
-- ==== Proof.UpTile.lean ====
/- One tile of the feed-forward layer's projections, and the arrays that its tiles make. -/
module

public import proofs.«01_k».proof.Proof.Gen.UpKernelIdeal.Value
public import proofs.«01_k».proof.Proof.HeadSpec
public import Idealize.ShloMosaic.Lib.Pipeline.ValueKit
public import Idealize.ShloMosaic.Lib.Pointwise.Tactic
public import Idealize.ShloMosaic.Lib.StableHlo.ReadAt

@[expose] public section

noncomputable section

namespace Cert.Proof.Up

open Cert.UpKernelIdeal Cert.UpKernelIdeal.Gen Idealize.ShloMosaic Idealize.ShloMosaic.TcCoe Idealize.SL.Sem
open Idealize.ShloMosaic.Pipeline (Dat)
open Cert.Maths Cert.Maths.Head

/-- Row `i` of tile `t` as a row of the array. -/
def row (t : Fin cfg0.N) (i : Fin 256) : Fin 4096 := ⟨t.val * 256 + i.val, by have := t.isLt; have : cfg0.N = 16 := rfl; omega⟩

/-- The arguments on device `c` are these arrays. -/
structure Holds (m : (ℓ : Loc nD τ sig) → Buf (Elt Ideal) ℓ) (c : Dev nD)
    (X : Fin 4096 → Fin 1024 → EReal) (G : Fin 1024 → EReal) (WG : Fin 1024 → Fin 2816 → EReal) (WU : Fin 1024 → Fin 2816 → EReal) : Prop where
  x : ∀ i k, (m (c, Proc.tc.devRef main_arg0) : S4096x1024.Idx → EReal) (ix2 i k) = X i k
  g : ∀ i k, (m (c, Proc.tc.devRef main_arg1) : S1x1024.Idx → EReal) (ix2 i k) = G k
  wg : ∀ i k, (m (c, Proc.tc.devRef main_arg2) : S1024x2816.Idx → EReal) (ix2 i k) = WG i k
  wu : ∀ i k, (m (c, Proc.tc.devRef main_arg3) : S1024x2816.Idx → EReal) (ix2 i k) = WU i k

variable {m : (ℓ : Loc nD τ sig) → Buf (Elt Ideal) ℓ} {c : Dev nD}
  {X : Fin 4096 → Fin 1024 → EReal} {G : Fin 1024 → EReal} {WG : Fin 1024 → Fin 2816 → EReal} {WU : Fin 1024 → Fin 2816 → EReal}

/-- The gate's weights as the call takes them, transposed. -/
theorem weight_g (h : Holds m c X G WG WU) (i : Fin 2816) (k : Fin 1024) :
    (V m c main_v1 : S2816x1024.Idx → EReal) (ix2 i k) = WG k i := by
  unfold V
  after_reads_at
  exact h.wg _ _

/-- The value's weights as the call takes them, transposed. -/
theorem weight_u (h : Holds m c X G WG WU) (i : Fin 2816) (k : Fin 1024) :
    (V m c main_v3 : S2816x1024.Idx → EReal) (ix2 i k) = WU k i := by
  unfold V
  after_reads_at
  exact h.wu _ _

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel

/-- The tile of the rows. -/
theorem tile_x (h : Holds m c X G WG WU) (t : Fin cfg0.N) (i : Fin 256) (k : Fin 1024) :
    (iblk m c 0 t : S256x1024.Idx → EReal) (ix2 i k) = X (row t i) k := by
  blk_simp [iblk]
  rw [V_main_arg0]
  refine Eq.trans (congrArg _ (?_ : _ = ix2 (row t i) k)) (h.x _ _)
  funext a; refine Fin.ext ?_
  fin_cases a <;> blk_simp [index0] <;> simp [row]

/-- The gain, whole at every tile. -/
theorem tile_g (h : Holds m c X G WG WU) (t : Fin cfg0.N) (i : Fin 1) (k : Fin 1024) :
    (iblk m c 1 t : S1x1024.Idx → EReal) (ix2 i k) = G k := by
  blk_simp [iblk]
  rw [V_main_arg1]
  refine Eq.trans (congrArg _ (?_ : _ = ix2 i k)) (h.g _ _)
  funext a; refine Fin.ext ?_
  fin_cases a <;> blk_simp [index1] <;> simp

/-- The gate's weights, whole at every tile. -/
theorem tile_wg (h : Holds m c X G WG WU) (t : Fin cfg0.N) (i : Fin 2816) (k : Fin 1024) :
    (iblk m c 2 t : S2816x1024.Idx → EReal) (ix2 i k) = WG k i := by
  blk_simp [iblk]
  refine Eq.trans (congrArg _ (?_ : _ = ix2 i k)) (weight_g h _ _)
  funext a; refine Fin.ext ?_
  fin_cases a <;> blk_simp [index2] <;> simp

/-- The value's weights, whole at every tile. -/
theorem tile_wu (h : Holds m c X G WG WU) (t : Fin cfg0.N) (i : Fin 2816) (k : Fin 1024) :
    (iblk m c 3 t : S2816x1024.Idx → EReal) (ix2 i k) = WU k i := by
  blk_simp [iblk]
  refine Eq.trans (congrArg _ (?_ : _ = ix2 i k)) (weight_u h _ _)
  funext a; refine Fin.ext ?_
  fin_cases a <;> blk_simp [index3] <;> simp

/-- The normed rows. -/
theorem h_pay (h : Holds m c X G WG WU) (t : Fin cfg0.N) (i : Fin 256) (k : Fin 1024) :
    (k0_pay1 (F := Ideal) (iblk m c 0 t) (iblk m c 1 t) : S256x1024.Idx → EReal) (ix2 i k) = H X G (row t i) k := by
  unfold k0_pay1
  pointwise
  simp only [tile_x h, tile_g h, bits_1024, bits_eps]
  rfl

/-- The gate's preactivation. -/
theorem a_pay (h : Holds m c X G WG WU) (t : Fin cfg0.N) (i : Fin 256) (f : Fin 2816) :
    (k0_pay2 (F := Ideal) (iblk m c 0 t) (iblk m c 1 t) (iblk m c 2 t) : S256x2816.Idx → EReal) (ix2 i f) = A X G WG (row t i) f := by
  unfold k0_pay2
  pointwise
  simp only [h_pay h, tile_wg h]
  rfl

/-- The value's projection. -/
theorem b_pay (h : Holds m c X G WG WU) (t : Fin cfg0.N) (i : Fin 256) (f : Fin 2816) :
    (k0_pay3 (F := Ideal) (iblk m c 0 t) (iblk m c 1 t) (iblk m c 3 t) : S256x2816.Idx → EReal) (ix2 i f) = A X G WU (row t i) f := by
  unfold k0_pay3
  pointwise
  simp only [h_pay h, tile_wu h]
  rfl

/-- The gate's preactivation, as stored. -/
theorem ab_pay (h : Holds m c X G WG WU) (t : Fin cfg0.N) (i : Fin 256) (f : Fin 2816) :
    (k0_pay4 (F := Ideal) (iblk m c 0 t) (iblk m c 1 t) (iblk m c 2 t) : S256x2816.Idx → EReal) (ix2 i f) = A X G WG (row t i) f := by
  unfold k0_pay4
  pointwise
  simp only [a_pay h]

/-- The value's projection, as stored. -/
theorem bb_pay (h : Holds m c X G WG WU) (t : Fin cfg0.N) (i : Fin 256) (f : Fin 2816) :
    (k0_pay5 (F := Ideal) (iblk m c 0 t) (iblk m c 1 t) (iblk m c 3 t) : S256x2816.Idx → EReal) (ix2 i f) = A X G WU (row t i) f := by
  unfold k0_pay5
  pointwise
  simp only [b_pay h]

/-- The gated product. -/
theorem s_pay (h : Holds m c X G WG WU) (t : Fin cfg0.N) (i : Fin 256) (f : Fin 2816) :
    (k0_pay6 (F := Ideal) (iblk m c 0 t) (iblk m c 1 t) (iblk m c 2 t) (iblk m c 3 t) : S256x2816.Idx → EReal) (ix2 i f) = S X G WG WU (row t i) f := by
  unfold k0_pay6
  pointwise
  simp only [a_pay h, b_pay h, bits_one, bits_zero, EReal.coe_zero, sub_eq_add_neg, zero_add]
  rfl

/-- The tile of the gate's preactivation. -/
theorem out_a (h : Holds m c X G WG WU) (t : Fin cfg0.N) (i : Fin 256) (k : Fin 2816) :
    (out0_4 (iblk m c 0 t) (iblk m c 1 t) (iblk m c 2 t) (iblk m c 3 t) : S256x2816.Idx → EReal) (ix2 i k) = A X G WG (row t i) k := by
  frame_out
  exact ab_pay h t i k

/-- The array of the gate's preactivation. -/
theorem arr_a (h : Holds m c X G WG WU) :
    ((dats m 0 c).arrAt 4 cfg0.N : S4096x2816.Idx → EReal) = arr (A X G WG) := by
  refine (dats m 0 c).arrAt_eq_of_covers 4 _ (by decide +kernel) fun t hf y => ?_
  blk_simp
  rw [after0_4]
  have hy : (y : S256x2816.Idx) = ix2 (y 0) (y 1) := by funext a; fin_cases a <;> rfl
  refine (congrArg _ hy).trans ((out_a h t (y 0) (y 1)).trans (arr_congr _ _ _ _ ?_ ?_))
  · blk_simp [index4]; rfl
  · blk_simp [index4]

/-- The tile of the value's projection. -/
theorem out_b (h : Holds m c X G WG WU) (t : Fin cfg0.N) (i : Fin 256) (k : Fin 2816) :
    (out0_5 (iblk m c 0 t) (iblk m c 1 t) (iblk m c 2 t) (iblk m c 3 t) : S256x2816.Idx → EReal) (ix2 i k) = A X G WU (row t i) k := by
  frame_out
  exact bb_pay h t i k

/-- The array of the value's projection. -/
theorem arr_b (h : Holds m c X G WG WU) :
    ((dats m 0 c).arrAt 5 cfg0.N : S4096x2816.Idx → EReal) = arr (A X G WU) := by
  refine (dats m 0 c).arrAt_eq_of_covers 5 _ (by decide +kernel) fun t hf y => ?_
  blk_simp
  rw [after0_5]
  have hy : (y : S256x2816.Idx) = ix2 (y 0) (y 1) := by funext a; fin_cases a <;> rfl
  refine (congrArg _ hy).trans ((out_b h t (y 0) (y 1)).trans (arr_congr _ _ _ _ ?_ ?_))
  · blk_simp [index5]; rfl
  · blk_simp [index5]

/-- The tile of the gated product. -/
theorem out_s (h : Holds m c X G WG WU) (t : Fin cfg0.N) (i : Fin 256) (k : Fin 2816) :
    (out0_6 (iblk m c 0 t) (iblk m c 1 t) (iblk m c 2 t) (iblk m c 3 t) : S256x2816.Idx → EReal) (ix2 i k) = S X G WG WU (row t i) k := by
  frame_out
  exact s_pay h t i k

/-- The array of the gated product. -/
theorem arr_s (h : Holds m c X G WG WU) :
    ((dats m 0 c).arrAt 6 cfg0.N : S4096x2816.Idx → EReal) = arr (S X G WG WU) := by
  refine (dats m 0 c).arrAt_eq_of_covers 6 _ (by decide +kernel) fun t hf y => ?_
  blk_simp
  rw [after0_6]
  have hy : (y : S256x2816.Idx) = ix2 (y 0) (y 1) := by funext a; fin_cases a <;> rfl
  refine (congrArg _ hy).trans ((out_s h t (y 0) (y 1)).trans (arr_congr _ _ _ _ ?_ ?_))
  · blk_simp [index6]; rfl
  · blk_simp [index6]

end Cert.Proof.Up

end
-- ==== Proof.UpRef.lean ====
/- The reference of the feed-forward layer's projections, stage by stage. -/
module

public import proofs.«01_k».proof.Proof.Gen.UpReferenceIdeal.Read
public import proofs.«01_k».proof.Proof.HeadSpec
public import Idealize.ShloMosaic.Lib.Pipeline.ValueKit
public import Idealize.ShloMosaic.Lib.Pointwise.Tactic
public import Idealize.ShloMosaic.Lib.StableHlo.ReadAt

@[expose] public section

noncomputable section

namespace Cert.Proof.UpRef

open Cert.UpReferenceIdeal Cert.UpReferenceIdeal.Read Idealize.ShloMosaic Idealize.ShloMosaic.TcCoe Idealize.SL.Sem
open Cert.Maths Cert.Maths.Head

variable {X : Fin 4096 → Fin 1024 → EReal} {G : Fin 1024 → EReal} {WG : Fin 1024 → Fin 2816 → EReal} {WU : Fin 1024 → Fin 2816 → EReal}

/-- The mean of squares of a row and the small number. -/
theorem mean (i : Fin 4096) (z : Fin 1) :
    (val_main_v6 (F := Ideal) (arr X) : S4096x1.Idx → EReal) (ix2 i z) = ms (X i) := by
  unfold val_main_v6 val_main_v4 val_main_v2 val_main_v1 val_main_v0 val_main_cst val_main_v3 val_main_cst_0 val_main_v5 val_main_cst_1
  pointwise
  simp only [arr_apply, bits_zero, bits_one, bits_two, bits_half, bits_neg_half, bits_1024, bits_eps, EReal.coe_zero, zero_add, add_zero]
  rfl

/-- The reciprocal root mean square of a row. -/
theorem rs (i : Fin 4096) (z : Fin 1) :
    (val_main_v7 (F := Ideal) (arr X) : S4096x1.Idx → EReal) (ix2 i z) = rr (X i) := by
  unfold val_main_v7
  pointwise
  simp only [mean, arr_apply, bits_zero, bits_one, bits_two, bits_half, bits_neg_half, bits_1024, bits_eps, EReal.coe_zero, zero_add, add_zero]
  rfl

/-- The normed rows. -/
theorem h (i : Fin 4096) (k : Fin 1024) :
    (val_main_v11 (F := Ideal) (arr X) (arr fun _ => G) : S4096x1024.Idx → EReal) (ix2 i k) = H X G i k := by
  unfold val_main_v11 val_main_v9 val_main_v8 val_main_v10
  pointwise
  simp only [rs, arr_apply, bits_zero, bits_one, bits_two, bits_half, bits_neg_half, bits_1024, bits_eps, EReal.coe_zero, zero_add, add_zero]
  rfl

/-- The gate's preactivation. -/
theorem a (i : Fin 4096) (f : Fin 2816) :
    (val_main_v12 (F := Ideal) (arr X) (arr fun _ => G) (arr WG) : S4096x2816.Idx → EReal) (ix2 i f) = A X G WG i f := by
  unfold val_main_v12
  pointwise
  simp only [h, arr_apply, bits_zero, bits_one, bits_two, bits_half, bits_neg_half, bits_1024, bits_eps, EReal.coe_zero, zero_add, add_zero]
  rfl

/-- The value's projection. -/
theorem b (i : Fin 4096) (f : Fin 2816) :
    (val_main_v13 (F := Ideal) (arr X) (arr fun _ => G) (arr WU) : S4096x2816.Idx → EReal) (ix2 i f) = A X G WU i f := by
  unfold val_main_v13
  pointwise
  simp only [h, arr_apply, bits_zero, bits_one, bits_two, bits_half, bits_neg_half, bits_1024, bits_eps, EReal.coe_zero, zero_add, add_zero]
  rfl

/-- The gate's preactivation, as given back. -/
theorem ab (i : Fin 4096) (f : Fin 2816) :
    (val_main_v14 (F := Ideal) (arr X) (arr fun _ => G) (arr WG) : S4096x2816.Idx → EReal) (ix2 i f) = A X G WG i f := by
  unfold val_main_v14
  pointwise
  simp only [a, arr_apply, bits_zero, bits_one, bits_two, bits_half, bits_neg_half, bits_1024, bits_eps, EReal.coe_zero, zero_add, add_zero]

/-- The value's projection, as given back. -/
theorem bb (i : Fin 4096) (f : Fin 2816) :
    (val_main_v15 (F := Ideal) (arr X) (arr fun _ => G) (arr WU) : S4096x2816.Idx → EReal) (ix2 i f) = A X G WU i f := by
  unfold val_main_v15
  pointwise
  simp only [b, arr_apply, bits_zero, bits_one, bits_two, bits_half, bits_neg_half, bits_1024, bits_eps, EReal.coe_zero, zero_add, add_zero]

/-- The gated product, as given back. -/
theorem sb (i : Fin 4096) (f : Fin 2816) :
    (val_main_v18 (F := Ideal) (arr X) (arr fun _ => G) (arr WG) (arr WU) : S4096x2816.Idx → EReal) (ix2 i f) = S X G WG WU i f := by
  unfold val_main_v18 val_main_v17 val_main_v16 val_main_call0_v5 val_main_call0_v4 val_main_call0_cst_0 val_main_call0_v3 val_main_call0_v2 val_main_call0_cst val_main_call0_v1 val_main_call0_v0
  pointwise
  simp only [a, b, arr_apply, bits_zero, bits_one, bits_two, bits_half, bits_neg_half, bits_1024, bits_eps, EReal.coe_zero, zero_add, add_zero]
  rfl

end Cert.Proof.UpRef

end
-- ==== Proof.UpEquation.lean ====
/- The feed-forward layer's projections: the arrays that the kernel leaves are the reference's. -/
module

public import proofs.«01_k».proof.Defs
public import proofs.«01_k».proof.Proof.UpTile
public import proofs.«01_k».proof.Proof.UpRef
public import proofs.«01_k».proof.Proof.Gen.UpKernelIdeal.Value
public import proofs.«01_k».proof.Proof.Gen.UpReferenceIdeal.Run

@[expose] public section

noncomputable section

namespace Cert.Proof.Up

open Idealize.ShloMosaic Idealize.ShloMosaic.TcCoe Idealize.SL.Sem
open Cert.Maths Cert.Maths.Head

variable {X : Fin 4096 → Fin 1024 → EReal} {G : Fin 1024 → EReal} {WG : Fin 1024 → Fin 2816 → EReal} {WU : Fin 1024 → Fin 2816 → EReal}

/-- Every device's arguments are some arrays. -/
theorem holds_some (m : (ℓ : Loc Cert.UpKernelIdeal.nD Cert.UpKernelIdeal.τ Cert.UpKernelIdeal.sig) → Buf (Elt Ideal) ℓ) (c : Dev Cert.UpKernelIdeal.nD) :
    ∃ X G WG WU, Holds m c X G WG WU :=
  ⟨fun i k => (m (c, Proc.tc.devRef Cert.UpKernelIdeal.main_arg0) : Cert.UpKernelIdeal.S4096x1024.Idx → EReal) (ix2 i k),
    fun k => (m (c, Proc.tc.devRef Cert.UpKernelIdeal.main_arg1) : Cert.UpKernelIdeal.S1x1024.Idx → EReal) (ix2 0 k),
    fun i k => (m (c, Proc.tc.devRef Cert.UpKernelIdeal.main_arg2) : Cert.UpKernelIdeal.S1024x2816.Idx → EReal) (ix2 i k),
    fun i k => (m (c, Proc.tc.devRef Cert.UpKernelIdeal.main_arg3) : Cert.UpKernelIdeal.S1024x2816.Idx → EReal) (ix2 i k),
    fun _ _ => rfl, fun i k => by rw [Subsingleton.elim i 0], fun _ _ => rfl, fun _ _ => rfl⟩

/-- The reference's gate's preactivation. -/
theorem ref_a : (Cert.UpReferenceIdeal.Read.val_main_v14 (F := Ideal) (arr X) (arr fun _ => G) (arr WG) : Cert.UpReferenceIdeal.S4096x2816.Idx → EReal) = arr (A X G WG) :=
  eq_arr _ _ fun i k => UpRef.ab i k

/-- The reference's value's projection. -/
theorem ref_b : (Cert.UpReferenceIdeal.Read.val_main_v15 (F := Ideal) (arr X) (arr fun _ => G) (arr WU) : Cert.UpReferenceIdeal.S4096x2816.Idx → EReal) = arr (A X G WU) :=
  eq_arr _ _ fun i k => UpRef.bb i k

/-- The reference's gated product. -/
theorem ref_s : (Cert.UpReferenceIdeal.Read.val_main_v18 (F := Ideal) (arr X) (arr fun _ => G) (arr WG) (arr WU) : Cert.UpReferenceIdeal.S4096x2816.Idx → EReal) = arr (S X G WG WU) :=
  eq_arr _ _ fun i k => UpRef.sb i k

/-- The value claim. -/
theorem algebraic (hK : Cert.UpKernelIdeal.Facts) (hR : Cert.UpReferenceIdeal.Facts) : Cert.algebraic_UpKernelIdeal_UpReferenceIdeal := by
  intro m g m' g' _ heq
  refine ⟨fun c => (Cert.UpKernelIdeal.Gen.dats m 0 c).arrAt 4 Cert.UpKernelIdeal.cfg0.N,
    fun c => (Cert.UpKernelIdeal.Gen.dats m 0 c).arrAt 5 Cert.UpKernelIdeal.cfg0.N,
    fun c => (Cert.UpKernelIdeal.Gen.dats m 0 c).arrAt 6 Cert.UpKernelIdeal.cfg0.N,
    Cert.UpKernelIdeal.Value.run_blocks m g, ?_⟩
  refine (θ_run _ _ _).mono (fun r h c => ?_) (Cert.UpReferenceIdeal.Value.run m' g')
  obtain ⟨r0, r1, r2, ra⟩ := h c
  obtain ⟨X, G, WG, WU, hh⟩ := holds_some m c
  obtain ⟨e0, e1, e2, e3⟩ := heq c
  have x0 := e0.trans (eq_arr _ X hh.x)
  have x1 := e1.trans (eq_arr _ (fun _ => G) hh.g)
  have x2 := e2.trans (eq_arr _ WG hh.wg)
  have x3 := e3.trans (eq_arr _ WU hh.wu)
  refine ⟨?_, ?_, ?_, ra⟩
  · refine r0.trans ((Cert.UpReferenceIdeal.Read.val_main_v14_eq _ _ _).trans (Eq.trans ?_ (ref_a.trans (arr_a hh).symm)))
    rw [x0, x1, x2]
  · refine r1.trans ((Cert.UpReferenceIdeal.Read.val_main_v15_eq _ _ _).trans (Eq.trans ?_ (ref_b.trans (arr_b hh).symm)))
    rw [x0, x1, x3]
  · refine r2.trans ((Cert.UpReferenceIdeal.Read.val_main_v18_eq _ _ _ _).trans (Eq.trans ?_ (ref_s.trans (arr_s hh).symm)))
    rw [x0, x1, x2, x3]

/-- The reference ends with its arguments unchanged; it declares no semaphore. -/
theorem ref_frame (hR : Cert.UpReferenceIdeal.Facts) : Cert.quiescent_UpReferenceIdeal := fun m ρ _ =>
  (θ_run _ _ _).mono (fun r h => ⟨fun c => (h c).2.2.2, sem_eq_zero_of_no_sems (by decide) r.2⟩)
    (Cert.UpReferenceIdeal.Value.run (F := Ideal) m ρ)

end Cert.Proof.Up

end
-- ==== Proof.DownTile.lean ====
/- One tile of the feed-forward half-step's output projection, and the arrays that its tiles make. -/
module

public import proofs.«01_k».proof.Proof.Gen.DownKernelIdeal.Value
public import proofs.«01_k».proof.Proof.HeadSpec
public import Idealize.ShloMosaic.Lib.Pipeline.ValueKit
public import Idealize.ShloMosaic.Lib.Pointwise.Tactic
public import Idealize.ShloMosaic.Lib.StableHlo.ReadAt

@[expose] public section

noncomputable section

namespace Cert.Proof.Down

open Cert.DownKernelIdeal Cert.DownKernelIdeal.Gen Idealize.ShloMosaic Idealize.ShloMosaic.TcCoe Idealize.SL.Sem
open Idealize.ShloMosaic.Pipeline (Dat)
open Cert.Maths Cert.Maths.Head

/-- Row `i` of tile `t` as a row of the array. -/
def row (t : Fin cfg0.N) (i : Fin 256) : Fin 4096 := ⟨t.val * 256 + i.val, by have := t.isLt; have : cfg0.N = 16 := rfl; omega⟩

/-- The arguments on device `c` are these arrays. -/
structure Holds (m : (ℓ : Loc nD τ sig) → Buf (Elt Ideal) ℓ) (c : Dev nD)
    (X : Fin 4096 → Fin 1024 → EReal) (G : Fin 1024 → EReal) (WG : Fin 1024 → Fin 2816 → EReal) (WU : Fin 1024 → Fin 2816 → EReal) (WD : Fin 2816 → Fin 1024 → EReal) : Prop where
  x : ∀ i k, (m (c, Proc.tc.devRef main_arg0) : S4096x1024.Idx → EReal) (ix2 i k) = X i k
  g : ∀ i k, (m (c, Proc.tc.devRef main_arg1) : S1x1024.Idx → EReal) (ix2 i k) = G k
  wg : ∀ i k, (m (c, Proc.tc.devRef main_arg2) : S1024x2816.Idx → EReal) (ix2 i k) = WG i k
  wu : ∀ i k, (m (c, Proc.tc.devRef main_arg3) : S1024x2816.Idx → EReal) (ix2 i k) = WU i k
  wd : ∀ i k, (m (c, Proc.tc.devRef main_arg4) : S2816x1024.Idx → EReal) (ix2 i k) = WD i k

variable {m : (ℓ : Loc nD τ sig) → Buf (Elt Ideal) ℓ} {c : Dev nD}
  {X : Fin 4096 → Fin 1024 → EReal} {G : Fin 1024 → EReal} {WG : Fin 1024 → Fin 2816 → EReal} {WU : Fin 1024 → Fin 2816 → EReal} {WD : Fin 2816 → Fin 1024 → EReal}

/-- The gated product, from the host. -/
theorem gated (h : Holds m c X G WG WU WD) (i : Fin 4096) (k : Fin 2816) :
    (V m c main_v16 : S4096x2816.Idx → EReal) (ix2 i k) = S X G WG WU i k := by
  unfold V
  after_reads_at
  simp only [h.x, h.g, h.wg, h.wu, bits_1024, bits_eps, bits_one, bits_zero, EReal.coe_zero, zero_add]
  rfl

/-- The output weights as the call takes them. -/
theorem weight_d (h : Holds m c X G WG WU WD) (i : Fin 2816) (k : Fin 1024) :
    (V m c main_v17 : S2816x1024.Idx → EReal) (ix2 i k) = WD i k := by
  unfold V
  after_reads_at
  exact h.wd _ _

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![t.val, 0] := by decide +kernel

/-- The tile of the rows. -/
theorem tile_x (h : Holds m c X G WG WU WD) (t : Fin cfg0.N) (i : Fin 256) (k : Fin 1024) :
    (iblk m c 0 t : S256x1024.Idx → EReal) (ix2 i k) = X (row t i) k := by
  blk_simp [iblk]
  rw [V_main_arg0]
  refine Eq.trans (congrArg _ (?_ : _ = ix2 (row t i) k)) (h.x _ _)
  funext a; refine Fin.ext ?_
  fin_cases a <;> blk_simp [index0] <;> simp [row]

/-- The tile of the gated product. -/
theorem tile_s (h : Holds m c X G WG WU WD) (t : Fin cfg0.N) (i : Fin 256) (k : Fin 2816) :
    (iblk m c 1 t : S256x2816.Idx → EReal) (ix2 i k) = S X G WG WU (row t i) k := by
  blk_simp [iblk]
  refine Eq.trans (congrArg _ (?_ : _ = ix2 (row t i) k)) (gated h _ _)
  funext a; refine Fin.ext ?_
  fin_cases a <;> blk_simp [index1] <;> simp [row]

/-- The output weights, whole at every tile. -/
theorem tile_wd (h : Holds m c X G WG WU WD) (t : Fin cfg0.N) (i : Fin 2816) (k : Fin 1024) :
    (iblk m c 2 t : S2816x1024.Idx → EReal) (ix2 i k) = WD i k := by
  blk_simp [iblk]
  refine Eq.trans (congrArg _ (?_ : _ = ix2 i k)) (weight_d h _ _)
  funext a; refine Fin.ext ?_
  fin_cases a <;> blk_simp [index2] <;> simp

/-- The half-step's result. -/
theorem o_pay (h : Holds m c X G WG WU WD) (t : Fin cfg0.N) (i : Fin 256) (k : Fin 1024) :
    (k0_pay1 (F := Ideal) (iblk m c 0 t) (iblk m c 1 t) (iblk m c 2 t) : S256x1024.Idx → EReal) (ix2 i k) = O X G WG WU WD (row t i) k := by
  unfold k0_pay1
  pointwise
  simp only [tile_x h, tile_s h, tile_wd h, bits_half]
  rfl

/-- The tile of the half-step's result. -/
theorem out_o (h : Holds m c X G WG WU WD) (t : Fin cfg0.N) (i : Fin 256) (k : Fin 1024) :
    (out0_3 (iblk m c 0 t) (iblk m c 1 t) (iblk m c 2 t) : S256x1024.Idx → EReal) (ix2 i k) = O X G WG WU WD (row t i) k := by
  frame_out
  exact o_pay h t i k

/-- The array of the half-step's result. -/
theorem arr_o (h : Holds m c X G WG WU WD) :
    ((dats m 0 c).arrAt 3 cfg0.N : S4096x1024.Idx → EReal) = arr (O X G WG WU WD) := by
  refine (dats m 0 c).arrAt_eq_of_covers 3 _ (by decide +kernel) fun t hf y => ?_
  blk_simp
  rw [after0_3]
  have hy : (y : S256x1024.Idx) = ix2 (y 0) (y 1) := by funext a; fin_cases a <;> rfl
  refine (congrArg _ hy).trans ((out_o h t (y 0) (y 1)).trans (arr_congr _ _ _ _ ?_ ?_))
  · blk_simp [index3]; rfl
  · blk_simp [index3]

end Cert.Proof.Down

end
-- ==== Proof.DownRef.lean ====
/- The reference of the feed-forward half-step's output projection, stage by stage. -/
module

public import proofs.«01_k».proof.Proof.Gen.DownReferenceIdeal.Read
public import proofs.«01_k».proof.Proof.HeadSpec
public import Idealize.ShloMosaic.Lib.Pipeline.ValueKit
public import Idealize.ShloMosaic.Lib.Pointwise.Tactic
public import Idealize.ShloMosaic.Lib.StableHlo.ReadAt

@[expose] public section

noncomputable section

namespace Cert.Proof.DownRef

open Cert.DownReferenceIdeal Cert.DownReferenceIdeal.Read Idealize.ShloMosaic Idealize.ShloMosaic.TcCoe Idealize.SL.Sem
open Cert.Maths Cert.Maths.Head

variable {X : Fin 4096 → Fin 1024 → EReal} {G : Fin 1024 → EReal} {WG : Fin 1024 → Fin 2816 → EReal} {WU : Fin 1024 → Fin 2816 → EReal} {WD : Fin 2816 → Fin 1024 → EReal}

/-- The mean of squares of a row and the small number. -/
theorem mean (i : Fin 4096) (z : Fin 1) :
    (val_main_v6 (F := Ideal) (arr X) : S4096x1.Idx → EReal) (ix2 i z) = ms (X i) := by
  unfold val_main_v6 val_main_v4 val_main_v2 val_main_v1 val_main_v0 val_main_cst val_main_v3 val_main_cst_0 val_main_v5 val_main_cst_1
  pointwise
  simp only [arr_apply, bits_zero, bits_one, bits_two, bits_half, bits_neg_half, bits_1024, bits_eps, EReal.coe_zero, zero_add, add_zero]
  rfl

/-- The reciprocal root mean square of a row. -/
theorem rs (i : Fin 4096) (z : Fin 1) :
    (val_main_v7 (F := Ideal) (arr X) : S4096x1.Idx → EReal) (ix2 i z) = rr (X i) := by
  unfold val_main_v7
  pointwise
  simp only [mean, arr_apply, bits_zero, bits_one, bits_two, bits_half, bits_neg_half, bits_1024, bits_eps, EReal.coe_zero, zero_add, add_zero]
  rfl

/-- The normed rows. -/
theorem h (i : Fin 4096) (k : Fin 1024) :
    (val_main_v11 (F := Ideal) (arr X) (arr fun _ => G) : S4096x1024.Idx → EReal) (ix2 i k) = H X G i k := by
  unfold val_main_v11 val_main_v9 val_main_v8 val_main_v10
  pointwise
  simp only [rs, arr_apply, bits_zero, bits_one, bits_two, bits_half, bits_neg_half, bits_1024, bits_eps, EReal.coe_zero, zero_add, add_zero]
  rfl

/-- The gate's preactivation. -/
theorem a (i : Fin 4096) (f : Fin 2816) :
    (val_main_v12 (F := Ideal) (arr X) (arr fun _ => G) (arr WG) : S4096x2816.Idx → EReal) (ix2 i f) = A X G WG i f := by
  unfold val_main_v12
  pointwise
  simp only [h, arr_apply, bits_zero, bits_one, bits_two, bits_half, bits_neg_half, bits_1024, bits_eps, EReal.coe_zero, zero_add, add_zero]
  rfl

/-- The gated product. -/
theorem s (i : Fin 4096) (f : Fin 2816) :
    (val_main_v15 (F := Ideal) (arr X) (arr fun _ => G) (arr WG) (arr WU) : S4096x2816.Idx → EReal) (ix2 i f) = S X G WG WU i f := by
  unfold val_main_v15 val_main_v13 val_main_call0_v5 val_main_call0_v4 val_main_call0_cst_0 val_main_call0_v3 val_main_call0_v2 val_main_call0_cst val_main_call0_v1 val_main_call0_v0 val_main_v14
  pointwise
  simp only [a, h, arr_apply, bits_zero, bits_one, bits_two, bits_half, bits_neg_half, bits_1024, bits_eps, EReal.coe_zero, zero_add, add_zero]
  rfl

/-- The half-step's result. -/
theorem o (i : Fin 4096) (k : Fin 1024) :
    (val_main_v19 (F := Ideal) (arr X) (arr fun _ => G) (arr WG) (arr WU) (arr WD) : S4096x1024.Idx → EReal) (ix2 i k) = O X G WG WU WD i k := by
  unfold val_main_v19 val_main_v18 val_main_v17 val_main_cst_2 val_main_v16
  pointwise
  simp only [s, arr_apply, bits_zero, bits_one, bits_two, bits_half, bits_neg_half, bits_1024, bits_eps, EReal.coe_zero, zero_add, add_zero]
  rfl

end Cert.Proof.DownRef

end
-- ==== Proof.DownEquation.lean ====
/- The feed-forward half-step's output projection: the arrays that the kernel leaves are the reference's. -/
module

public import proofs.«01_k».proof.Defs
public import proofs.«01_k».proof.Proof.DownTile
public import proofs.«01_k».proof.Proof.DownRef
public import proofs.«01_k».proof.Proof.Gen.DownKernelIdeal.Value
public import proofs.«01_k».proof.Proof.Gen.DownReferenceIdeal.Run

@[expose] public section

noncomputable section

namespace Cert.Proof.Down

open Idealize.ShloMosaic Idealize.ShloMosaic.TcCoe Idealize.SL.Sem
open Cert.Maths Cert.Maths.Head

variable {X : Fin 4096 → Fin 1024 → EReal} {G : Fin 1024 → EReal} {WG : Fin 1024 → Fin 2816 → EReal} {WU : Fin 1024 → Fin 2816 → EReal} {WD : Fin 2816 → Fin 1024 → EReal}

/-- Every device's arguments are some arrays. -/
theorem holds_some (m : (ℓ : Loc Cert.DownKernelIdeal.nD Cert.DownKernelIdeal.τ Cert.DownKernelIdeal.sig) → Buf (Elt Ideal) ℓ) (c : Dev Cert.DownKernelIdeal.nD) :
    ∃ X G WG WU WD, Holds m c X G WG WU WD :=
  ⟨fun i k => (m (c, Proc.tc.devRef Cert.DownKernelIdeal.main_arg0) : Cert.DownKernelIdeal.S4096x1024.Idx → EReal) (ix2 i k),
    fun k => (m (c, Proc.tc.devRef Cert.DownKernelIdeal.main_arg1) : Cert.DownKernelIdeal.S1x1024.Idx → EReal) (ix2 0 k),
    fun i k => (m (c, Proc.tc.devRef Cert.DownKernelIdeal.main_arg2) : Cert.DownKernelIdeal.S1024x2816.Idx → EReal) (ix2 i k),
    fun i k => (m (c, Proc.tc.devRef Cert.DownKernelIdeal.main_arg3) : Cert.DownKernelIdeal.S1024x2816.Idx → EReal) (ix2 i k),
    fun i k => (m (c, Proc.tc.devRef Cert.DownKernelIdeal.main_arg4) : Cert.DownKernelIdeal.S2816x1024.Idx → EReal) (ix2 i k),
    fun _ _ => rfl, fun i k => by rw [Subsingleton.elim i 0], fun _ _ => rfl, fun _ _ => rfl, fun _ _ => rfl⟩

/-- The reference's half-step's result. -/
theorem ref_o : (Cert.DownReferenceIdeal.Read.val_main_v19 (F := Ideal) (arr X) (arr fun _ => G) (arr WG) (arr WU) (arr WD) : Cert.DownReferenceIdeal.S4096x1024.Idx → EReal) = arr (O X G WG WU WD) :=
  eq_arr _ _ fun i k => DownRef.o i k

/-- The value claim. -/
theorem algebraic (hK : Cert.DownKernelIdeal.Facts) (hR : Cert.DownReferenceIdeal.Facts) : Cert.algebraic_DownKernelIdeal_DownReferenceIdeal := by
  intro m g m' g' _ heq
  refine ⟨fun c => (Cert.DownKernelIdeal.Gen.dats m 0 c).arrAt 3 Cert.DownKernelIdeal.cfg0.N,
    Cert.DownKernelIdeal.Value.run_blocks m g, ?_⟩
  refine (θ_run _ _ _).mono (fun r h c => ?_) (Cert.DownReferenceIdeal.Value.run m' g')
  obtain ⟨r0, ra⟩ := h c
  obtain ⟨X, G, WG, WU, WD, hh⟩ := holds_some m c
  obtain ⟨e0, e1, e2, e3, e4⟩ := heq c
  have x0 := e0.trans (eq_arr _ X hh.x)
  have x1 := e1.trans (eq_arr _ (fun _ => G) hh.g)
  have x2 := e2.trans (eq_arr _ WG hh.wg)
  have x3 := e3.trans (eq_arr _ WU hh.wu)
  have x4 := e4.trans (eq_arr _ WD hh.wd)
  refine ⟨?_, ra⟩
  · refine r0.trans ((Cert.DownReferenceIdeal.Read.val_main_v19_eq _ _ _ _ _).trans (Eq.trans ?_ (ref_o.trans (arr_o hh).symm)))
    rw [x0, x1, x2, x3, x4]

/-- The reference ends with its arguments unchanged; it declares no semaphore. -/
theorem ref_frame (hR : Cert.DownReferenceIdeal.Facts) : Cert.quiescent_DownReferenceIdeal := fun m ρ _ =>
  (θ_run _ _ _).mono (fun r h => ⟨fun c => (h c).2, sem_eq_zero_of_no_sems (by decide) r.2⟩)
    (Cert.DownReferenceIdeal.Value.run (F := Ideal) m ρ)

end Cert.Proof.Down

end
-- ==== Proof.FwdSpec.lean ====
/- The attention into the memory over the extended reals: RMSNorm, four heads of softmax attention and the residual. -/
module

public import proofs.«01_k».proof.Proof.AttnSpec
public import proofs.«01_k».proof.Proof.HeadSpec

@[expose] public section

noncomputable section

namespace Cert.Maths.Fwd

open Idealize.ShloMosaic Cert.Maths Cert.Maths.Head
open Cert.Maths.Attn (col kcol vcol hd pl)

/-- The largest of 256 numbers, taken from minus infinity. -/
def top (s : Fin 256 → EReal) : EReal := Finset.univ.fold max ⊥ s

/-- A row's exponential, less the largest. -/
def ex (s : Fin 256 → EReal) (j : Fin 256) : EReal := Ideal.exp (s j - top s)

/-- The softmax of a row of scores. -/
def soft (s : Fin 256 → EReal) (j : Fin 256) : EReal := Ideal.div (ex s j) (∑ l, ex s l)

variable (X : Fin 4096 → Fin 1024 → EReal) (G : Fin 1024 → EReal) (M : Fin 256 → Fin 1024 → EReal) (GM : Fin 1024 → EReal)
  (WQ : Fin 1024 → Fin 1024 → EReal) (WKV : Fin 1024 → Fin 2048 → EReal) (WO : Fin 1024 → Fin 1024 → EReal)

/-- The queries. -/
def Q (i : Fin 4096) (f : Fin 1024) : EReal := ∑ k, H X G i k * WQ k f

/-- The keys and values. -/
def KV (j : Fin 256) (f : Fin 2048) : EReal := ∑ k, M j k * rr (M j) * GM k * WKV k f

/-- The scores of a head. -/
def SC (a : Fin 4) (i : Fin 4096) (j : Fin 256) : EReal :=
  (∑ d, Q X G WQ i (col a d) * KV M GM WKV j (kcol a d)) * ((1 / 16 : ℝ) : EReal)

/-- The softmax of a head. -/
def P (a : Fin 4) (i : Fin 4096) (j : Fin 256) : EReal := soft (SC X G M GM WQ WKV a i) j

/-- The heads' outputs side by side. -/
def ATT (i : Fin 4096) (f : Fin 1024) : EReal :=
  ∑ j, P X G M GM WQ WKV (hd f) i j * KV M GM WKV j (vcol (hd f) (pl f))

/-- The result. -/
def XO (i : Fin 4096) (k : Fin 1024) : EReal := X i k + ∑ f, ATT X G M GM WQ WKV i f * WO f k

/-- The head and place of a column given by them. -/
theorem at_head (a : Fin 4) (j : Fin 1024) (e : ℕ) (he : e < 256) (hj : j.val = a.val * 256 + e) :
    hd j = a ∧ pl j = ⟨e, he⟩ :=
  ⟨Fin.ext (show j.val / 256 = a.val by omega), Fin.ext (show j.val % 256 = e by omega)⟩

/-- A product over a head's columns, at a column given by its head and place. -/
theorem at_col {n : ℕ} (D : Fin 4 → Fin n → EReal) (K : Fin 4 → Fin n → Fin 256 → EReal) (a : Fin 4) (j : Fin 1024) (e : ℕ)
    (he : e < 256) (hj : j.val = a.val * 256 + e) :
    ∑ x, D a x * K a x ⟨e, he⟩ = ∑ x, D (hd j) x * K (hd j) x (pl j) := by
  obtain ⟨h1, h2⟩ := at_head a j e he hj
  rw [h1, h2]

theorem col_zero (d : Fin 256) (h : d.val < 1024) : (⟨d.val, h⟩ : Fin 1024) = col 0 d := Fin.ext (by simp [col])

end Cert.Maths.Fwd

end
-- ==== Proof.FwdTile.lean ====
/- One tile of the attention into the memory, and the arrays that its tiles make. -/
module

public import proofs.«01_k».proof.Proof.Gen.FwdKernelIdeal.Value
public import proofs.«01_k».proof.Proof.FwdSpec
public import Idealize.ShloMosaic.Lib.Pipeline.ValueKit
public import Idealize.ShloMosaic.Lib.Pointwise.Tactic
public import Idealize.ShloMosaic.Lib.StableHlo.ReadAt

@[expose] public section

noncomputable section

namespace Cert.Proof.Fwd

open Cert.FwdKernelIdeal Cert.FwdKernelIdeal.Gen Idealize.ShloMosaic Idealize.ShloMosaic.TcCoe Idealize.SL.Sem
open Idealize.ShloMosaic.Pipeline (Dat)
open Cert.Maths Cert.Maths.Head Cert.Maths.Fwd
open Cert.Maths.Attn (bits_sixteenth bits_bot col kcol vcol hd pl)

/-- Row `i` of tile `t` as a row of the array. -/
def row (t : Fin cfg0.N) (i : Fin 512) : Fin 4096 := ⟨t.val * 512 + i.val, by have := t.isLt; have : cfg0.N = 8 := rfl; omega⟩

/-- The arguments on device `c` are these arrays. -/
structure Holds (m : (ℓ : Loc nD τ sig) → Buf (Elt Ideal) ℓ) (c : Dev nD)
    (X : Fin 4096 → Fin 1024 → EReal) (G : Fin 1024 → EReal) (M : Fin 256 → Fin 1024 → EReal) (GM : Fin 1024 → EReal) (WQ : Fin 1024 → Fin 1024 → EReal) (WKV : Fin 1024 → Fin 2048 → EReal) (WO : Fin 1024 → Fin 1024 → EReal) : Prop where
  x : ∀ i k, (m (c, Proc.tc.devRef main_arg0) : S4096x1024.Idx → EReal) (ix2 i k) = X i k
  g : ∀ i k, (m (c, Proc.tc.devRef main_arg1) : S1x1024.Idx → EReal) (ix2 i k) = G k
  mem : ∀ i k, (m (c, Proc.tc.devRef main_arg2) : S256x1024.Idx → EReal) (ix2 i k) = M i k
  gm : ∀ i k, (m (c, Proc.tc.devRef main_arg3) : S1x1024.Idx → EReal) (ix2 i k) = GM k
  wq : ∀ i k, (m (c, Proc.tc.devRef main_arg4) : S1024x1024.Idx → EReal) (ix2 i k) = WQ i k
  wkv : ∀ i k, (m (c, Proc.tc.devRef main_arg5) : S1024x2048.Idx → EReal) (ix2 i k) = WKV i k
  wo : ∀ i k, (m (c, Proc.tc.devRef main_arg6) : S1024x1024.Idx → EReal) (ix2 i k) = WO i k

variable {m : (ℓ : Loc nD τ sig) → Buf (Elt Ideal) ℓ} {c : Dev nD}
  {X : Fin 4096 → Fin 1024 → EReal} {G : Fin 1024 → EReal} {M : Fin 256 → Fin 1024 → EReal} {GM : Fin 1024 → EReal} {WQ : Fin 1024 → Fin 1024 → EReal} {WKV : Fin 1024 → Fin 2048 → EReal} {WO : Fin 1024 → Fin 1024 → EReal}

/-- The keys and values, from the host. -/
theorem host_kv (h : Holds m c X G M GM WQ WKV WO) (i : Fin 256) (k : Fin 2048) :
    (V m c main_v13 : S256x2048.Idx → EReal) (ix2 i k) = KV M GM WKV i k := by
  unfold V
  after_reads_at
  simp only [h.mem, h.gm, h.wkv, bits_1024, bits_eps]
  rfl

/-- The queries' weights as the call takes them. -/
theorem weight_q (h : Holds m c X G M GM WQ WKV WO) (i : Fin 1024) (k : Fin 1024) :
    (V m c main_v14 : S1024x1024.Idx → EReal) (ix2 i k) = WQ i k := by
  unfold V
  after_reads_at
  exact h.wq _ _

/-- The output weights as the call takes them. -/
theorem weight_o (h : Holds m c X G M GM WQ WKV WO) (i : Fin 1024) (k : Fin 1024) :
    (V m c main_v15 : S1024x1024.Idx → EReal) (ix2 i k) = WO i k := by
  unfold V
  after_reads_at
  exact h.wo _ _

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![t.val, 0] := by decide +kernel

/-- The tile of the rows. -/
theorem tile_x (h : Holds m c X G M GM WQ WKV WO) (t : Fin cfg0.N) (i : Fin 512) (k : Fin 1024) :
    (iblk m c 0 t : S512x1024.Idx → EReal) (ix2 i k) = X (row t i) k := by
  blk_simp [iblk]
  rw [V_main_arg0]
  refine Eq.trans (congrArg _ (?_ : _ = ix2 (row t i) k)) (h.x _ _)
  funext a; refine Fin.ext ?_
  fin_cases a <;> blk_simp [index0] <;> simp [row]

/-- The gain, whole at every tile. -/
theorem tile_g (h : Holds m c X G M GM WQ WKV WO) (t : Fin cfg0.N) (i : Fin 1) (k : Fin 1024) :
    (iblk m c 1 t : S1x1024.Idx → EReal) (ix2 i k) = G k := by
  blk_simp [iblk]
  rw [V_main_arg1]
  refine Eq.trans (congrArg _ (?_ : _ = ix2 i k)) (h.g _ _)
  funext a; refine Fin.ext ?_
  fin_cases a <;> blk_simp [index1] <;> simp

/-- The queries' weights, whole at every tile. -/
theorem tile_wq (h : Holds m c X G M GM WQ WKV WO) (t : Fin cfg0.N) (i : Fin 1024) (k : Fin 1024) :
    (iblk m c 2 t : S1024x1024.Idx → EReal) (ix2 i k) = WQ i k := by
  blk_simp [iblk]
  refine Eq.trans (congrArg _ (?_ : _ = ix2 i k)) (weight_q h _ _)
  funext a; refine Fin.ext ?_
  fin_cases a <;> blk_simp [index2] <;> simp

/-- The keys and values, whole at every tile. -/
theorem tile_kv (h : Holds m c X G M GM WQ WKV WO) (t : Fin cfg0.N) (i : Fin 256) (k : Fin 2048) :
    (iblk m c 3 t : S256x2048.Idx → EReal) (ix2 i k) = KV M GM WKV i k := by
  blk_simp [iblk]
  refine Eq.trans (congrArg _ (?_ : _ = ix2 i k)) (host_kv h _ _)
  funext a; refine Fin.ext ?_
  fin_cases a <;> blk_simp [index3] <;> simp

/-- The output weights, whole at every tile. -/
theorem tile_wo (h : Holds m c X G M GM WQ WKV WO) (t : Fin cfg0.N) (i : Fin 1024) (k : Fin 1024) :
    (iblk m c 4 t : S1024x1024.Idx → EReal) (ix2 i k) = WO i k := by
  blk_simp [iblk]
  refine Eq.trans (congrArg _ (?_ : _ = ix2 i k)) (weight_o h _ _)
  funext a; refine Fin.ext ?_
  fin_cases a <;> blk_simp [index4] <;> simp

/-- The rows as the body reads them. -/
theorem ld_x (h : Holds m c X G M GM WQ WKV WO) (t : Fin cfg0.N) (i : Fin 512) (k : Fin 1024) :
    (View.ld (iblk m c 0 t) r0_0 : S512x1024.Idx → EReal) (ix2 i k) = X (row t i) k := by
  refine Eq.trans ?_ (tile_x h t i k)
  pointwise

/-- The gain as the body reads it. -/
theorem ld_g (h : Holds m c X G M GM WQ WKV WO) (t : Fin cfg0.N) (i : Fin 1) (k : Fin 1024) :
    (View.ld (iblk m c 1 t) r0_1 : S1x1024.Idx → EReal) (ix2 i k) = G k := by
  refine Eq.trans ?_ (tile_g h t i k)
  pointwise
  rw [Subsingleton.elim i 0]

/-- The queries' weights as the body reads them. -/
theorem ld_wq (h : Holds m c X G M GM WQ WKV WO) (t : Fin cfg0.N) (i : Fin 1024) (k : Fin 1024) :
    (View.ld (iblk m c 2 t) r0_2 : S1024x1024.Idx → EReal) (ix2 i k) = WQ i k := by
  refine Eq.trans ?_ (tile_wq h t i k)
  pointwise

/-- A part of the keys and values. -/
theorem ld_kv (h : Holds m c X G M GM WQ WKV WO) (t : Fin cfg0.N) (o : ℕ) (ho) (ho' : o + 256 ≤ 2048) (j : Fin 256) (d : Fin 256) :
    (View.ld (iblk m c 3 t) (Rect.unit (s := S256x2048) ![0, o] ![256, 256] ho) : S256x256.Idx → EReal) (ix2 j d)
      = KV M GM WKV j ⟨o + d.val, by omega⟩ := by
  refine Eq.trans ?_ (tile_kv h t _ _)
  pointwise

/-- Head 0's keys. -/
theorem ld_kv0 (h : Holds m c X G M GM WQ WKV WO) (t : Fin cfg0.N) (j d : Fin 256) :
    (View.ld (iblk m c 3 t) r0_3 : S256x256.Idx → EReal) (ix2 j d) = KV M GM WKV j (kcol 0 d) :=
  (ld_kv h t 0 _ (by norm_num) j d).trans (congrArg (KV M GM WKV j) (Fin.ext (by simp [kcol, vcol] <;> omega)))

/-- Head 1's keys. -/
theorem ld_kv1 (h : Holds m c X G M GM WQ WKV WO) (t : Fin cfg0.N) (j d : Fin 256) :
    (View.ld (iblk m c 3 t) r0_4 : S256x256.Idx → EReal) (ix2 j d) = KV M GM WKV j (kcol 1 d) :=
  (ld_kv h t 256 _ (by norm_num) j d).trans (congrArg (KV M GM WKV j) (Fin.ext (by simp [kcol, vcol] <;> omega)))

/-- Head 2's keys. -/
theorem ld_kv2 (h : Holds m c X G M GM WQ WKV WO) (t : Fin cfg0.N) (j d : Fin 256) :
    (View.ld (iblk m c 3 t) r0_5 : S256x256.Idx → EReal) (ix2 j d) = KV M GM WKV j (kcol 2 d) :=
  (ld_kv h t 512 _ (by norm_num) j d).trans (congrArg (KV M GM WKV j) (Fin.ext (by simp [kcol, vcol] <;> omega)))

/-- Head 3's keys. -/
theorem ld_kv3 (h : Holds m c X G M GM WQ WKV WO) (t : Fin cfg0.N) (j d : Fin 256) :
    (View.ld (iblk m c 3 t) r0_6 : S256x256.Idx → EReal) (ix2 j d) = KV M GM WKV j (kcol 3 d) :=
  (ld_kv h t 768 _ (by norm_num) j d).trans (congrArg (KV M GM WKV j) (Fin.ext (by simp [kcol, vcol] <;> omega)))

/-- Head 0's values. -/
theorem ld_kv4 (h : Holds m c X G M GM WQ WKV WO) (t : Fin cfg0.N) (j d : Fin 256) :
    (View.ld (iblk m c 3 t) r0_7 : S256x256.Idx → EReal) (ix2 j d) = KV M GM WKV j (vcol 0 d) :=
  (ld_kv h t 1024 _ (by norm_num) j d).trans (congrArg (KV M GM WKV j) (Fin.ext (by simp [kcol, vcol] <;> omega)))

/-- Head 1's values. -/
theorem ld_kv5 (h : Holds m c X G M GM WQ WKV WO) (t : Fin cfg0.N) (j d : Fin 256) :
    (View.ld (iblk m c 3 t) r0_8 : S256x256.Idx → EReal) (ix2 j d) = KV M GM WKV j (vcol 1 d) :=
  (ld_kv h t 1280 _ (by norm_num) j d).trans (congrArg (KV M GM WKV j) (Fin.ext (by simp [kcol, vcol] <;> omega)))

/-- Head 2's values. -/
theorem ld_kv6 (h : Holds m c X G M GM WQ WKV WO) (t : Fin cfg0.N) (j d : Fin 256) :
    (View.ld (iblk m c 3 t) r0_9 : S256x256.Idx → EReal) (ix2 j d) = KV M GM WKV j (vcol 2 d) :=
  (ld_kv h t 1536 _ (by norm_num) j d).trans (congrArg (KV M GM WKV j) (Fin.ext (by simp [kcol, vcol] <;> omega)))

/-- Head 3's values. -/
theorem ld_kv7 (h : Holds m c X G M GM WQ WKV WO) (t : Fin cfg0.N) (j d : Fin 256) :
    (View.ld (iblk m c 3 t) r0_10 : S256x256.Idx → EReal) (ix2 j d) = KV M GM WKV j (vcol 3 d) :=
  (ld_kv h t 1792 _ (by norm_num) j d).trans (congrArg (KV M GM WKV j) (Fin.ext (by simp [kcol, vcol] <;> omega)))

/-- The normed rows, from the rows and the gain. -/
theorem norm_pay (t : Fin cfg0.N) (v0 : FVec Ideal S512x1024 .f32) (v1 : FVec Ideal S1x1024 .f32)
    (h0 : ∀ i k, (v0 : S512x1024.Idx → EReal) (ix2 i k) = X (row t i) k) (h1 : ∀ i k, (v1 : S1x1024.Idx → EReal) (ix2 i k) = G k) (i : Fin 512) (k : Fin 1024) :
    (k0_pay3 (F := Ideal) v0 v1 : S512x1024.Idx → EReal) (ix2 i k) = H X G (row t i) k := by
  unfold k0_pay3
  pointwise
  simp only [h0, h1, bits_1024, bits_eps]
  rfl

/-- The queries, from the rows, the gain and the weights. -/
theorem query_pay (t : Fin cfg0.N) (v0 : FVec Ideal S512x1024 .f32) (v1 : FVec Ideal S1x1024 .f32) (v2 : FVec Ideal S1024x1024 .bf16)
    (h0 : ∀ i k, (v0 : S512x1024.Idx → EReal) (ix2 i k) = X (row t i) k) (h1 : ∀ i k, (v1 : S1x1024.Idx → EReal) (ix2 i k) = G k)
    (h2 : ∀ i k, (v2 : S1024x1024.Idx → EReal) (ix2 i k) = WQ i k) (i : Fin 512) (k : Fin 1024) :
    (k0_pay4 (F := Ideal) v0 v1 v2 : S512x1024.Idx → EReal) (ix2 i k) = Q X G WQ (row t i) k := by
  unfold k0_pay4
  pointwise
  simp only [norm_pay t v0 v1 h0 h1, h2]
  rfl

/-- The normed rows of a tile. -/
theorem h_pay (h : Holds m c X G M GM WQ WKV WO) (t : Fin cfg0.N) (i : Fin 512) (k : Fin 1024) :
    (k0_pay3 (F := Ideal) (iblk m c 0 t) (iblk m c 1 t) : S512x1024.Idx → EReal) (ix2 i k) = H X G (row t i) k :=
  norm_pay t _ _ (tile_x h t) (tile_g h t) i k

/-- The queries of a tile. -/
theorem q_pay (h : Holds m c X G M GM WQ WKV WO) (t : Fin cfg0.N) (i : Fin 512) (k : Fin 1024) :
    (k0_pay4 (F := Ideal) (iblk m c 0 t) (iblk m c 1 t) (iblk m c 2 t) : S512x1024.Idx → EReal) (ix2 i k) = Q X G WQ (row t i) k :=
  query_pay t _ _ _ (tile_x h t) (tile_g h t) (tile_wq h t) i k

/-- The first head's softmax, from the body's readings. -/
theorem soft0 (v0 : FVec Ideal S512x1024 .f32) (v1 : FVec Ideal S1x1024 .f32) (v2 : FVec Ideal S1024x1024 .bf16) (w : FVec Ideal S256x256 .bf16) (f : Fin 512 → Fin 1024 → EReal) (g : Fin 256 → Fin 256 → EReal)
    (hv : ∀ i j, (k0_pay4 (F := Ideal) v0 v1 v2 : S512x1024.Idx → EReal) (ix2 i j) = f i j)
    (hw : ∀ i j, (w : S256x256.Idx → EReal) (ix2 i j) = g i j) (i : Fin 512) (j : Fin 256) :
    (k0_pay5 (F := Ideal) v0 v1 v2 w : S512x256.Idx → EReal) (ix2 i j) = soft (fun l => (∑ d, f i (col 0 d) * g l d) * ((1 / 16 : ℝ) : EReal)) j := by
  unfold k0_pay5
  pointwise
  simp only [hv, hw, bits_sixteenth, bits_bot, col_zero]
  rfl

/-- The second head's softmax, from the body's readings. -/
theorem soft1 (v0 : FVec Ideal S512x1024 .f32) (v1 : FVec Ideal S1x1024 .f32) (v2 : FVec Ideal S1024x1024 .bf16) (w : FVec Ideal S256x256 .bf16) (f : Fin 512 → Fin 1024 → EReal) (g : Fin 256 → Fin 256 → EReal)
    (hv : ∀ i j, (k0_pay4 (F := Ideal) v0 v1 v2 : S512x1024.Idx → EReal) (ix2 i j) = f i j)
    (hw : ∀ i j, (w : S256x256.Idx → EReal) (ix2 i j) = g i j) (i : Fin 512) (j : Fin 256) :
    (k0_pay7 (F := Ideal) (k0_pay6 v0 v1 v2) w : S512x256.Idx → EReal) (ix2 i j) = soft (fun l => (∑ d, f i (col 1 d) * g l d) * ((1 / 16 : ℝ) : EReal)) j := by
  unfold k0_pay7 k0_pay6
  pointwise
  simp only [hv, hw, bits_sixteenth, bits_bot]
  rfl

/-- The third head's softmax, from the queries and keys. -/
theorem soft2 (v : FVec Ideal S512x1024 .bf16) (w : FVec Ideal S256x256 .bf16) (f : Fin 512 → Fin 1024 → EReal) (g : Fin 256 → Fin 256 → EReal)
    (hv : ∀ i j, (v : S512x1024.Idx → EReal) (ix2 i j) = f i j)
    (hw : ∀ i j, (w : S256x256.Idx → EReal) (ix2 i j) = g i j) (i : Fin 512) (j : Fin 256) :
    (k0_pay8 (F := Ideal) v w : S512x256.Idx → EReal) (ix2 i j) = soft (fun l => (∑ d, f i (col 2 d) * g l d) * ((1 / 16 : ℝ) : EReal)) j := by
  unfold k0_pay8
  pointwise
  simp only [hv, hw, bits_sixteenth, bits_bot]
  rfl

/-- The fourth head's exponentials, from the queries and keys. -/
theorem exp3 (v : FVec Ideal S512x1024 .bf16) (w : FVec Ideal S256x256 .bf16) (f : Fin 512 → Fin 1024 → EReal) (g : Fin 256 → Fin 256 → EReal)
    (hv : ∀ i j, (v : S512x1024.Idx → EReal) (ix2 i j) = f i j)
    (hw : ∀ i j, (w : S256x256.Idx → EReal) (ix2 i j) = g i j) (i : Fin 512) (j : Fin 256) :
    (k0_pay9 (F := Ideal) v w : S512x256.Idx → EReal) (ix2 i j) = ex (fun l => (∑ d, f i (col 3 d) * g l d) * ((1 / 16 : ℝ) : EReal)) j := by
  unfold k0_pay9
  pointwise
  simp only [hv, hw, bits_sixteenth, bits_bot]
  rfl

/-- The sum of the fourth head's exponentials, from the queries and keys. -/
theorem sum3 (v : FVec Ideal S512x1024 .bf16) (w : FVec Ideal S256x256 .bf16) (f : Fin 512 → Fin 1024 → EReal) (g : Fin 256 → Fin 256 → EReal)
    (hv : ∀ i j, (v : S512x1024.Idx → EReal) (ix2 i j) = f i j)
    (hw : ∀ i j, (w : S256x256.Idx → EReal) (ix2 i j) = g i j) (i : Fin 512) (j : Fin 1) :
    (k0_pay10 (F := Ideal) v w : S512x1.Idx → EReal) (ix2 i j) = ∑ l, ex (fun l => (∑ d, f i (col 3 d) * g l d) * ((1 / 16 : ℝ) : EReal)) l := by
  unfold k0_pay10
  pointwise
  simp only [exp3 v w f g hv hw]

/-- The queries of a tile, as the body reads them. -/
theorem q_ld (h : Holds m c X G M GM WQ WKV WO) (t : Fin cfg0.N) (i : Fin 512) (k : Fin 1024) :
    (k0_pay4 (F := Ideal) (View.ld (iblk m c 0 t) r0_0) (View.ld (iblk m c 1 t) r0_1) (View.ld (iblk m c 2 t) r0_2) : S512x1024.Idx → EReal) (ix2 i k)
      = Q X G WQ (row t i) k :=
  query_pay t _ _ _ (ld_x h t) (ld_g h t) (ld_wq h t) i k

/-- The first head's softmax of a tile. -/
theorem p0_pay (h : Holds m c X G M GM WQ WKV WO) (t : Fin cfg0.N) (i : Fin 512) (j : Fin 256) :
    (k0_pay12 (F := Ideal) (iblk m c 0 t) (iblk m c 1 t) (iblk m c 2 t) (iblk m c 3 t) (iblk m c 4 t) : S512x256.Idx → EReal) (ix2 i j) = P X G M GM WQ WKV 0 (row t i) j := by
  exact soft0 _ _ _ _ (fun i f => Q X G WQ (row t i) f) (fun j d => KV M GM WKV j (kcol 0 d)) (q_ld h t) (ld_kv0 h t) i j

/-- The second head's softmax of a tile. -/
theorem p1_pay (h : Holds m c X G M GM WQ WKV WO) (t : Fin cfg0.N) (i : Fin 512) (j : Fin 256) :
    (k0_pay13 (F := Ideal) (iblk m c 0 t) (iblk m c 1 t) (iblk m c 2 t) (iblk m c 3 t) (iblk m c 4 t) : S512x256.Idx → EReal) (ix2 i j) = P X G M GM WQ WKV 1 (row t i) j := by
  exact soft1 _ _ _ _ (fun i f => Q X G WQ (row t i) f) (fun j d => KV M GM WKV j (kcol 1 d)) (q_ld h t) (ld_kv1 h t) i j

/-- The third head's softmax of a tile. -/
theorem p2_pay (h : Holds m c X G M GM WQ WKV WO) (t : Fin cfg0.N) (i : Fin 512) (j : Fin 256) :
    (k0_pay14 (F := Ideal) (iblk m c 0 t) (iblk m c 1 t) (iblk m c 2 t) (iblk m c 3 t) (iblk m c 4 t) : S512x256.Idx → EReal) (ix2 i j) = P X G M GM WQ WKV 2 (row t i) j := by
  exact soft2 _ _ (fun i f => Q X G WQ (row t i) f) (fun j d => KV M GM WKV j (kcol 2 d)) (q_ld h t) (ld_kv2 h t) i j

/-- The fourth head's exponentials of a tile. -/
theorem e3_pay (h : Holds m c X G M GM WQ WKV WO) (t : Fin cfg0.N) (i : Fin 512) (j : Fin 256) :
    (k0_pay15 (F := Ideal) (iblk m c 0 t) (iblk m c 1 t) (iblk m c 2 t) (iblk m c 3 t) (iblk m c 4 t) : S512x256.Idx → EReal) (ix2 i j) = ex (SC X G M GM WQ WKV 3 (row t i)) j := by
  exact exp3 _ _ (fun i f => Q X G WQ (row t i) f) (fun j d => KV M GM WKV j (kcol 3 d)) (q_ld h t) (ld_kv3 h t) i j

/-- The sum of the fourth head's exponentials of a tile. -/
theorem s3_pay (h : Holds m c X G M GM WQ WKV WO) (t : Fin cfg0.N) (i : Fin 512) (j : Fin 1) :
    (k0_pay16 (F := Ideal) (iblk m c 0 t) (iblk m c 1 t) (iblk m c 2 t) (iblk m c 3 t) (iblk m c 4 t) : S512x1.Idx → EReal) (ix2 i j) = ∑ l, ex (SC X G M GM WQ WKV 3 (row t i)) l := by
  exact sum3 _ _ (fun i f => Q X G WQ (row t i) f) (fun j d => KV M GM WKV j (kcol 3 d)) (q_ld h t) (ld_kv3 h t) i j

/-- The heads' outputs side by side. -/
theorem cat_pay (D : Fin 4 → Fin 512 → Fin 256 → EReal) (K : Fin 4 → Fin 256 → Fin 256 → EReal)
    (v35 v50 v65 v76 : FVec Ideal S512x256 .f32) (v78 : FVec Ideal S512x1 .f32) (k0 k1 k2 k3 : FVec Ideal S256x256 .bf16)
    (h0 : ∀ i j, (v35 : S512x256.Idx → EReal) (ix2 i j) = D 0 i j)
    (h1 : ∀ i j, (v50 : S512x256.Idx → EReal) (ix2 i j) = D 1 i j)
    (h2 : ∀ i j, (v65 : S512x256.Idx → EReal) (ix2 i j) = D 2 i j)
    (h3 : ∀ i j, Ideal.div ((v76 : S512x256.Idx → EReal) (ix2 i j)) ((v78 : S512x1.Idx → EReal) (ix2 i 0)) = D 3 i j)
    (e0 : ∀ i j, (k0 : S256x256.Idx → EReal) (ix2 i j) = K 0 i j)
    (e1 : ∀ i j, (k1 : S256x256.Idx → EReal) (ix2 i j) = K 1 i j)
    (e2 : ∀ i j, (k2 : S256x256.Idx → EReal) (ix2 i j) = K 2 i j)
    (e3 : ∀ i j, (k3 : S256x256.Idx → EReal) (ix2 i j) = K 3 i j)
    (i : Fin 512) (j : Fin 1024) :
    (k0_pay1 (F := Ideal) v35 v50 v65 v76 v78 k0 k1 k2 k3 : S512x1024.Idx → EReal) (ix2 i j)
      = ∑ x, D (hd j) i x * K (hd j) x (pl j) := by
  unfold k0_pay1
  pointwise
  simp only [h0, h1, h2, h3, e0, e1, e2, e3]
  by_cases c0 : j.val < 256
  · rw [dif_pos c0]; exact at_col (fun a x => D a i x) K 0 j _ _ (by simp)
  rw [dif_neg c0]
  by_cases c1 : j.val - 256 < 256
  · rw [dif_pos c1]; exact at_col (fun a x => D a i x) K 1 j _ _ (by simp; omega)
  rw [dif_neg c1]
  by_cases c2 : j.val - 256 - 256 < 256
  · rw [dif_pos c2]; exact at_col (fun a x => D a i x) K 2 j _ _ (by simp; omega)
  rw [dif_neg c2]
  exact at_col (fun a x => D a i x) K 3 j _ _ (by simp; omega)

variable (m c) in
/-- The heads' outputs of a tile. -/
abbrev cat (t : Fin cfg0.N) : FVec Ideal S512x1024 .bf16 :=
  k0_pay1 (k0_pay12 (iblk m c 0 t) (iblk m c 1 t) (iblk m c 2 t) (iblk m c 3 t) (iblk m c 4 t)) (k0_pay13 (iblk m c 0 t) (iblk m c 1 t) (iblk m c 2 t) (iblk m c 3 t) (iblk m c 4 t)) (k0_pay14 (iblk m c 0 t) (iblk m c 1 t) (iblk m c 2 t) (iblk m c 3 t) (iblk m c 4 t)) (k0_pay15 (iblk m c 0 t) (iblk m c 1 t) (iblk m c 2 t) (iblk m c 3 t) (iblk m c 4 t)) (k0_pay16 (iblk m c 0 t) (iblk m c 1 t) (iblk m c 2 t) (iblk m c 3 t) (iblk m c 4 t))
    (View.ld (iblk m c 3 t) r0_7) (View.ld (iblk m c 3 t) r0_8) (View.ld (iblk m c 3 t) r0_9) (View.ld (iblk m c 3 t) r0_10)

/-- The heads' outputs of a tile. -/
theorem att_pay (h : Holds m c X G M GM WQ WKV WO) (t : Fin cfg0.N) (i : Fin 512) (k : Fin 1024) :
    (cat m c t : S512x1024.Idx → EReal) (ix2 i k) = ATT X G M GM WQ WKV (row t i) k :=
  cat_pay (fun a i j => P X G M GM WQ WKV a (row t i) j) (fun a j d => KV M GM WKV j (vcol a d)) _ _ _ _ _ _ _ _ _
    (p0_pay h t) (p1_pay h t) (p2_pay h t) (fun i j => by rw [e3_pay h t i j, s3_pay h t i 0]; rfl)
    (ld_kv4 h t) (ld_kv5 h t) (ld_kv6 h t) (ld_kv7 h t) i k

/-- The result of a tile. -/
theorem xo_pay (h : Holds m c X G M GM WQ WKV WO) (t : Fin cfg0.N) (i : Fin 512) (k : Fin 1024) :
    (k0_pay2 (F := Ideal) (iblk m c 0 t) (k0_pay12 (iblk m c 0 t) (iblk m c 1 t) (iblk m c 2 t) (iblk m c 3 t) (iblk m c 4 t)) (k0_pay13 (iblk m c 0 t) (iblk m c 1 t) (iblk m c 2 t) (iblk m c 3 t) (iblk m c 4 t)) (k0_pay14 (iblk m c 0 t) (iblk m c 1 t) (iblk m c 2 t) (iblk m c 3 t) (iblk m c 4 t)) (k0_pay15 (iblk m c 0 t) (iblk m c 1 t) (iblk m c 2 t) (iblk m c 3 t) (iblk m c 4 t)) (k0_pay16 (iblk m c 0 t) (iblk m c 1 t) (iblk m c 2 t) (iblk m c 3 t) (iblk m c 4 t))
      (View.ld (iblk m c 3 t) r0_7) (View.ld (iblk m c 3 t) r0_8) (View.ld (iblk m c 3 t) r0_9) (View.ld (iblk m c 3 t) r0_10)
      (iblk m c 4 t) : S512x1024.Idx → EReal) (ix2 i k) = XO X G M GM WQ WKV WO (row t i) k := by
  unfold k0_pay2
  pointwise
  simp only [att_pay h, tile_x h, tile_wo h]
  rfl

/-- The tile of the result. -/
theorem out_xo (h : Holds m c X G M GM WQ WKV WO) (t : Fin cfg0.N) (i : Fin 512) (k : Fin 1024) :
    (out0_5 (iblk m c 0 t) (iblk m c 1 t) (iblk m c 2 t) (iblk m c 3 t) (iblk m c 4 t) : S512x1024.Idx → EReal) (ix2 i k) = XO X G M GM WQ WKV WO (row t i) k := by
  frame_out
  exact xo_pay h t i k

/-- The array of the result. -/
theorem arr_xo (h : Holds m c X G M GM WQ WKV WO) :
    ((dats m 0 c).arrAt 5 cfg0.N : S4096x1024.Idx → EReal) = arr (XO X G M GM WQ WKV WO) := by
  refine (dats m 0 c).arrAt_eq_of_covers 5 _ (by decide +kernel) fun t hf y => ?_
  blk_simp
  rw [after0_5]
  have hy : (y : S512x1024.Idx) = ix2 (y 0) (y 1) := by funext a; fin_cases a <;> rfl
  refine (congrArg _ hy).trans ((out_xo h t (y 0) (y 1)).trans (arr_congr _ _ _ _ ?_ ?_))
  · blk_simp [index5]; rfl
  · blk_simp [index5]

/-- The tile of the normed rows. -/
theorem out_h (h : Holds m c X G M GM WQ WKV WO) (t : Fin cfg0.N) (i : Fin 512) (k : Fin 1024) :
    (out0_6 (iblk m c 0 t) (iblk m c 1 t) (iblk m c 2 t) (iblk m c 3 t) (iblk m c 4 t) : S512x1024.Idx → EReal) (ix2 i k) = H X G (row t i) k := by
  frame_out
  exact h_pay h t i k

/-- The array of the normed rows. -/
theorem arr_h (h : Holds m c X G M GM WQ WKV WO) :
    ((dats m 0 c).arrAt 6 cfg0.N : S4096x1024.Idx → EReal) = arr (H X G) := by
  refine (dats m 0 c).arrAt_eq_of_covers 6 _ (by decide +kernel) fun t hf y => ?_
  blk_simp
  rw [after0_6]
  have hy : (y : S512x1024.Idx) = ix2 (y 0) (y 1) := by funext a; fin_cases a <;> rfl
  refine (congrArg _ hy).trans ((out_h h t (y 0) (y 1)).trans (arr_congr _ _ _ _ ?_ ?_))
  · blk_simp [index6]; rfl
  · blk_simp [index6]

/-- The tile of the queries. -/
theorem out_q (h : Holds m c X G M GM WQ WKV WO) (t : Fin cfg0.N) (i : Fin 512) (k : Fin 1024) :
    (out0_7 (iblk m c 0 t) (iblk m c 1 t) (iblk m c 2 t) (iblk m c 3 t) (iblk m c 4 t) : S512x1024.Idx → EReal) (ix2 i k) = Q X G WQ (row t i) k := by
  frame_out
  exact q_pay h t i k

/-- The array of the queries. -/
theorem arr_q (h : Holds m c X G M GM WQ WKV WO) :
    ((dats m 0 c).arrAt 7 cfg0.N : S4096x1024.Idx → EReal) = arr (Q X G WQ) := by
  refine (dats m 0 c).arrAt_eq_of_covers 7 _ (by decide +kernel) fun t hf y => ?_
  blk_simp
  rw [after0_7]
  have hy : (y : S512x1024.Idx) = ix2 (y 0) (y 1) := by funext a; fin_cases a <;> rfl
  refine (congrArg _ hy).trans ((out_q h t (y 0) (y 1)).trans (arr_congr _ _ _ _ ?_ ?_))
  · blk_simp [index7]; rfl
  · blk_simp [index7]

/-- The tile of the heads' outputs. -/
theorem out_att (h : Holds m c X G M GM WQ WKV WO) (t : Fin cfg0.N) (i : Fin 512) (k : Fin 1024) :
    (out0_8 (iblk m c 0 t) (iblk m c 1 t) (iblk m c 2 t) (iblk m c 3 t) (iblk m c 4 t) : S512x1024.Idx → EReal) (ix2 i k) = ATT X G M GM WQ WKV (row t i) k := by
  frame_out
  exact att_pay h t i k

/-- The array of the heads' outputs. -/
theorem arr_att (h : Holds m c X G M GM WQ WKV WO) :
    ((dats m 0 c).arrAt 8 cfg0.N : S4096x1024.Idx → EReal) = arr (ATT X G M GM WQ WKV) := by
  refine (dats m 0 c).arrAt_eq_of_covers 8 _ (by decide +kernel) fun t hf y => ?_
  blk_simp
  rw [after0_8]
  have hy : (y : S512x1024.Idx) = ix2 (y 0) (y 1) := by funext a; fin_cases a <;> rfl
  refine (congrArg _ hy).trans ((out_att h t (y 0) (y 1)).trans (arr_congr _ _ _ _ ?_ ?_))
  · blk_simp [index8]; rfl
  · blk_simp [index8]

end Cert.Proof.Fwd

end
-- ==== Proof.FwdRef.lean ====
/- The reference of the attention into the memory, stage by stage. -/
module

public import proofs.«01_k».proof.Proof.Gen.FwdReferenceIdeal.Read
public import proofs.«01_k».proof.Proof.FwdSpec
public import Idealize.ShloMosaic.Lib.Pipeline.ValueKit
public import Idealize.ShloMosaic.Lib.Pointwise.Tactic
public import Idealize.ShloMosaic.Lib.StableHlo.ReadAt

@[expose] public section

noncomputable section

namespace Cert.Proof.FwdRef

open Cert.FwdReferenceIdeal Cert.FwdReferenceIdeal.Read Idealize.ShloMosaic Idealize.ShloMosaic.TcCoe Idealize.SL.Sem
open Cert.Maths Cert.Maths.Head Cert.Maths.Fwd
open Cert.Maths.Attn (bits_sixteenth bits_bot col kcol vcol hd pl)

variable {X : Fin 4096 → Fin 1024 → EReal} {G : Fin 1024 → EReal} {M : Fin 256 → Fin 1024 → EReal} {GM : Fin 1024 → EReal} {WQ : Fin 1024 → Fin 1024 → EReal} {WKV : Fin 1024 → Fin 2048 → EReal} {WO : Fin 1024 → Fin 1024 → EReal}

/-- The mean of squares of a row and the small number. -/
theorem mean (i : Fin 4096) (z : Fin 1) :
    (val_main_v6 (F := Ideal) (arr X) : S4096x1.Idx → EReal) (ix2 i z) = ms (X i) := by
  unfold val_main_v6 val_main_v4 val_main_v2 val_main_v1 val_main_v0 val_main_cst val_main_v3 val_main_cst_0 val_main_v5 val_main_cst_1
  pointwise
  simp only [arr_apply, bits_zero, bits_one, bits_two, bits_half, bits_neg_half, bits_1024, bits_eps, EReal.coe_zero, zero_add, add_zero]
  rfl

/-- The reciprocal root mean square of a row. -/
theorem rs (i : Fin 4096) (z : Fin 1) :
    (val_main_v7 (F := Ideal) (arr X) : S4096x1.Idx → EReal) (ix2 i z) = rr (X i) := by
  unfold val_main_v7
  pointwise
  simp only [mean, arr_apply, bits_zero, bits_one, bits_two, bits_half, bits_neg_half, bits_1024, bits_eps, EReal.coe_zero, zero_add, add_zero]
  rfl

/-- The normed rows. -/
theorem h (i : Fin 4096) (k : Fin 1024) :
    (val_main_v11 (F := Ideal) (arr X) (arr fun _ => G) : S4096x1024.Idx → EReal) (ix2 i k) = H X G i k := by
  unfold val_main_v11 val_main_v9 val_main_v8 val_main_v10
  pointwise
  simp only [rs, arr_apply, bits_zero, bits_one, bits_two, bits_half, bits_neg_half, bits_1024, bits_eps, EReal.coe_zero, zero_add, add_zero]
  rfl

/-- The queries. -/
theorem q (i : Fin 4096) (f : Fin 1024) :
    (val_main_v12 (F := Ideal) (arr X) (arr fun _ => G) (arr WQ) : S4096x1024.Idx → EReal) (ix2 i f) = Q X G WQ i f := by
  unfold val_main_v12
  pointwise
  simp only [h, arr_apply, bits_zero, bits_one, bits_two, bits_half, bits_neg_half, bits_1024, bits_eps, EReal.coe_zero, zero_add, add_zero]
  rfl

/-- The mean of squares of a row of the memory and the small number. -/
theorem ms (j : Fin 256) (z : Fin 1) :
    (val_main_v19 (F := Ideal) (arr M) : S256x1.Idx → EReal) (ix2 j z) = ms (M j) := by
  unfold val_main_v19 val_main_v17 val_main_v15 val_main_v14 val_main_v13 val_main_cst_2 val_main_v16 val_main_cst_3 val_main_v18 val_main_cst_4
  pointwise
  simp only [arr_apply, bits_zero, bits_one, bits_two, bits_half, bits_neg_half, bits_1024, bits_eps, EReal.coe_zero, zero_add, add_zero]
  rfl

/-- The keys and values. -/
theorem kv (j : Fin 256) (f : Fin 2048) :
    (val_main_v25 (F := Ideal) (arr M) (arr fun _ => GM) (arr WKV) : S256x2048.Idx → EReal) (ix2 j f) = KV M GM WKV j f := by
  unfold val_main_v25 val_main_v24 val_main_v22 val_main_v21 val_main_v20 val_main_v23
  pointwise
  simp only [ms, arr_apply, bits_zero, bits_one, bits_two, bits_half, bits_neg_half, bits_1024, bits_eps, EReal.coe_zero, zero_add, add_zero]
  rfl

/-- The queries, head by head. -/
theorem qh (i : Fin 4096) (a : Fin 4) (d : Fin 256) :
    (val_main_v26 (F := Ideal) (arr X) (arr fun _ => G) (arr WQ) : S4096x4x256.Idx → EReal) (ix3 i a d) = Q X G WQ i (col a d) := by
  unfold val_main_v26
  pointwise
  simp only [q, arr_apply, bits_zero, bits_one, bits_two, bits_half, bits_neg_half, bits_1024, bits_eps, EReal.coe_zero, zero_add, add_zero]
  rfl

/-- The keys, head by head. -/
theorem kh (j : Fin 256) (a : Fin 4) (d : Fin 256) :
    (val_main_v28 (F := Ideal) (arr M) (arr fun _ => GM) (arr WKV) : S256x4x256.Idx → EReal) (ix3 j a d) = KV M GM WKV j (kcol a d) := by
  unfold val_main_v28 val_main_v27
  pointwise
  simp only [kv, arr_apply, bits_zero, bits_one, bits_two, bits_half, bits_neg_half, bits_1024, bits_eps, EReal.coe_zero, zero_add, add_zero]
  rfl

/-- The values, head by head. -/
theorem vh (j : Fin 256) (a : Fin 4) (d : Fin 256) :
    (val_main_v30 (F := Ideal) (arr M) (arr fun _ => GM) (arr WKV) : S256x4x256.Idx → EReal) (ix3 j a d) = KV M GM WKV j (vcol a d) := by
  unfold val_main_v30 val_main_v29
  pointwise
  simp only [kv, arr_apply, bits_zero, bits_one, bits_two, bits_half, bits_neg_half, bits_1024, bits_eps, EReal.coe_zero, zero_add, add_zero]
  rfl

/-- The scores. -/
theorem sc (a : Fin 4) (i : Fin 4096) (j : Fin 256) :
    (val_main_v33 (F := Ideal) (arr X) (arr fun _ => G) (arr M) (arr fun _ => GM) (arr WQ) (arr WKV) : S4x4096x256.Idx → EReal) (ix3 a i j) = SC X G M GM WQ WKV a i j := by
  unfold val_main_v33 val_main_v31 val_main_v32 val_main_cst_5
  pointwise
  simp only [qh, kh, arr_apply, bits_zero, bits_one, bits_two, bits_half, bits_neg_half, bits_1024, bits_eps, EReal.coe_zero, zero_add, add_zero, bits_sixteenth]
  rfl

/-- The host's largest value along the last axis. -/
theorem host_max {n0 n1 n2 : ℕ} (x : FVec Ideal ⟨3, ![n0, n1, n2]⟩ .f32) (c : FVec Ideal S_ .f32)
    (h : (⟨3, ![n0, n1, n2]⟩ : Shape).ReducesTo [2] ⟨2, ![n0, n1]⟩) (hu : 0 < S_.numel) (a : Fin n0) (b : Fin n1) :
    Host.reduce FloatOps.maximumf x c h hu (ix2 a b)
      = Finset.univ.fold max (c (Shape.Idx.first hu)) fun k : Fin n2 => x (ix3 a b k) := by
  simp only [pointwise]

/-- The largest of a row. -/
theorem mxs (f : Fin 4 → Fin 4096 → Fin 256 → EReal) (x : FVec Ideal S4x4096x256 .f32)
    (hx : ∀ a i j, (x : S4x4096x256.Idx → EReal) (ix3 a i j) = f a i j)
    (h : S4x4096x256.ReducesTo [2] S4x4096) (hu : 0 < S_.numel) (a : Fin 4) (i : Fin 4096) :
    Host.reduce FloatOps.maximumf x (val_main_cst_6 (F := Ideal)) h hu (ix2 a i) = top (f a i) := by
  refine (host_max x _ h hu a i).trans ?_
  have e : (val_main_cst_6 (F := Ideal)) (Shape.Idx.first hu) = (⊥ : EReal) := (val_main_cst_6_apply _).trans bits_bot
  rw [e]
  exact congrArg (Finset.univ.fold max (⊥ : EReal)) (funext fun k => hx a i k)

/-- The largest score of a row. -/
theorem mx (a : Fin 4) (i : Fin 4096) :
    (val_main_v36 (F := Ideal) (arr X) (arr fun _ => G) (arr M) (arr fun _ => GM) (arr WQ) (arr WKV) : S4x4096.Idx → EReal) (ix2 a i) = top (SC X G M GM WQ WKV a i) := by
  have h : (val_main_v34 (F := Ideal) (arr X) (arr fun _ => G) (arr M) (arr fun _ => GM) (arr WQ) (arr WKV) : S4x4096.Idx → EReal) (ix2 a i) = top (SC X G M GM WQ WKV a i) := by
    unfold val_main_v34
    exact mxs _ _ sc _ _ a i
  have e : (val_main_v35 (F := Ideal) : S4x4096.Idx → EReal) (ix2 a i) = ⊥ :=
    (val_main_v35_apply _).trans ((val_main_cst_7_apply _).trans bits_bot)
  refine (val_main_v36_apply _ _ _ _ _ _ _).trans ?_
  rw [h, e]
  exact max_eq_right bot_le

/-- The exponentials. -/
theorem exs (a : Fin 4) (i : Fin 4096) (j : Fin 256) :
    (val_main_v40 (F := Ideal) (arr X) (arr fun _ => G) (arr M) (arr fun _ => GM) (arr WQ) (arr WKV) : S4x4096x256.Idx → EReal) (ix3 a i j) = ex (SC X G M GM WQ WKV a i) j := by
  unfold val_main_v40 val_main_v39 val_main_v38 val_main_v37
  pointwise
  simp only [sc, mx, arr_apply, bits_zero, bits_one, bits_two, bits_half, bits_neg_half, bits_1024, bits_eps, EReal.coe_zero, zero_add, add_zero]
  rfl

/-- The sum of a row's exponentials. -/
theorem sm (a : Fin 4) (i : Fin 4096) (z : Fin 1) :
    (val_main_v42 (F := Ideal) (arr X) (arr fun _ => G) (arr M) (arr fun _ => GM) (arr WQ) (arr WKV) : S4x4096x1.Idx → EReal) (ix3 a i z) = ∑ l, ex (SC X G M GM WQ WKV a i) l := by
  unfold val_main_v42 val_main_v41 val_main_cst_8
  pointwise
  simp only [exs, arr_apply, bits_zero, bits_one, bits_two, bits_half, bits_neg_half, bits_1024, bits_eps, EReal.coe_zero, zero_add, add_zero]

/-- The softmax. -/
theorem p (a : Fin 4) (i : Fin 4096) (j : Fin 256) :
    (val_main_v44 (F := Ideal) (arr X) (arr fun _ => G) (arr M) (arr fun _ => GM) (arr WQ) (arr WKV) : S4x4096x256.Idx → EReal) (ix3 a i j) = P X G M GM WQ WKV a i j := by
  unfold val_main_v44 val_main_v43
  pointwise
  simp only [exs, sm, arr_apply, bits_zero, bits_one, bits_two, bits_half, bits_neg_half, bits_1024, bits_eps, EReal.coe_zero, zero_add, add_zero]
  rfl

/-- The heads' outputs side by side. -/
theorem att (i : Fin 4096) (f : Fin 1024) :
    (val_main_v47 (F := Ideal) (arr X) (arr fun _ => G) (arr M) (arr fun _ => GM) (arr WQ) (arr WKV) : S4096x1024.Idx → EReal) (ix2 i f) = ATT X G M GM WQ WKV i f := by
  unfold val_main_v47 val_main_v46 val_main_v45
  pointwise
  simp only [vh, p, arr_apply, bits_zero, bits_one, bits_two, bits_half, bits_neg_half, bits_1024, bits_eps, EReal.coe_zero, zero_add, add_zero]
  exact Finset.sum_congr rfl fun _ _ => mul_comm _ _

/-- The result. -/
theorem xo (i : Fin 4096) (k : Fin 1024) :
    (val_main_v49 (F := Ideal) (arr X) (arr fun _ => G) (arr M) (arr fun _ => GM) (arr WQ) (arr WKV) (arr WO) : S4096x1024.Idx → EReal) (ix2 i k) = XO X G M GM WQ WKV WO i k := by
  unfold val_main_v49 val_main_v48
  pointwise
  simp only [att, arr_apply, bits_zero, bits_one, bits_two, bits_half, bits_neg_half, bits_1024, bits_eps, EReal.coe_zero, zero_add, add_zero]
  rfl

/-- The normed rows, as given back. -/
theorem hb (i : Fin 4096) (k : Fin 1024) :
    (val_main_v50 (F := Ideal) (arr X) (arr fun _ => G) : S4096x1024.Idx → EReal) (ix2 i k) = H X G i k := by
  unfold val_main_v50
  pointwise
  simp only [h, arr_apply, bits_zero, bits_one, bits_two, bits_half, bits_neg_half, bits_1024, bits_eps, EReal.coe_zero, zero_add, add_zero]

/-- The queries, as given back. -/
theorem qb (i : Fin 4096) (f : Fin 1024) :
    (val_main_v51 (F := Ideal) (arr X) (arr fun _ => G) (arr WQ) : S4096x1024.Idx → EReal) (ix2 i f) = Q X G WQ i f := by
  unfold val_main_v51
  pointwise
  simp only [q, arr_apply, bits_zero, bits_one, bits_two, bits_half, bits_neg_half, bits_1024, bits_eps, EReal.coe_zero, zero_add, add_zero]

/-- The heads' outputs, as given back. -/
theorem attb (i : Fin 4096) (f : Fin 1024) :
    (val_main_v52 (F := Ideal) (arr X) (arr fun _ => G) (arr M) (arr fun _ => GM) (arr WQ) (arr WKV) : S4096x1024.Idx → EReal) (ix2 i f) = ATT X G M GM WQ WKV i f := by
  unfold val_main_v52
  pointwise
  simp only [att, arr_apply, bits_zero, bits_one, bits_two, bits_half, bits_neg_half, bits_1024, bits_eps, EReal.coe_zero, zero_add, add_zero]

end Cert.Proof.FwdRef

end
-- ==== Proof.FwdEquation.lean ====
/- The attention into the memory: the arrays that the kernel leaves are the reference's. -/
module

public import proofs.«01_k».proof.Defs
public import proofs.«01_k».proof.Proof.FwdTile
public import proofs.«01_k».proof.Proof.FwdRef
public import proofs.«01_k».proof.Proof.Gen.FwdKernelIdeal.Value
public import proofs.«01_k».proof.Proof.Gen.FwdReferenceIdeal.Run

@[expose] public section

noncomputable section

namespace Cert.Proof.Fwd

open Idealize.ShloMosaic Idealize.ShloMosaic.TcCoe Idealize.SL.Sem
open Cert.Maths Cert.Maths.Head Cert.Maths.Fwd
open Cert.Maths.Attn (bits_sixteenth bits_bot col kcol vcol hd pl)

variable {X : Fin 4096 → Fin 1024 → EReal} {G : Fin 1024 → EReal} {M : Fin 256 → Fin 1024 → EReal} {GM : Fin 1024 → EReal} {WQ : Fin 1024 → Fin 1024 → EReal} {WKV : Fin 1024 → Fin 2048 → EReal} {WO : Fin 1024 → Fin 1024 → EReal}

/-- Every device's arguments are some arrays. -/
theorem holds_some (m : (ℓ : Loc Cert.FwdKernelIdeal.nD Cert.FwdKernelIdeal.τ Cert.FwdKernelIdeal.sig) → Buf (Elt Ideal) ℓ) (c : Dev Cert.FwdKernelIdeal.nD) :
    ∃ X G M GM WQ WKV WO, Holds m c X G M GM WQ WKV WO :=
  ⟨fun i k => (m (c, Proc.tc.devRef Cert.FwdKernelIdeal.main_arg0) : Cert.FwdKernelIdeal.S4096x1024.Idx → EReal) (ix2 i k),
    fun k => (m (c, Proc.tc.devRef Cert.FwdKernelIdeal.main_arg1) : Cert.FwdKernelIdeal.S1x1024.Idx → EReal) (ix2 0 k),
    fun i k => (m (c, Proc.tc.devRef Cert.FwdKernelIdeal.main_arg2) : Cert.FwdKernelIdeal.S256x1024.Idx → EReal) (ix2 i k),
    fun k => (m (c, Proc.tc.devRef Cert.FwdKernelIdeal.main_arg3) : Cert.FwdKernelIdeal.S1x1024.Idx → EReal) (ix2 0 k),
    fun i k => (m (c, Proc.tc.devRef Cert.FwdKernelIdeal.main_arg4) : Cert.FwdKernelIdeal.S1024x1024.Idx → EReal) (ix2 i k),
    fun i k => (m (c, Proc.tc.devRef Cert.FwdKernelIdeal.main_arg5) : Cert.FwdKernelIdeal.S1024x2048.Idx → EReal) (ix2 i k),
    fun i k => (m (c, Proc.tc.devRef Cert.FwdKernelIdeal.main_arg6) : Cert.FwdKernelIdeal.S1024x1024.Idx → EReal) (ix2 i k),
    fun _ _ => rfl, fun i k => by rw [Subsingleton.elim i 0], fun _ _ => rfl, fun i k => by rw [Subsingleton.elim i 0], fun _ _ => rfl, fun _ _ => rfl, fun _ _ => rfl⟩

/-- The reference's result. -/
theorem ref_xo : (Cert.FwdReferenceIdeal.Read.val_main_v49 (F := Ideal) (arr X) (arr fun _ => G) (arr M) (arr fun _ => GM) (arr WQ) (arr WKV) (arr WO) : Cert.FwdReferenceIdeal.S4096x1024.Idx → EReal) = arr (XO X G M GM WQ WKV WO) :=
  eq_arr _ _ fun i k => FwdRef.xo i k

/-- The reference's normed rows. -/
theorem ref_h : (Cert.FwdReferenceIdeal.Read.val_main_v50 (F := Ideal) (arr X) (arr fun _ => G) : Cert.FwdReferenceIdeal.S4096x1024.Idx → EReal) = arr (H X G) :=
  eq_arr _ _ fun i k => FwdRef.hb i k

/-- The reference's queries. -/
theorem ref_q : (Cert.FwdReferenceIdeal.Read.val_main_v51 (F := Ideal) (arr X) (arr fun _ => G) (arr WQ) : Cert.FwdReferenceIdeal.S4096x1024.Idx → EReal) = arr (Q X G WQ) :=
  eq_arr _ _ fun i k => FwdRef.qb i k

/-- The reference's heads' outputs. -/
theorem ref_att : (Cert.FwdReferenceIdeal.Read.val_main_v52 (F := Ideal) (arr X) (arr fun _ => G) (arr M) (arr fun _ => GM) (arr WQ) (arr WKV) : Cert.FwdReferenceIdeal.S4096x1024.Idx → EReal) = arr (ATT X G M GM WQ WKV) :=
  eq_arr _ _ fun i k => FwdRef.attb i k

/-- The value claim. -/
theorem algebraic (hK : Cert.FwdKernelIdeal.Facts) (hR : Cert.FwdReferenceIdeal.Facts) : Cert.algebraic_FwdKernelIdeal_FwdReferenceIdeal := by
  intro m g m' g' _ heq
  refine ⟨fun c => (Cert.FwdKernelIdeal.Gen.dats m 0 c).arrAt 5 Cert.FwdKernelIdeal.cfg0.N,
    fun c => (Cert.FwdKernelIdeal.Gen.dats m 0 c).arrAt 6 Cert.FwdKernelIdeal.cfg0.N,
    fun c => (Cert.FwdKernelIdeal.Gen.dats m 0 c).arrAt 7 Cert.FwdKernelIdeal.cfg0.N,
    fun c => (Cert.FwdKernelIdeal.Gen.dats m 0 c).arrAt 8 Cert.FwdKernelIdeal.cfg0.N,
    Cert.FwdKernelIdeal.Value.run_blocks m g, ?_⟩
  refine (θ_run _ _ _).mono (fun r h c => ?_) (Cert.FwdReferenceIdeal.Value.run m' g')
  obtain ⟨r0, r1, r2, r3, ra⟩ := h c
  obtain ⟨X, G, M, GM, WQ, WKV, WO, hh⟩ := holds_some m c
  obtain ⟨e0, e1, e2, e3, e4, e5, e6⟩ := heq c
  have x0 := e0.trans (eq_arr _ X hh.x)
  have x1 := e1.trans (eq_arr _ (fun _ => G) hh.g)
  have x2 := e2.trans (eq_arr _ M hh.mem)
  have x3 := e3.trans (eq_arr _ (fun _ => GM) hh.gm)
  have x4 := e4.trans (eq_arr _ WQ hh.wq)
  have x5 := e5.trans (eq_arr _ WKV hh.wkv)
  have x6 := e6.trans (eq_arr _ WO hh.wo)
  refine ⟨?_, ?_, ?_, ?_, ra⟩
  · refine r0.trans ((Cert.FwdReferenceIdeal.Read.val_main_v49_eq m' c).trans (Eq.trans ?_ (ref_xo.trans (arr_xo hh).symm)))
    rw [x0, x1, x2, x3, x4, x5, x6]
  · refine r1.trans ((Cert.FwdReferenceIdeal.Read.val_main_v50_eq _ _).trans (Eq.trans ?_ (ref_h.trans (arr_h hh).symm)))
    rw [x0, x1]
  · refine r2.trans ((Cert.FwdReferenceIdeal.Read.val_main_v51_eq _ _ _).trans (Eq.trans ?_ (ref_q.trans (arr_q hh).symm)))
    rw [x0, x1, x4]
  · refine r3.trans ((Cert.FwdReferenceIdeal.Read.val_main_v52_eq m' c).trans (Eq.trans ?_ (ref_att.trans (arr_att hh).symm)))
    rw [x0, x1, x2, x3, x4, x5]

/-- The reference ends with its arguments unchanged; it declares no semaphore. -/
theorem ref_frame (hR : Cert.FwdReferenceIdeal.Facts) : Cert.quiescent_FwdReferenceIdeal := fun m ρ _ =>
  (θ_run _ _ _).mono (fun r h => ⟨fun c => (h c).2.2.2.2, sem_eq_zero_of_no_sems (by decide) r.2⟩)
    (Cert.FwdReferenceIdeal.Value.run (F := Ideal) m ρ)

end Cert.Proof.Fwd

end
-- ==== Proof.MixSpec.lean ====
/- The mixing layer's input projection, over the extended reals. -/
module

public import proofs.«01_k».proof.Proof.HeadSpec

@[expose] public section

noncomputable section

namespace Cert.Maths.Mix

open Cert.Maths Cert.Maths.Head

/-- The projection of the normed rows: queries, forget gates, values, output gates and the three inputs of the convolution. -/
def Z (X : Fin 4096 → Fin 1024 → EReal) (G : Fin 1024 → EReal) (W : Fin 1024 → Fin 3584 → EReal) (i : Fin 4096) (f : Fin 3584) : EReal :=
  ∑ k, H X G i k * W k f

end Cert.Maths.Mix

end
-- ==== Proof.MixTile.lean ====
/- One tile of the mixing layer's input projection, and the arrays that its tiles make. -/
module

public import proofs.«01_k».proof.Proof.Gen.MixKernelIdeal.Value
public import proofs.«01_k».proof.Proof.MixSpec
public import Idealize.ShloMosaic.Lib.Pipeline.ValueKit
public import Idealize.ShloMosaic.Lib.Pointwise.Tactic
public import Idealize.ShloMosaic.Lib.StableHlo.ReadAt

@[expose] public section

noncomputable section

namespace Cert.Proof.Mix

open Cert.MixKernelIdeal Cert.MixKernelIdeal.Gen Idealize.ShloMosaic Idealize.ShloMosaic.TcCoe Idealize.SL.Sem
open Idealize.ShloMosaic.Pipeline (Dat)
open Cert.Maths Cert.Maths.Head Cert.Maths.Mix

/-- Row `i` of tile `t` as a row of the array. -/
def row (t : Fin cfg0.N) (i : Fin 256) : Fin 4096 := ⟨t.val * 256 + i.val, by have := t.isLt; have : cfg0.N = 16 := rfl; omega⟩

/-- The arguments on device `c` are these arrays. -/
structure Holds (m : (ℓ : Loc nD τ sig) → Buf (Elt Ideal) ℓ) (c : Dev nD)
    (X : Fin 4096 → Fin 1024 → EReal) (G : Fin 1024 → EReal) (W : Fin 1024 → Fin 3584 → EReal) : Prop where
  x : ∀ i k, (m (c, Proc.tc.devRef main_arg0) : S4096x1024.Idx → EReal) (ix2 i k) = X i k
  g : ∀ i k, (m (c, Proc.tc.devRef main_arg1) : S1x1024.Idx → EReal) (ix2 i k) = G k
  win : ∀ i k, (m (c, Proc.tc.devRef main_arg2) : S1024x3584.Idx → EReal) (ix2 i k) = W i k

variable {m : (ℓ : Loc nD τ sig) → Buf (Elt Ideal) ℓ} {c : Dev nD}
  {X : Fin 4096 → Fin 1024 → EReal} {G : Fin 1024 → EReal} {W : Fin 1024 → Fin 3584 → EReal}

/-- The weights as the call takes them, transposed. -/
theorem weight_in (h : Holds m c X G W) (i : Fin 3584) (k : Fin 1024) :
    (V m c main_v1 : S3584x1024.Idx → EReal) (ix2 i k) = W k i := by
  unfold V
  after_reads_at
  exact h.win _ _

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel

/-- The tile of the rows. -/
theorem tile_x (h : Holds m c X G W) (t : Fin cfg0.N) (i : Fin 256) (k : Fin 1024) :
    (iblk m c 0 t : S256x1024.Idx → EReal) (ix2 i k) = X (row t i) k := by
  blk_simp [iblk]
  rw [V_main_arg0]
  refine Eq.trans (congrArg _ (?_ : _ = ix2 (row t i) k)) (h.x _ _)
  funext a; refine Fin.ext ?_
  fin_cases a <;> blk_simp [index0] <;> simp [row]

/-- The gain, whole at every tile. -/
theorem tile_g (h : Holds m c X G W) (t : Fin cfg0.N) (i : Fin 1) (k : Fin 1024) :
    (iblk m c 1 t : S1x1024.Idx → EReal) (ix2 i k) = G k := by
  blk_simp [iblk]
  rw [V_main_arg1]
  refine Eq.trans (congrArg _ (?_ : _ = ix2 i k)) (h.g _ _)
  funext a; refine Fin.ext ?_
  fin_cases a <;> blk_simp [index1] <;> simp

/-- The weights, whole at every tile. -/
theorem tile_win (h : Holds m c X G W) (t : Fin cfg0.N) (i : Fin 3584) (k : Fin 1024) :
    (iblk m c 2 t : S3584x1024.Idx → EReal) (ix2 i k) = W k i := by
  blk_simp [iblk]
  refine Eq.trans (congrArg _ (?_ : _ = ix2 i k)) (weight_in h _ _)
  funext a; refine Fin.ext ?_
  fin_cases a <;> blk_simp [index2] <;> simp

/-- The projection. -/
theorem z_pay (h : Holds m c X G W) (t : Fin cfg0.N) (i : Fin 256) (f : Fin 3584) :
    (k0_pay5 (F := Ideal) (iblk m c 0 t) (iblk m c 1 t) (iblk m c 2 t) : S256x3584.Idx → EReal) (ix2 i f) = Z X G W (row t i) f := by
  unfold k0_pay5
  pointwise
  simp only [tile_x h, tile_g h, tile_win h, bits_1024, bits_eps]
  rfl

theorem index8 : ∀ t : Fin cfg0.N, win0_8.index t = ![t.val, 0] := by decide +kernel

/-- The tile of the projection, at the first tile. -/
theorem out_z_A (h : Holds m c X G W) (t : Fin cfg0.N) (ht : t.val % 16 = 0) (i : Fin 256) (k : Fin 3584) :
    ((outsAt0 m c t.val t.isLt).2.1 : S256x3584.Idx → EReal) (ix2 i k) = Z X G W (row t i) k := by
  rw [outsAt0_A m c t ht]
  frame_out
  exact z_pay h t i k

/-- The tile of the projection, at a later tile. -/
theorem out_z_B (h : Holds m c X G W) (t : Fin cfg0.N) (ht : ¬t.val % 16 = 0) (i : Fin 256) (k : Fin 3584) :
    ((outsAt0 m c t.val t.isLt).2.1 : S256x3584.Idx → EReal) (ix2 i k) = Z X G W (row t i) k := by
  rw [outsAt0_B m c t ht]
  frame_out
  exact z_pay h t i k

/-- The tile of the projection. -/
theorem out_z (h : Holds m c X G W) (t : Fin cfg0.N) (i : Fin 256) (k : Fin 3584) :
    ((outsAt0 m c t.val t.isLt).2.1 : S256x3584.Idx → EReal) (ix2 i k) = Z X G W (row t i) k :=
  if ht : t.val % 16 = 0 then out_z_A h t ht i k else out_z_B h t ht i k

/-- The array of the projection. -/
theorem arr_z (h : Holds m c X G W) :
    ((dats m 0 c).arrAt 8 cfg0.N : S4096x3584.Idx → EReal) = arr (Z X G W) := by
  refine (dats m 0 c).arrAt_eq_of_covers 8 _ (by decide +kernel) fun t hf y => ?_
  blk_simp
  rw [after0_8]
  have hy : (y : S256x3584.Idx) = ix2 (y 0) (y 1) := by funext a; fin_cases a <;> rfl
  refine (congrArg _ hy).trans ((out_z h t (y 0) (y 1)).trans (arr_congr _ _ _ _ ?_ ?_))
  · blk_simp [index8]; rfl
  · blk_simp [index8]

end Cert.Proof.Mix

end
-- ==== Proof.MixRef.lean ====
/- The reference of the mixing layer's input projection, stage by stage. -/
module

public import proofs.«01_k».proof.Proof.Gen.MixReferenceIdeal.Read
public import proofs.«01_k».proof.Proof.MixSpec
public import Idealize.ShloMosaic.Lib.Pipeline.ValueKit
public import Idealize.ShloMosaic.Lib.Pointwise.Tactic
public import Idealize.ShloMosaic.Lib.StableHlo.ReadAt

@[expose] public section

noncomputable section

namespace Cert.Proof.MixRef

open Cert.MixReferenceIdeal Cert.MixReferenceIdeal.Read Idealize.ShloMosaic Idealize.ShloMosaic.TcCoe Idealize.SL.Sem
open Cert.Maths Cert.Maths.Head Cert.Maths.Mix

variable {X : Fin 4096 → Fin 1024 → EReal} {G : Fin 1024 → EReal} {W : Fin 1024 → Fin 3584 → EReal}

/-- The mean of squares of a row and the small number. -/
theorem mean (i : Fin 4096) (z : Fin 1) :
    (val_main_v6 (F := Ideal) (arr X) : S4096x1.Idx → EReal) (ix2 i z) = ms (X i) := by
  unfold val_main_v6 val_main_v4 val_main_v2 val_main_v1 val_main_v0 val_main_cst val_main_v3 val_main_cst_0 val_main_v5 val_main_cst_1
  pointwise
  simp only [arr_apply, bits_zero, bits_one, bits_two, bits_half, bits_neg_half, bits_1024, bits_eps, EReal.coe_zero, zero_add, add_zero]
  rfl

/-- The reciprocal root mean square of a row. -/
theorem rs (i : Fin 4096) (z : Fin 1) :
    (val_main_v7 (F := Ideal) (arr X) : S4096x1.Idx → EReal) (ix2 i z) = rr (X i) := by
  unfold val_main_v7
  pointwise
  simp only [mean, arr_apply, bits_zero, bits_one, bits_two, bits_half, bits_neg_half, bits_1024, bits_eps, EReal.coe_zero, zero_add, add_zero]
  rfl

/-- The projection. -/
theorem z (i : Fin 4096) (f : Fin 3584) :
    (val_main_v12 (F := Ideal) (arr X) (arr fun _ => G) (arr W) : S4096x3584.Idx → EReal) (ix2 i f) = Z X G W i f := by
  unfold val_main_v12 val_main_v11 val_main_v9 val_main_v8 val_main_v10
  pointwise
  simp only [rs, arr_apply, bits_zero, bits_one, bits_two, bits_half, bits_neg_half, bits_1024, bits_eps, EReal.coe_zero, zero_add, add_zero]
  rfl

end Cert.Proof.MixRef

end
-- ==== Proof.MixEquation.lean ====
/- The mixing layer's input projection: the arrays that the kernel leaves are the reference's. -/
module

public import proofs.«01_k».proof.Defs
public import proofs.«01_k».proof.Proof.MixTile
public import proofs.«01_k».proof.Proof.MixRef
public import proofs.«01_k».proof.Proof.Gen.MixKernelIdeal.Value
public import proofs.«01_k».proof.Proof.Gen.MixReferenceIdeal.Run

@[expose] public section

noncomputable section

namespace Cert.Proof.Mix

open Idealize.ShloMosaic Idealize.ShloMosaic.TcCoe Idealize.SL.Sem
open Cert.Maths Cert.Maths.Head Cert.Maths.Mix

variable {X : Fin 4096 → Fin 1024 → EReal} {G : Fin 1024 → EReal} {W : Fin 1024 → Fin 3584 → EReal}

/-- Every device's arguments are some arrays. -/
theorem holds_some (m : (ℓ : Loc Cert.MixKernelIdeal.nD Cert.MixKernelIdeal.τ Cert.MixKernelIdeal.sig) → Buf (Elt Ideal) ℓ) (c : Dev Cert.MixKernelIdeal.nD) :
    ∃ X G W, Holds m c X G W :=
  ⟨fun i k => (m (c, Proc.tc.devRef Cert.MixKernelIdeal.main_arg0) : Cert.MixKernelIdeal.S4096x1024.Idx → EReal) (ix2 i k),
    fun k => (m (c, Proc.tc.devRef Cert.MixKernelIdeal.main_arg1) : Cert.MixKernelIdeal.S1x1024.Idx → EReal) (ix2 0 k),
    fun i k => (m (c, Proc.tc.devRef Cert.MixKernelIdeal.main_arg2) : Cert.MixKernelIdeal.S1024x3584.Idx → EReal) (ix2 i k),
    fun _ _ => rfl, fun i k => by rw [Subsingleton.elim i 0], fun _ _ => rfl⟩

/-- The reference's projection. -/
theorem ref_z : (Cert.MixReferenceIdeal.Read.val_main_v12 (F := Ideal) (arr X) (arr fun _ => G) (arr W) : Cert.MixReferenceIdeal.S4096x3584.Idx → EReal) = arr (Z X G W) :=
  eq_arr _ _ fun i k => MixRef.z i k

/-- The value claim. -/
theorem algebraic (hK : Cert.MixKernelIdeal.Facts) (hR : Cert.MixReferenceIdeal.Facts) : Cert.algebraic_MixKernelIdeal_MixReferenceIdeal := by
  intro m g m' g' _ heq
  refine ⟨fun c => (Cert.MixKernelIdeal.Gen.dats m 0 c).arrAt 8 Cert.MixKernelIdeal.cfg0.N,
    (θ_run _ _ _).mono (fun r h c => ⟨(h c).2.1, (h c).2.2.2.2.2⟩) (Cert.MixKernelIdeal.Value.run_blocks m g), ?_⟩
  refine (θ_run _ _ _).mono (fun r h c => ?_) (Cert.MixReferenceIdeal.Value.run m' g')
  obtain ⟨r0, ra⟩ := h c
  obtain ⟨X, G, W, hh⟩ := holds_some m c
  obtain ⟨e0, e1, e2, -⟩ := heq c
  have x0 := e0.trans (eq_arr _ X hh.x)
  have x1 := e1.trans (eq_arr _ (fun _ => G) hh.g)
  have x2 := e2.trans (eq_arr _ W hh.win)
  refine ⟨?_, ra⟩
  · refine r0.trans ((Cert.MixReferenceIdeal.Read.val_main_v12_eq _ _ _).trans (Eq.trans ?_ (ref_z.trans (arr_z hh).symm)))
    rw [x0, x1, x2]

/-- The reference ends with its arguments unchanged; it declares no semaphore. -/
theorem ref_frame (hR : Cert.MixReferenceIdeal.Facts) : Cert.quiescent_MixReferenceIdeal := fun m ρ _ =>
  (θ_run _ _ _).mono (fun r h => ⟨fun c => (h c).2, sem_eq_zero_of_no_sems (by decide) r.2⟩)
    (Cert.MixReferenceIdeal.Value.run (F := Ideal) m ρ)

end Cert.Proof.Mix

end
-- ==== Proof.MemTile.lean ====
/- The projection of the memory, and the array that it makes. -/
module

public import proofs.«01_k».proof.Proof.Gen.MemKernelIdeal.Value
public import proofs.«01_k».proof.Proof.FwdSpec
public import Idealize.ShloMosaic.Lib.Pipeline.ValueKit
public import Idealize.ShloMosaic.Lib.Pointwise.Tactic
public import Idealize.ShloMosaic.Lib.StableHlo.ReadAt

@[expose] public section

noncomputable section

namespace Cert.Proof.Mem

open Cert.MemKernelIdeal Cert.MemKernelIdeal.Gen Idealize.ShloMosaic Idealize.ShloMosaic.TcCoe Idealize.SL.Sem
open Idealize.ShloMosaic.Pipeline (Dat)
open Cert.Maths Cert.Maths.Head Cert.Maths.Fwd

/-- The arguments on device `c` are these arrays. -/
structure Holds (m : (ℓ : Loc nD τ sig) → Buf (Elt Ideal) ℓ) (c : Dev nD)
    (M : Fin 256 → Fin 1024 → EReal) (GM : Fin 1024 → EReal) (WKV : Fin 1024 → Fin 2048 → EReal) : Prop where
  mem : ∀ i k, (m (c, Proc.tc.devRef main_arg0) : S256x1024.Idx → EReal) (ix2 i k) = M i k
  gm : ∀ i k, (m (c, Proc.tc.devRef main_arg1) : S1x1024.Idx → EReal) (ix2 i k) = GM k
  wkv : ∀ i k, (m (c, Proc.tc.devRef main_arg2) : S1024x2048.Idx → EReal) (ix2 i k) = WKV i k

variable {m : (ℓ : Loc nD τ sig) → Buf (Elt Ideal) ℓ} {c : Dev nD}
  {M : Fin 256 → Fin 1024 → EReal} {GM : Fin 1024 → EReal} {WKV : Fin 1024 → Fin 2048 → EReal}

/-- Column `f` of block `b`. -/
def blk (b : Fin 8) (f : Fin 256) : Fin 2048 := ⟨b.val * 256 + f.val, by omega⟩

/-- The weights as the call takes them: blocks of columns. -/
theorem weight_kv (h : Holds m c M GM WKV) (b : Fin 8) (i : Fin 1024) (k : Fin 256) :
    (V m c main_v2 : S8x1024x256.Idx → EReal) (ix3 b i k) = WKV i (blk b k) := by
  unfold V
  after_reads_at
  refine Eq.trans ?_ (h.wkv _ _)
  pointwise
  rfl

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0, 0] := by decide +kernel
theorem index3 : ∀ t : Fin cfg0.N, win0_3.index t = ![0, 0] := by decide +kernel

/-- The memory, whole. -/
theorem tile_mem (h : Holds m c M GM WKV) (t : Fin cfg0.N) (i : Fin 256) (k : Fin 1024) :
    (iblk m c 0 t : S256x1024.Idx → EReal) (ix2 i k) = M i k := by
  blk_simp [iblk]
  rw [V_main_arg0]
  refine Eq.trans (congrArg _ (?_ : _ = ix2 i k)) (h.mem _ _)
  funext a; refine Fin.ext ?_
  fin_cases a <;> blk_simp [index0] <;> simp

/-- The gain, whole. -/
theorem tile_gm (h : Holds m c M GM WKV) (t : Fin cfg0.N) (i : Fin 1) (k : Fin 1024) :
    (iblk m c 1 t : S1x1024.Idx → EReal) (ix2 i k) = GM k := by
  blk_simp [iblk]
  rw [V_main_arg1]
  refine Eq.trans (congrArg _ (?_ : _ = ix2 i k)) (h.gm _ _)
  funext a; refine Fin.ext ?_
  fin_cases a <;> blk_simp [index1] <;> simp

/-- The weights, whole. -/
theorem tile_wkv (h : Holds m c M GM WKV) (t : Fin cfg0.N) (b : Fin 8) (i : Fin 1024) (k : Fin 256) :
    (iblk m c 2 t : S8x1024x256.Idx → EReal) (ix3 b i k) = WKV i (blk b k) := by
  blk_simp [iblk]
  refine Eq.trans (congrArg _ (?_ : _ = ix3 b i k)) (weight_kv h _ _ _)
  funext a; refine Fin.ext ?_
  fin_cases a <;> blk_simp [index2] <;> simp

/-- The normalised memory, one element. -/
theorem normed (h : Holds m c M GM WKV) (t : Fin cfg0.N) (i : Fin 256) (k : Fin 1024) :
    (k0_pay6 (F := Ideal) (iblk m c 0 t) (iblk m c 1 t) : S256x1024.Idx → EReal) (ix2 i k)
      = M i k * rr (M i) * GM k := by
  unfold k0_pay6
  pointwise
  simp only [tile_mem h, tile_gm h, bits_1024, bits_eps]
  rfl

/-- A block of columns: the product of the normalised memory with a block of the weights. -/
theorem block (h : Holds m c M GM WKV) (t : Fin cfg0.N) (b : Fin 8) (w : Vec Ideal S1x1024x256 .bf16)
    (hw : ∀ k f, (w : S1x1024x256.Idx → EReal) (ix3 0 k f) = WKV k (blk b f)) (i f : Fin 256) :
    (k0_pay7 (F := Ideal) (iblk m c 0 t) (iblk m c 1 t) w : S256x256.Idx → EReal) (ix2 i f)
      = KV M GM WKV i (blk b f) := by
  unfold k0_pay7
  pointwise
  simp only [normed h, hw]
  rfl

/-- The whole loads. -/
theorem pay10 (x0 : Vec Ideal S256x1024 .f32) (x1 : Vec Ideal S1x1024 .f32) (x2 : Vec Ideal S8x1024x256 .bf16) :
    k0_pay10 x0 x1 x2 = k0_pay6 x0 x1 := by
  have e0 : View.ld x0 r0_0 = x0 := View.ld_unit_zero (by funext a; fin_cases a <;> rfl) _ x0
  have e1 : View.ld x1 r0_1 = x1 := View.ld_unit_zero (by funext a; fin_cases a <;> rfl) _ x1
  exact congrArg₂ k0_pay6 e0 e1

/-- The loads of the weights. -/
theorem load (h : Holds m c M GM WKV) (t : Fin cfg0.N) (b : Fin 8)
    (inb : ∀ a, ((![b.val, 0, 0] : Fin 3 → ℕ)) a + S1x1024x256.size a ≤ S8x1024x256.size a) (k : Fin 1024) (f : Fin 256) :
    (View.ld (iblk m c 2 t) (Rect.unit (s := S8x1024x256) ![b.val, 0, 0] S1x1024x256.size inb) : S1x1024x256.Idx → EReal) (ix3 0 k f)
      = WKV k (blk b f) := by
  refine Eq.trans (congrArg (iblk m c 2 t : S8x1024x256.Idx → EReal) (?_ : _ = ix3 b k f)) (tile_wkv h t b k f)
  funext a; refine Fin.ext ?_
  fin_cases a <;> simp [Rect.emb, Rect.unit]

/-- One store: a block of columns of the projection. -/
theorem piece (h : Holds m c M GM WKV) (t : Fin cfg0.N) (b : Fin 8) (n : ℕ) (hn : n = b.val * 256)
    (inb : ∀ a, ((![b.val, 0, 0] : Fin 3 → ℕ)) a + S1x1024x256.size a ≤ S8x1024x256.size a)
    (inb' : ∀ a, ((![0, n] : Fin 2 → ℕ)) a + S256x256.size a ≤ S256x2048.size a) (x : S256x256.Idx) :
    (k0_pay7 (F := Ideal) (iblk m c 0 t) (iblk m c 1 t) (View.ld (iblk m c 2 t) (Rect.unit (s := S8x1024x256) ![b.val, 0, 0] S1x1024x256.size inb)) : S256x256.Idx → EReal) x
      = (fun y : S256x2048.Idx => KV M GM WKV (y 0) (y 1)) ((Rect.unit (s := S256x2048) ![0, n] S256x256.size inb').emb x) := by
  subst hn
  have hx : x = ix2 (x 0) (x 1) := by funext a; fin_cases a <;> rfl
  refine (congrArg _ hx).trans ((block h t b _ (load h t b inb) (x 0) (x 1)).trans ?_)
  refine congrArg₂ (KV M GM WKV) (Fin.ext ?_) (Fin.ext ?_) <;> simp [blk, Rect.emb, Rect.unit]

/-- What the call stores. -/
theorem out_kv (h : Holds m c M GM WKV) (t : Fin cfg0.N) (i : Fin 256) (f : Fin 2048) :
    (out0_3 (iblk m c 0 t) (iblk m c 1 t) (iblk m c 2 t) : S256x2048.Idx → EReal) (ix2 i f) = KV M GM WKV i f := by
  have e0 : ∀ x : Vec Ideal S256x1024 .f32, View.ld x r0_0 = x := fun x => View.ld_unit_zero (by funext a; fin_cases a <;> rfl) _ x
  have e1 : ∀ x : Vec Ideal S1x1024 .f32, View.ld x r0_1 = x := fun x => View.ld_unit_zero (by funext a; fin_cases a <;> rfl) _ x
  unfold out0_3
  simp only [pay10, e0, e1]
  refine View.canon_apply_of_pieces (Val := Elt Ideal) (e := .bf16) (fun y : S256x2048.Idx => KV M GM WKV (y 0) (y 1)) _ ?_ _ (cover0_3 _ _ _ _ _ _ _ _ _)
  intro p hp
  simp only [List.mem_cons, List.not_mem_nil, or_false] at hp
  rcases hp with rfl | rfl | rfl | rfl | rfl | rfl | rfl | rfl
  · exact piece h t 7 1792 rfl inb_S8x1024x256_S1x1024x256_7_0_0 inb_S256x2048_S256x256_0_1792
  · exact piece h t 6 1536 rfl inb_S8x1024x256_S1x1024x256_6_0_0 inb_S256x2048_S256x256_0_1536
  · exact piece h t 5 1280 rfl inb_S8x1024x256_S1x1024x256_5_0_0 inb_S256x2048_S256x256_0_1280
  · exact piece h t 4 1024 rfl inb_S8x1024x256_S1x1024x256_4_0_0 inb_S256x2048_S256x256_0_1024
  · exact piece h t 3 768 rfl inb_S8x1024x256_S1x1024x256_3_0_0 inb_S256x2048_S256x256_0_768
  · exact piece h t 2 512 rfl inb_S8x1024x256_S1x1024x256_2_0_0 inb_S256x2048_S256x256_0_512
  · exact piece h t 1 256 rfl inb_S8x1024x256_S1x1024x256_1_0_0 inb_S256x2048_S256x256_0_256
  · exact piece h t 0 0 rfl inb_S8x1024x256_S1x1024x256_0_0_0 inb_S256x2048_S256x256_0_0

/-- The array of the projection. -/
theorem arr_kv (h : Holds m c M GM WKV) :
    ((dats m 0 c).arrAt 3 cfg0.N : S256x2048.Idx → EReal) = arr (KV M GM WKV) := by
  refine (dats m 0 c).arrAt_eq_of_covers 3 _ (by decide +kernel) fun t hf y => ?_
  blk_simp
  rw [after0_3]
  have hy : (y : S256x2048.Idx) = ix2 (y 0) (y 1) := by funext a; fin_cases a <;> rfl
  refine (congrArg _ hy).trans ((out_kv h t (y 0) (y 1)).trans (arr_congr _ _ _ _ ?_ ?_))
  · blk_simp [index3]
  · blk_simp [index3]

end Cert.Proof.Mem

end
-- ==== Proof.MemRef.lean ====
/- The reference of the projection of the memory, stage by stage. -/
module

public import proofs.«01_k».proof.Proof.Gen.MemReferenceIdeal.Read
public import proofs.«01_k».proof.Proof.FwdSpec
public import Idealize.ShloMosaic.Lib.Pipeline.ValueKit
public import Idealize.ShloMosaic.Lib.Pointwise.Tactic
public import Idealize.ShloMosaic.Lib.StableHlo.ReadAt

@[expose] public section

noncomputable section

namespace Cert.Proof.MemRef

open Cert.MemReferenceIdeal Cert.MemReferenceIdeal.Read Idealize.ShloMosaic Idealize.ShloMosaic.TcCoe Idealize.SL.Sem
open Cert.Maths Cert.Maths.Head Cert.Maths.Fwd

variable {M : Fin 256 → Fin 1024 → EReal} {GM : Fin 1024 → EReal} {WKV : Fin 1024 → Fin 2048 → EReal}

/-- The mean of squares of a row and the small number. -/
theorem mean (i : Fin 256) (z : Fin 1) :
    (val_main_v6 (F := Ideal) (arr M) : S256x1.Idx → EReal) (ix2 i z) = ms (M i) := by
  unfold val_main_v6 val_main_v4 val_main_v2 val_main_v1 val_main_v0 val_main_cst val_main_v3 val_main_cst_0 val_main_v5 val_main_cst_1
  pointwise
  simp only [arr_apply, bits_zero, bits_one, bits_two, bits_half, bits_neg_half, bits_1024, bits_eps, EReal.coe_zero, zero_add, add_zero]
  rfl

/-- The reciprocal root mean square of a row. -/
theorem rs (i : Fin 256) (z : Fin 1) :
    (val_main_v7 (F := Ideal) (arr M) : S256x1.Idx → EReal) (ix2 i z) = rr (M i) := by
  unfold val_main_v7
  pointwise
  simp only [mean, arr_apply, bits_zero, bits_one, bits_two, bits_half, bits_neg_half, bits_1024, bits_eps, EReal.coe_zero, zero_add, add_zero]
  rfl

/-- The projection. -/
theorem kv (i : Fin 256) (f : Fin 2048) :
    (val_main_v13 (F := Ideal) (arr M) (arr fun _ => GM) (arr WKV) : S256x2048.Idx → EReal) (ix2 i f) = KV M GM WKV i f := by
  unfold val_main_v13 val_main_v12 val_main_v11 val_main_v9 val_main_v8 val_main_v10
  pointwise
  simp only [rs, arr_apply, bits_zero, bits_one, bits_two, bits_half, bits_neg_half, bits_1024, bits_eps, EReal.coe_zero, zero_add, add_zero]
  rfl

end Cert.Proof.MemRef

end
-- ==== Proof.MemEquation.lean ====
/- The projection of the memory: the array that the kernel leaves is the reference's. -/
module

public import proofs.«01_k».proof.Defs
public import proofs.«01_k».proof.Proof.MemTile
public import proofs.«01_k».proof.Proof.MemRef
public import proofs.«01_k».proof.Proof.Gen.MemKernelIdeal.Value
public import proofs.«01_k».proof.Proof.Gen.MemReferenceIdeal.Run

@[expose] public section

noncomputable section

namespace Cert.Proof.Mem

open Idealize.ShloMosaic Idealize.ShloMosaic.TcCoe Idealize.SL.Sem
open Cert.Maths Cert.Maths.Head Cert.Maths.Fwd

variable {M : Fin 256 → Fin 1024 → EReal} {GM : Fin 1024 → EReal} {WKV : Fin 1024 → Fin 2048 → EReal}

/-- Every device's arguments are some arrays. -/
theorem holds_some (m : (ℓ : Loc Cert.MemKernelIdeal.nD Cert.MemKernelIdeal.τ Cert.MemKernelIdeal.sig) → Buf (Elt Ideal) ℓ) (c : Dev Cert.MemKernelIdeal.nD) :
    ∃ M GM WKV, Holds m c M GM WKV :=
  ⟨fun i k => (m (c, Proc.tc.devRef Cert.MemKernelIdeal.main_arg0) : Cert.MemKernelIdeal.S256x1024.Idx → EReal) (ix2 i k),
    fun k => (m (c, Proc.tc.devRef Cert.MemKernelIdeal.main_arg1) : Cert.MemKernelIdeal.S1x1024.Idx → EReal) (ix2 0 k),
    fun i k => (m (c, Proc.tc.devRef Cert.MemKernelIdeal.main_arg2) : Cert.MemKernelIdeal.S1024x2048.Idx → EReal) (ix2 i k),
    fun _ _ => rfl, fun i k => by rw [Subsingleton.elim i 0], fun _ _ => rfl⟩

/-- The reference's projection. -/
theorem ref_kv : (Cert.MemReferenceIdeal.Read.val_main_v13 (F := Ideal) (arr M) (arr fun _ => GM) (arr WKV) : Cert.MemReferenceIdeal.S256x2048.Idx → EReal) = arr (KV M GM WKV) :=
  eq_arr _ _ fun i k => MemRef.kv i k

/-- The value claim. -/
theorem algebraic (hK : Cert.MemKernelIdeal.Facts) (hR : Cert.MemReferenceIdeal.Facts) : Cert.algebraic_MemKernelIdeal_MemReferenceIdeal := by
  intro m g m' g' _ heq
  refine ⟨fun c => (Cert.MemKernelIdeal.Gen.dats m 0 c).arrAt 3 Cert.MemKernelIdeal.cfg0.N,
    (θ_run _ _ _).mono (fun r h c => h c) (Cert.MemKernelIdeal.Value.run_blocks m g), ?_⟩
  refine (θ_run _ _ _).mono (fun r h c => ?_) (Cert.MemReferenceIdeal.Value.run m' g')
  obtain ⟨r0, ra⟩ := h c
  obtain ⟨M, GM, WKV, hh⟩ := holds_some m c
  obtain ⟨e0, e1, e2⟩ := heq c
  have x0 := e0.trans (eq_arr _ M hh.mem)
  have x1 := e1.trans (eq_arr _ (fun _ => GM) hh.gm)
  have x2 := e2.trans (eq_arr _ WKV hh.wkv)
  refine ⟨?_, ra⟩
  · refine r0.trans ((Cert.MemReferenceIdeal.Read.val_main_v13_eq _ _ _).trans (Eq.trans ?_ (ref_kv.trans (arr_kv hh).symm)))
    rw [x0, x1, x2]

/-- The reference ends with its arguments unchanged; it declares no semaphore. -/
theorem ref_frame (hR : Cert.MemReferenceIdeal.Facts) : Cert.quiescent_MemReferenceIdeal := fun m ρ _ =>
  (θ_run _ _ _).mono (fun r h => ⟨fun c => (h c).2, sem_eq_zero_of_no_sems (by decide) r.2⟩)
    (Cert.MemReferenceIdeal.Value.run (F := Ideal) m ρ)

end Cert.Proof.Mem

end
-- ==== Proof.lean ====
/- The claims, put together: the frames from the generated runs, the value claims from the two sides read alike. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.FfnEquation
public import proofs.«01_k».proof.Proof.Gen.AttnKernel
public import proofs.«01_k».proof.Proof.Gen.AttnKernel.Frame
public import proofs.«01_k».proof.Proof.Gen.AttnKernelIdeal
public import proofs.«01_k».proof.Proof.Gen.AttnKernelIdeal.Frame
public import proofs.«01_k».proof.Proof.Gen.AttnReferenceIdeal
public import proofs.«01_k».proof.Proof.AttnEquation
public import proofs.«01_k».proof.Proof.Gen.HeadKernel
public import proofs.«01_k».proof.Proof.Gen.HeadKernel.Frame
public import proofs.«01_k».proof.Proof.Gen.HeadKernelIdeal
public import proofs.«01_k».proof.Proof.Gen.HeadKernelIdeal.Frame
public import proofs.«01_k».proof.Proof.Gen.HeadReferenceIdeal
public import proofs.«01_k».proof.Proof.HeadEquation
public import proofs.«01_k».proof.Proof.Gen.UpKernel
public import proofs.«01_k».proof.Proof.Gen.UpKernel.Frame
public import proofs.«01_k».proof.Proof.Gen.UpKernelIdeal
public import proofs.«01_k».proof.Proof.Gen.UpKernelIdeal.Frame
public import proofs.«01_k».proof.Proof.Gen.UpReferenceIdeal
public import proofs.«01_k».proof.Proof.UpEquation
public import proofs.«01_k».proof.Proof.Gen.DownKernel
public import proofs.«01_k».proof.Proof.Gen.DownKernel.Frame
public import proofs.«01_k».proof.Proof.Gen.DownKernelIdeal
public import proofs.«01_k».proof.Proof.Gen.DownKernelIdeal.Frame
public import proofs.«01_k».proof.Proof.Gen.DownReferenceIdeal
public import proofs.«01_k».proof.Proof.DownEquation
public import proofs.«01_k».proof.Proof.Gen.FwdKernel
public import proofs.«01_k».proof.Proof.Gen.FwdKernel.Frame
public import proofs.«01_k».proof.Proof.Gen.FwdKernelIdeal
public import proofs.«01_k».proof.Proof.Gen.FwdKernelIdeal.Frame
public import proofs.«01_k».proof.Proof.Gen.FwdReferenceIdeal
public import proofs.«01_k».proof.Proof.FwdEquation
public import proofs.«01_k».proof.Proof.Gen.MixKernel
public import proofs.«01_k».proof.Proof.Gen.MixKernel.Frame
public import proofs.«01_k».proof.Proof.Gen.MixKernelIdeal
public import proofs.«01_k».proof.Proof.Gen.MixKernelIdeal.Frame
public import proofs.«01_k».proof.Proof.Gen.MixReferenceIdeal
public import proofs.«01_k».proof.Proof.MixEquation
public import proofs.«01_k».proof.Proof.Gen.MemKernel
public import proofs.«01_k».proof.Proof.Gen.MemKernel.Frame
public import proofs.«01_k».proof.Proof.Gen.MemKernelIdeal
public import proofs.«01_k».proof.Proof.Gen.MemKernelIdeal.Frame
public import proofs.«01_k».proof.Proof.Gen.MemReferenceIdeal
public import proofs.«01_k».proof.Proof.MemEquation
public import Idealize.ShloMosaic.Adequacy
public import Idealize.ShloMosaic.Init

@[expose] public section

noncomputable section

namespace Cert.Proof

open Idealize.ShloMosaic Idealize.SL.Sem

theorem claim : Cert.Claim := by
  refine ⟨Cert.Kernel.Gen.facts, Cert.KernelIdeal.Gen.facts, Cert.ReferenceIdeal.Gen.facts,
    Cert.AttnKernel.Gen.facts, Cert.AttnKernelIdeal.Gen.facts, Cert.AttnReferenceIdeal.Gen.facts,
    Cert.HeadKernel.Gen.facts, Cert.HeadKernelIdeal.Gen.facts, Cert.HeadReferenceIdeal.Gen.facts,
    Cert.UpKernel.Gen.facts, Cert.UpKernelIdeal.Gen.facts, Cert.UpReferenceIdeal.Gen.facts,
    Cert.DownKernel.Gen.facts, Cert.DownKernelIdeal.Gen.facts, Cert.DownReferenceIdeal.Gen.facts,
    Cert.FwdKernel.Gen.facts, Cert.FwdKernelIdeal.Gen.facts, Cert.FwdReferenceIdeal.Gen.facts,
    Cert.MixKernel.Gen.facts, Cert.MixKernelIdeal.Gen.facts, Cert.MixReferenceIdeal.Gen.facts,
    Cert.MemKernel.Gen.facts, Cert.MemKernelIdeal.Gen.facts, Cert.MemReferenceIdeal.Gen.facts,
    preFacts, Attn.preFacts, ?_⟩
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact fun m ρ _ => Cert.KernelIdeal.Gen.frame m ρ
  · exact fun m ρ _ => Ffn.ref_frame _ m ρ trivial
  · exact fun m ρ _ => Ffn.ref_frame _ m ρ trivial
  · exact fun m ρ _ => Cert.AttnKernel.Gen.frame m ρ
  · exact fun m ρ _ => Cert.AttnKernelIdeal.Gen.frame m ρ
  · exact fun m ρ _ => Cert.AttnKernelIdeal.Gen.frame m ρ
  · exact fun m ρ _ => Attn.ref_frame _ m ρ trivial
  · exact fun m ρ _ => Attn.ref_frame _ m ρ trivial
  · exact fun m ρ _ => Cert.HeadKernel.Gen.frame m ρ
  · exact fun m ρ _ => Cert.HeadKernelIdeal.Gen.frame m ρ
  · exact fun m ρ _ => Head.ref_frame _ m ρ trivial
  · exact fun m ρ _ => Cert.UpKernel.Gen.frame m ρ
  · exact fun m ρ _ => Cert.UpKernelIdeal.Gen.frame m ρ
  · exact fun m ρ _ => Up.ref_frame _ m ρ trivial
  · exact fun m ρ _ => Cert.DownKernel.Gen.frame m ρ
  · exact fun m ρ _ => Cert.DownKernelIdeal.Gen.frame m ρ
  · exact fun m ρ _ => Down.ref_frame _ m ρ trivial
  · exact fun m ρ _ => Cert.FwdKernel.Gen.frame m ρ
  · exact fun m ρ _ => Cert.FwdKernelIdeal.Gen.frame m ρ
  · exact fun m ρ _ => Fwd.ref_frame _ m ρ trivial
  · exact fun m ρ _ => Cert.MixKernel.Gen.frame m ρ
  · exact fun m ρ _ => Cert.MixKernelIdeal.Gen.frame m ρ
  · exact fun m ρ _ => Mix.ref_frame _ m ρ trivial
  · exact fun m ρ _ => Cert.MemKernel.Gen.frame m ρ
  · exact fun m ρ _ => Cert.MemKernelIdeal.Gen.frame m ρ
  · exact fun m ρ _ => Mem.ref_frame _ m ρ trivial
  · trivial
  · exact Ffn.algebraic _ _ _
  · trivial
  · exact Attn.algebraic _ _ _
  · trivial
  · exact Head.algebraic _ _
  · trivial
  · exact Up.algebraic _ _
  · trivial
  · exact Down.algebraic _ _
  · trivial
  · exact Fwd.algebraic _ _
  · trivial
  · exact Mix.algebraic _ _
  · trivial
  · exact Mem.algebraic _ _

end Cert.Proof

end
